-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_PatchKernel (m : (ℓ : Loc Cert.PatchKernel.nD Cert.PatchKernel.τ Cert.PatchKernel.sig) → Buf (Elt Bits) ℓ) : Prop :=
  True

def Pre_PatchKernelIdeal (m : (ℓ : Loc Cert.PatchKernelIdeal.nD Cert.PatchKernelIdeal.τ Cert.PatchKernelIdeal.sig) → Buf (Elt Ideal) ℓ) : Prop :=
  True

def Pre_PatchReferenceIdeal (m : (ℓ : Loc Cert.PatchReferenceIdeal.nD Cert.PatchReferenceIdeal.τ Cert.PatchReferenceIdeal.sig) → Buf (Elt Ideal) ℓ) : Prop :=
  True

def Pre_GuideKernel (m : (ℓ : Loc Cert.GuideKernel.nD Cert.GuideKernel.τ Cert.GuideKernel.sig) → Buf (Elt Bits) ℓ) : Prop :=
  True

def Pre_GuideKernelIdeal (m : (ℓ : Loc Cert.GuideKernelIdeal.nD Cert.GuideKernelIdeal.τ Cert.GuideKernelIdeal.sig) → Buf (Elt Ideal) ℓ) : Prop :=
  True

def Pre_GuideReferenceIdeal (m : (ℓ : Loc Cert.GuideReferenceIdeal.nD Cert.GuideReferenceIdeal.τ Cert.GuideReferenceIdeal.sig) → Buf (Elt Ideal) ℓ) : Prop :=
  True

def Pre_SolverKernel (m : (ℓ : Loc Cert.SolverKernel.nD Cert.SolverKernel.τ Cert.SolverKernel.sig) → Buf (Elt Bits) ℓ) : Prop :=
  True

def Pre_SolverKernelIdeal (m : (ℓ : Loc Cert.SolverKernelIdeal.nD Cert.SolverKernelIdeal.τ Cert.SolverKernelIdeal.sig) → Buf (Elt Ideal) ℓ) : Prop :=
  True

def Pre_SolverReferenceIdeal (m : (ℓ : Loc Cert.SolverReferenceIdeal.nD Cert.SolverReferenceIdeal.τ Cert.SolverReferenceIdeal.sig) → Buf (Elt Ideal) ℓ) : Prop :=
  True

def Pre_RelKernel (m : (ℓ : Loc Cert.RelKernel.nD Cert.RelKernel.τ Cert.RelKernel.sig) → Buf (Elt Bits) ℓ) : Prop :=
  True

def Pre_RelKernelIdeal (m : (ℓ : Loc Cert.RelKernelIdeal.nD Cert.RelKernelIdeal.τ Cert.RelKernelIdeal.sig) → Buf (Elt Ideal) ℓ) : Prop :=
  True

def Pre_RelReferenceIdeal (m : (ℓ : Loc Cert.RelReferenceIdeal.nD Cert.RelReferenceIdeal.τ Cert.RelReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_PatchKernel [hPatchKernel : Cert.PatchKernel.Facts] : Prop :=
  ∀ (m : (ℓ : Loc Cert.PatchKernel.nD Cert.PatchKernel.τ Cert.PatchKernel.sig) → Buf (Elt Bits) ℓ) (g : Dev Cert.PatchKernel.nD → PrngReg), Pre_PatchKernel m →
    θ_run (Cert.PatchKernel.defs (F := Bits)) (onTc (τ := Cert.PatchKernel.τ) (Cert.PatchKernel.main (F := Bits))) ⟨m, fun _ => 0, g⟩ (fun r => (∀ c : Dev Cert.PatchKernel.nD,
      r.2.mem ((c.tc : Thread Cert.PatchKernel.nD Cert.PatchKernel.τ).loc Cert.PatchKernel.main_arg0) = m ((c.tc : Thread Cert.PatchKernel.nD Cert.PatchKernel.τ).loc Cert.PatchKernel.main_arg0)
      ∧ r.2.mem ((c.tc : Thread Cert.PatchKernel.nD Cert.PatchKernel.τ).loc Cert.PatchKernel.main_arg1) = m ((c.tc : Thread Cert.PatchKernel.nD Cert.PatchKernel.τ).loc Cert.PatchKernel.main_arg1))
      ∧ r.2.sem = fun _ => 0)

def quiescent_PatchKernelIdeal [hPatchKernelIdeal : Cert.PatchKernelIdeal.Facts] : Prop :=
  ∀ (m : (ℓ : Loc Cert.PatchKernelIdeal.nD Cert.PatchKernelIdeal.τ Cert.PatchKernelIdeal.sig) → Buf (Elt Ideal) ℓ) (g : Dev Cert.PatchKernelIdeal.nD → PrngReg), Pre_PatchKernelIdeal m →
    θ_run (Cert.PatchKernelIdeal.defs (F := Ideal)) (onTc (τ := Cert.PatchKernelIdeal.τ) (Cert.PatchKernelIdeal.main (F := Ideal))) ⟨m, fun _ => 0, g⟩ (fun r => (∀ c : Dev Cert.PatchKernelIdeal.nD,
      r.2.mem ((c.tc : Thread Cert.PatchKernelIdeal.nD Cert.PatchKernelIdeal.τ).loc Cert.PatchKernelIdeal.main_arg0) = m ((c.tc : Thread Cert.PatchKernelIdeal.nD Cert.PatchKernelIdeal.τ).loc Cert.PatchKernelIdeal.main_arg0)
      ∧ r.2.mem ((c.tc : Thread Cert.PatchKernelIdeal.nD Cert.PatchKernelIdeal.τ).loc Cert.PatchKernelIdeal.main_arg1) = m ((c.tc : Thread Cert.PatchKernelIdeal.nD Cert.PatchKernelIdeal.τ).loc Cert.PatchKernelIdeal.main_arg1))
      ∧ r.2.sem = fun _ => 0)

def quiescent_PatchReferenceIdeal [hPatchReferenceIdeal : Cert.PatchReferenceIdeal.Facts] : Prop :=
  ∀ (m : (ℓ : Loc Cert.PatchReferenceIdeal.nD Cert.PatchReferenceIdeal.τ Cert.PatchReferenceIdeal.sig) → Buf (Elt Ideal) ℓ) (g : Dev Cert.PatchReferenceIdeal.nD → PrngReg), Pre_PatchReferenceIdeal m →
    θ_run (Cert.PatchReferenceIdeal.defs (F := Ideal)) (onTc (τ := Cert.PatchReferenceIdeal.τ) (Cert.PatchReferenceIdeal.main (F := Ideal))) ⟨m, fun _ => 0, g⟩ (fun r => (∀ c : Dev Cert.PatchReferenceIdeal.nD,
      r.2.mem ((c.tc : Thread Cert.PatchReferenceIdeal.nD Cert.PatchReferenceIdeal.τ).loc Cert.PatchReferenceIdeal.main_arg0) = m ((c.tc : Thread Cert.PatchReferenceIdeal.nD Cert.PatchReferenceIdeal.τ).loc Cert.PatchReferenceIdeal.main_arg0)
      ∧ r.2.mem ((c.tc : Thread Cert.PatchReferenceIdeal.nD Cert.PatchReferenceIdeal.τ).loc Cert.PatchReferenceIdeal.main_arg1) = m ((c.tc : Thread Cert.PatchReferenceIdeal.nD Cert.PatchReferenceIdeal.τ).loc Cert.PatchReferenceIdeal.main_arg1))
      ∧ r.2.sem = fun _ => 0)

def quiescent_GuideKernel [hGuideKernel : Cert.GuideKernel.Facts] : Prop :=
  ∀ (m : (ℓ : Loc Cert.GuideKernel.nD Cert.GuideKernel.τ Cert.GuideKernel.sig) → Buf (Elt Bits) ℓ) (g : Dev Cert.GuideKernel.nD → PrngReg), Pre_GuideKernel m →
    θ_run (Cert.GuideKernel.defs (F := Bits)) (onTc (τ := Cert.GuideKernel.τ) (Cert.GuideKernel.main (F := Bits))) ⟨m, fun _ => 0, g⟩ (fun r => (∀ c : Dev Cert.GuideKernel.nD,
      r.2.mem ((c.tc : Thread Cert.GuideKernel.nD Cert.GuideKernel.τ).loc Cert.GuideKernel.main_arg0) = m ((c.tc : Thread Cert.GuideKernel.nD Cert.GuideKernel.τ).loc Cert.GuideKernel.main_arg0)
      ∧ r.2.mem ((c.tc : Thread Cert.GuideKernel.nD Cert.GuideKernel.τ).loc Cert.GuideKernel.main_arg1) = m ((c.tc : Thread Cert.GuideKernel.nD Cert.GuideKernel.τ).loc Cert.GuideKernel.main_arg1)
      ∧ r.2.mem ((c.tc : Thread Cert.GuideKernel.nD Cert.GuideKernel.τ).loc Cert.GuideKernel.main_arg2) = m ((c.tc : Thread Cert.GuideKernel.nD Cert.GuideKernel.τ).loc Cert.GuideKernel.main_arg2)
      ∧ r.2.mem ((c.tc : Thread Cert.GuideKernel.nD Cert.GuideKernel.τ).loc Cert.GuideKernel.main_arg3) = m ((c.tc : Thread Cert.GuideKernel.nD Cert.GuideKernel.τ).loc Cert.GuideKernel.main_arg3))
      ∧ r.2.sem = fun _ => 0)

def quiescent_GuideKernelIdeal [hGuideKernelIdeal : Cert.GuideKernelIdeal.Facts] : Prop :=
  ∀ (m : (ℓ : Loc Cert.GuideKernelIdeal.nD Cert.GuideKernelIdeal.τ Cert.GuideKernelIdeal.sig) → Buf (Elt Ideal) ℓ) (g : Dev Cert.GuideKernelIdeal.nD → PrngReg), Pre_GuideKernelIdeal m →
    θ_run (Cert.GuideKernelIdeal.defs (F := Ideal)) (onTc (τ := Cert.GuideKernelIdeal.τ) (Cert.GuideKernelIdeal.main (F := Ideal))) ⟨m, fun _ => 0, g⟩ (fun r => (∀ c : Dev Cert.GuideKernelIdeal.nD,
      r.2.mem ((c.tc : Thread Cert.GuideKernelIdeal.nD Cert.GuideKernelIdeal.τ).loc Cert.GuideKernelIdeal.main_arg0) = m ((c.tc : Thread Cert.GuideKernelIdeal.nD Cert.GuideKernelIdeal.τ).loc Cert.GuideKernelIdeal.main_arg0)
      ∧ r.2.mem ((c.tc : Thread Cert.GuideKernelIdeal.nD Cert.GuideKernelIdeal.τ).loc Cert.GuideKernelIdeal.main_arg1) = m ((c.tc : Thread Cert.GuideKernelIdeal.nD Cert.GuideKernelIdeal.τ).loc Cert.GuideKernelIdeal.main_arg1)
      ∧ r.2.mem ((c.tc : Thread Cert.GuideKernelIdeal.nD Cert.GuideKernelIdeal.τ).loc Cert.GuideKernelIdeal.main_arg2) = m ((c.tc : Thread Cert.GuideKernelIdeal.nD Cert.GuideKernelIdeal.τ).loc Cert.GuideKernelIdeal.main_arg2)
      ∧ r.2.mem ((c.tc : Thread Cert.GuideKernelIdeal.nD Cert.GuideKernelIdeal.τ).loc Cert.GuideKernelIdeal.main_arg3) = m ((c.tc : Thread Cert.GuideKernelIdeal.nD Cert.GuideKernelIdeal.τ).loc Cert.GuideKernelIdeal.main_arg3))
      ∧ r.2.sem = fun _ => 0)

def quiescent_GuideReferenceIdeal [hGuideReferenceIdeal : Cert.GuideReferenceIdeal.Facts] : Prop :=
  ∀ (m : (ℓ : Loc Cert.GuideReferenceIdeal.nD Cert.GuideReferenceIdeal.τ Cert.GuideReferenceIdeal.sig) → Buf (Elt Ideal) ℓ) (g : Dev Cert.GuideReferenceIdeal.nD → PrngReg), Pre_GuideReferenceIdeal m →
    θ_run (Cert.GuideReferenceIdeal.defs (F := Ideal)) (onTc (τ := Cert.GuideReferenceIdeal.τ) (Cert.GuideReferenceIdeal.main (F := Ideal))) ⟨m, fun _ => 0, g⟩ (fun r => (∀ c : Dev Cert.GuideReferenceIdeal.nD,
      r.2.mem ((c.tc : Thread Cert.GuideReferenceIdeal.nD Cert.GuideReferenceIdeal.τ).loc Cert.GuideReferenceIdeal.main_arg0) = m ((c.tc : Thread Cert.GuideReferenceIdeal.nD Cert.GuideReferenceIdeal.τ).loc Cert.GuideReferenceIdeal.main_arg0)
      ∧ r.2.mem ((c.tc : Thread Cert.GuideReferenceIdeal.nD Cert.GuideReferenceIdeal.τ).loc Cert.GuideReferenceIdeal.main_arg1) = m ((c.tc : Thread Cert.GuideReferenceIdeal.nD Cert.GuideReferenceIdeal.τ).loc Cert.GuideReferenceIdeal.main_arg1)
      ∧ r.2.mem ((c.tc : Thread Cert.GuideReferenceIdeal.nD Cert.GuideReferenceIdeal.τ).loc Cert.GuideReferenceIdeal.main_arg2) = m ((c.tc : Thread Cert.GuideReferenceIdeal.nD Cert.GuideReferenceIdeal.τ).loc Cert.GuideReferenceIdeal.main_arg2)
      ∧ r.2.mem ((c.tc : Thread Cert.GuideReferenceIdeal.nD Cert.GuideReferenceIdeal.τ).loc Cert.GuideReferenceIdeal.main_arg3) = m ((c.tc : Thread Cert.GuideReferenceIdeal.nD Cert.GuideReferenceIdeal.τ).loc Cert.GuideReferenceIdeal.main_arg3))
      ∧ r.2.sem = fun _ => 0)

def quiescent_SolverKernel [hSolverKernel : Cert.SolverKernel.Facts] : Prop :=
  ∀ (m : (ℓ : Loc Cert.SolverKernel.nD Cert.SolverKernel.τ Cert.SolverKernel.sig) → Buf (Elt Bits) ℓ) (g : Dev Cert.SolverKernel.nD → PrngReg), Pre_SolverKernel m →
    θ_run (Cert.SolverKernel.defs (F := Bits)) (onTc (τ := Cert.SolverKernel.τ) (Cert.SolverKernel.main (F := Bits))) ⟨m, fun _ => 0, g⟩ (fun r => (∀ c : Dev Cert.SolverKernel.nD,
      r.2.mem ((c.tc : Thread Cert.SolverKernel.nD Cert.SolverKernel.τ).loc Cert.SolverKernel.main_arg0) = m ((c.tc : Thread Cert.SolverKernel.nD Cert.SolverKernel.τ).loc Cert.SolverKernel.main_arg0)
      ∧ r.2.mem ((c.tc : Thread Cert.SolverKernel.nD Cert.SolverKernel.τ).loc Cert.SolverKernel.main_arg1) = m ((c.tc : Thread Cert.SolverKernel.nD Cert.SolverKernel.τ).loc Cert.SolverKernel.main_arg1)
      ∧ r.2.mem ((c.tc : Thread Cert.SolverKernel.nD Cert.SolverKernel.τ).loc Cert.SolverKernel.main_arg2) = m ((c.tc : Thread Cert.SolverKernel.nD Cert.SolverKernel.τ).loc Cert.SolverKernel.main_arg2)
      ∧ r.2.mem ((c.tc : Thread Cert.SolverKernel.nD Cert.SolverKernel.τ).loc Cert.SolverKernel.main_arg3) = m ((c.tc : Thread Cert.SolverKernel.nD Cert.SolverKernel.τ).loc Cert.SolverKernel.main_arg3)
      ∧ r.2.mem ((c.tc : Thread Cert.SolverKernel.nD Cert.SolverKernel.τ).loc Cert.SolverKernel.main_arg4) = m ((c.tc : Thread Cert.SolverKernel.nD Cert.SolverKernel.τ).loc Cert.SolverKernel.main_arg4)
      ∧ r.2.mem ((c.tc : Thread Cert.SolverKernel.nD Cert.SolverKernel.τ).loc Cert.SolverKernel.main_arg5) = m ((c.tc : Thread Cert.SolverKernel.nD Cert.SolverKernel.τ).loc Cert.SolverKernel.main_arg5)
      ∧ r.2.mem ((c.tc : Thread Cert.SolverKernel.nD Cert.SolverKernel.τ).loc Cert.SolverKernel.main_arg6) = m ((c.tc : Thread Cert.SolverKernel.nD Cert.SolverKernel.τ).loc Cert.SolverKernel.main_arg6))
      ∧ r.2.sem = fun _ => 0)

def quiescent_SolverKernelIdeal [hSolverKernelIdeal : Cert.SolverKernelIdeal.Facts] : Prop :=
  ∀ (m : (ℓ : Loc Cert.SolverKernelIdeal.nD Cert.SolverKernelIdeal.τ Cert.SolverKernelIdeal.sig) → Buf (Elt Ideal) ℓ) (g : Dev Cert.SolverKernelIdeal.nD → PrngReg), Pre_SolverKernelIdeal m →
    θ_run (Cert.SolverKernelIdeal.defs (F := Ideal)) (onTc (τ := Cert.SolverKernelIdeal.τ) (Cert.SolverKernelIdeal.main (F := Ideal))) ⟨m, fun _ => 0, g⟩ (fun r => (∀ c : Dev Cert.SolverKernelIdeal.nD,
      r.2.mem ((c.tc : Thread Cert.SolverKernelIdeal.nD Cert.SolverKernelIdeal.τ).loc Cert.SolverKernelIdeal.main_arg0) = m ((c.tc : Thread Cert.SolverKernelIdeal.nD Cert.SolverKernelIdeal.τ).loc Cert.SolverKernelIdeal.main_arg0)
      ∧ r.2.mem ((c.tc : Thread Cert.SolverKernelIdeal.nD Cert.SolverKernelIdeal.τ).loc Cert.SolverKernelIdeal.main_arg1) = m ((c.tc : Thread Cert.SolverKernelIdeal.nD Cert.SolverKernelIdeal.τ).loc Cert.SolverKernelIdeal.main_arg1)
      ∧ r.2.mem ((c.tc : Thread Cert.SolverKernelIdeal.nD Cert.SolverKernelIdeal.τ).loc Cert.SolverKernelIdeal.main_arg2) = m ((c.tc : Thread Cert.SolverKernelIdeal.nD Cert.SolverKernelIdeal.τ).loc Cert.SolverKernelIdeal.main_arg2)
      ∧ r.2.mem ((c.tc : Thread Cert.SolverKernelIdeal.nD Cert.SolverKernelIdeal.τ).loc Cert.SolverKernelIdeal.main_arg3) = m ((c.tc : Thread Cert.SolverKernelIdeal.nD Cert.SolverKernelIdeal.τ).loc Cert.SolverKernelIdeal.main_arg3)
      ∧ r.2.mem ((c.tc : Thread Cert.SolverKernelIdeal.nD Cert.SolverKernelIdeal.τ).loc Cert.SolverKernelIdeal.main_arg4) = m ((c.tc : Thread Cert.SolverKernelIdeal.nD Cert.SolverKernelIdeal.τ).loc Cert.SolverKernelIdeal.main_arg4)
      ∧ r.2.mem ((c.tc : Thread Cert.SolverKernelIdeal.nD Cert.SolverKernelIdeal.τ).loc Cert.SolverKernelIdeal.main_arg5) = m ((c.tc : Thread Cert.SolverKernelIdeal.nD Cert.SolverKernelIdeal.τ).loc Cert.SolverKernelIdeal.main_arg5)
      ∧ r.2.mem ((c.tc : Thread Cert.SolverKernelIdeal.nD Cert.SolverKernelIdeal.τ).loc Cert.SolverKernelIdeal.main_arg6) = m ((c.tc : Thread Cert.SolverKernelIdeal.nD Cert.SolverKernelIdeal.τ).loc Cert.SolverKernelIdeal.main_arg6))
      ∧ r.2.sem = fun _ => 0)

def quiescent_SolverReferenceIdeal [hSolverReferenceIdeal : Cert.SolverReferenceIdeal.Facts] : Prop :=
  ∀ (m : (ℓ : Loc Cert.SolverReferenceIdeal.nD Cert.SolverReferenceIdeal.τ Cert.SolverReferenceIdeal.sig) → Buf (Elt Ideal) ℓ) (g : Dev Cert.SolverReferenceIdeal.nD → PrngReg), Pre_SolverReferenceIdeal m →
    θ_run (Cert.SolverReferenceIdeal.defs (F := Ideal)) (onTc (τ := Cert.SolverReferenceIdeal.τ) (Cert.SolverReferenceIdeal.main (F := Ideal))) ⟨m, fun _ => 0, g⟩ (fun r => (∀ c : Dev Cert.SolverReferenceIdeal.nD,
      r.2.mem ((c.tc : Thread Cert.SolverReferenceIdeal.nD Cert.SolverReferenceIdeal.τ).loc Cert.SolverReferenceIdeal.main_arg0) = m ((c.tc : Thread Cert.SolverReferenceIdeal.nD Cert.SolverReferenceIdeal.τ).loc Cert.SolverReferenceIdeal.main_arg0)
      ∧ r.2.mem ((c.tc : Thread Cert.SolverReferenceIdeal.nD Cert.SolverReferenceIdeal.τ).loc Cert.SolverReferenceIdeal.main_arg1) = m ((c.tc : Thread Cert.SolverReferenceIdeal.nD Cert.SolverReferenceIdeal.τ).loc Cert.SolverReferenceIdeal.main_arg1)
      ∧ r.2.mem ((c.tc : Thread Cert.SolverReferenceIdeal.nD Cert.SolverReferenceIdeal.τ).loc Cert.SolverReferenceIdeal.main_arg2) = m ((c.tc : Thread Cert.SolverReferenceIdeal.nD Cert.SolverReferenceIdeal.τ).loc Cert.SolverReferenceIdeal.main_arg2)
      ∧ r.2.mem ((c.tc : Thread Cert.SolverReferenceIdeal.nD Cert.SolverReferenceIdeal.τ).loc Cert.SolverReferenceIdeal.main_arg3) = m ((c.tc : Thread Cert.SolverReferenceIdeal.nD Cert.SolverReferenceIdeal.τ).loc Cert.SolverReferenceIdeal.main_arg3)
      ∧ r.2.mem ((c.tc : Thread Cert.SolverReferenceIdeal.nD Cert.SolverReferenceIdeal.τ).loc Cert.SolverReferenceIdeal.main_arg4) = m ((c.tc : Thread Cert.SolverReferenceIdeal.nD Cert.SolverReferenceIdeal.τ).loc Cert.SolverReferenceIdeal.main_arg4)
      ∧ r.2.mem ((c.tc : Thread Cert.SolverReferenceIdeal.nD Cert.SolverReferenceIdeal.τ).loc Cert.SolverReferenceIdeal.main_arg5) = m ((c.tc : Thread Cert.SolverReferenceIdeal.nD Cert.SolverReferenceIdeal.τ).loc Cert.SolverReferenceIdeal.main_arg5)
      ∧ r.2.mem ((c.tc : Thread Cert.SolverReferenceIdeal.nD Cert.SolverReferenceIdeal.τ).loc Cert.SolverReferenceIdeal.main_arg6) = m ((c.tc : Thread Cert.SolverReferenceIdeal.nD Cert.SolverReferenceIdeal.τ).loc Cert.SolverReferenceIdeal.main_arg6))
      ∧ r.2.sem = fun _ => 0)

def quiescent_RelKernel [hRelKernel : Cert.RelKernel.Facts] : Prop :=
  ∀ (m : (ℓ : Loc Cert.RelKernel.nD Cert.RelKernel.τ Cert.RelKernel.sig) → Buf (Elt Bits) ℓ) (g : Dev Cert.RelKernel.nD → PrngReg), Pre_RelKernel m →
    θ_run (Cert.RelKernel.defs (F := Bits)) (onTc (τ := Cert.RelKernel.τ) (Cert.RelKernel.main (F := Bits))) ⟨m, fun _ => 0, g⟩ (fun r => (∀ c : Dev Cert.RelKernel.nD,
      r.2.mem ((c.tc : Thread Cert.RelKernel.nD Cert.RelKernel.τ).loc Cert.RelKernel.main_arg0) = m ((c.tc : Thread Cert.RelKernel.nD Cert.RelKernel.τ).loc Cert.RelKernel.main_arg0)
      ∧ r.2.mem ((c.tc : Thread Cert.RelKernel.nD Cert.RelKernel.τ).loc Cert.RelKernel.main_arg1) = m ((c.tc : Thread Cert.RelKernel.nD Cert.RelKernel.τ).loc Cert.RelKernel.main_arg1))
      ∧ r.2.sem = fun _ => 0)

def quiescent_RelKernelIdeal [hRelKernelIdeal : Cert.RelKernelIdeal.Facts] : Prop :=
  ∀ (m : (ℓ : Loc Cert.RelKernelIdeal.nD Cert.RelKernelIdeal.τ Cert.RelKernelIdeal.sig) → Buf (Elt Ideal) ℓ) (g : Dev Cert.RelKernelIdeal.nD → PrngReg), Pre_RelKernelIdeal m →
    θ_run (Cert.RelKernelIdeal.defs (F := Ideal)) (onTc (τ := Cert.RelKernelIdeal.τ) (Cert.RelKernelIdeal.main (F := Ideal))) ⟨m, fun _ => 0, g⟩ (fun r => (∀ c : Dev Cert.RelKernelIdeal.nD,
      r.2.mem ((c.tc : Thread Cert.RelKernelIdeal.nD Cert.RelKernelIdeal.τ).loc Cert.RelKernelIdeal.main_arg0) = m ((c.tc : Thread Cert.RelKernelIdeal.nD Cert.RelKernelIdeal.τ).loc Cert.RelKernelIdeal.main_arg0)
      ∧ r.2.mem ((c.tc : Thread Cert.RelKernelIdeal.nD Cert.RelKernelIdeal.τ).loc Cert.RelKernelIdeal.main_arg1) = m ((c.tc : Thread Cert.RelKernelIdeal.nD Cert.RelKernelIdeal.τ).loc Cert.RelKernelIdeal.main_arg1))
      ∧ r.2.sem = fun _ => 0)

def quiescent_RelReferenceIdeal [hRelReferenceIdeal : Cert.RelReferenceIdeal.Facts] : Prop :=
  ∀ (m : (ℓ : Loc Cert.RelReferenceIdeal.nD Cert.RelReferenceIdeal.τ Cert.RelReferenceIdeal.sig) → Buf (Elt Ideal) ℓ) (g : Dev Cert.RelReferenceIdeal.nD → PrngReg), Pre_RelReferenceIdeal m →
    θ_run (Cert.RelReferenceIdeal.defs (F := Ideal)) (onTc (τ := Cert.RelReferenceIdeal.τ) (Cert.RelReferenceIdeal.main (F := Ideal))) ⟨m, fun _ => 0, g⟩ (fun r => (∀ c : Dev Cert.RelReferenceIdeal.nD,
      r.2.mem ((c.tc : Thread Cert.RelReferenceIdeal.nD Cert.RelReferenceIdeal.τ).loc Cert.RelReferenceIdeal.main_arg0) = m ((c.tc : Thread Cert.RelReferenceIdeal.nD Cert.RelReferenceIdeal.τ).loc Cert.RelReferenceIdeal.main_arg0)
      ∧ r.2.mem ((c.tc : Thread Cert.RelReferenceIdeal.nD Cert.RelReferenceIdeal.τ).loc Cert.RelReferenceIdeal.main_arg1) = m ((c.tc : Thread Cert.RelReferenceIdeal.nD Cert.RelReferenceIdeal.τ).loc Cert.RelReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)) (v5 : (c : Dev Cert.KernelIdeal.nD) → Buf (Elt Ideal) ((c.tc : Thread Cert.KernelIdeal.nD Cert.KernelIdeal.τ).loc Cert.KernelIdeal.main_v8_5)) (v6 : (c : Dev Cert.KernelIdeal.nD) → Buf (Elt Ideal) ((c.tc : Thread Cert.KernelIdeal.nD Cert.KernelIdeal.τ).loc Cert.KernelIdeal.main_v8_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_v8_5) = v5 c
          ∧ r.2.mem ((c.tc : Thread Cert.KernelIdeal.nD Cert.KernelIdeal.τ).loc Cert.KernelIdeal.main_v8_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_v5_4) = v4 c
          ∧ r.2.mem ((c.tc : Thread Cert.ReferenceIdeal.nD Cert.ReferenceIdeal.τ).loc Cert.ReferenceIdeal.main_v5_5) = v5 c
          ∧ r.2.mem ((c.tc : Thread Cert.ReferenceIdeal.nD Cert.ReferenceIdeal.τ).loc Cert.ReferenceIdeal.main_v5_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_PatchKernel_PatchKernelIdeal : Prop :=
  True

def algebraic_PatchKernelIdeal_PatchReferenceIdeal [hPatchKernelIdeal : Cert.PatchKernelIdeal.Facts] [hPatchReferenceIdeal : Cert.PatchReferenceIdeal.Facts] : Prop :=
  ∀ (m : (ℓ : Loc Cert.PatchKernelIdeal.nD Cert.PatchKernelIdeal.τ Cert.PatchKernelIdeal.sig) → Buf (Elt Ideal) ℓ) (g : Dev Cert.PatchKernelIdeal.nD → PrngReg)
    (m' : (ℓ : Loc Cert.PatchReferenceIdeal.nD Cert.PatchReferenceIdeal.τ Cert.PatchReferenceIdeal.sig) → Buf (Elt Ideal) ℓ) (g' : Dev Cert.PatchReferenceIdeal.nD → PrngReg), Pre_PatchKernelIdeal m →
    (∀ c : Dev Cert.PatchKernelIdeal.nD,
      m' ((c.tc : Thread Cert.PatchReferenceIdeal.nD Cert.PatchReferenceIdeal.τ).loc Cert.PatchReferenceIdeal.main_arg0) = m ((c.tc : Thread Cert.PatchKernelIdeal.nD Cert.PatchKernelIdeal.τ).loc Cert.PatchKernelIdeal.main_arg0)
      ∧ m' ((c.tc : Thread Cert.PatchReferenceIdeal.nD Cert.PatchReferenceIdeal.τ).loc Cert.PatchReferenceIdeal.main_arg1) = m ((c.tc : Thread Cert.PatchKernelIdeal.nD Cert.PatchKernelIdeal.τ).loc Cert.PatchKernelIdeal.main_arg1)) →
    ∃ (v0 : (c : Dev Cert.PatchKernelIdeal.nD) → Buf (Elt Ideal) ((c.tc : Thread Cert.PatchKernelIdeal.nD Cert.PatchKernelIdeal.τ).loc Cert.PatchKernelIdeal.main_v3)),
      θ_run (Cert.PatchKernelIdeal.defs (F := Ideal)) (onTc (τ := Cert.PatchKernelIdeal.τ) (Cert.PatchKernelIdeal.main (F := Ideal))) ⟨m, fun _ => 0, g⟩ (fun r => ∀ c : Dev Cert.PatchKernelIdeal.nD,
          r.2.mem ((c.tc : Thread Cert.PatchKernelIdeal.nD Cert.PatchKernelIdeal.τ).loc Cert.PatchKernelIdeal.main_v3) = v0 c
          ∧ r.2.mem ((c.tc : Thread Cert.PatchKernelIdeal.nD Cert.PatchKernelIdeal.τ).loc Cert.PatchKernelIdeal.main_arg0) = m ((c.tc : Thread Cert.PatchKernelIdeal.nD Cert.PatchKernelIdeal.τ).loc Cert.PatchKernelIdeal.main_arg0)
          ∧ r.2.mem ((c.tc : Thread Cert.PatchKernelIdeal.nD Cert.PatchKernelIdeal.τ).loc Cert.PatchKernelIdeal.main_arg1) = m ((c.tc : Thread Cert.PatchKernelIdeal.nD Cert.PatchKernelIdeal.τ).loc Cert.PatchKernelIdeal.main_arg1))
      ∧ θ_run (Cert.PatchReferenceIdeal.defs (F := Ideal)) (onTc (τ := Cert.PatchReferenceIdeal.τ) (Cert.PatchReferenceIdeal.main (F := Ideal))) ⟨m', fun _ => 0, g'⟩ (fun r => ∀ c : Dev Cert.PatchReferenceIdeal.nD,
          r.2.mem ((c.tc : Thread Cert.PatchReferenceIdeal.nD Cert.PatchReferenceIdeal.τ).loc Cert.PatchReferenceIdeal.main_v3) = v0 c
          ∧ r.2.mem ((c.tc : Thread Cert.PatchReferenceIdeal.nD Cert.PatchReferenceIdeal.τ).loc Cert.PatchReferenceIdeal.main_arg0) = m' ((c.tc : Thread Cert.PatchReferenceIdeal.nD Cert.PatchReferenceIdeal.τ).loc Cert.PatchReferenceIdeal.main_arg0)
          ∧ r.2.mem ((c.tc : Thread Cert.PatchReferenceIdeal.nD Cert.PatchReferenceIdeal.τ).loc Cert.PatchReferenceIdeal.main_arg1) = m' ((c.tc : Thread Cert.PatchReferenceIdeal.nD Cert.PatchReferenceIdeal.τ).loc Cert.PatchReferenceIdeal.main_arg1))

def preserves_GuideKernel_GuideKernelIdeal : Prop :=
  True

def algebraic_GuideKernelIdeal_GuideReferenceIdeal [hGuideKernelIdeal : Cert.GuideKernelIdeal.Facts] [hGuideReferenceIdeal : Cert.GuideReferenceIdeal.Facts] : Prop :=
  ∀ (m : (ℓ : Loc Cert.GuideKernelIdeal.nD Cert.GuideKernelIdeal.τ Cert.GuideKernelIdeal.sig) → Buf (Elt Ideal) ℓ) (g : Dev Cert.GuideKernelIdeal.nD → PrngReg)
    (m' : (ℓ : Loc Cert.GuideReferenceIdeal.nD Cert.GuideReferenceIdeal.τ Cert.GuideReferenceIdeal.sig) → Buf (Elt Ideal) ℓ) (g' : Dev Cert.GuideReferenceIdeal.nD → PrngReg), Pre_GuideKernelIdeal m →
    (∀ c : Dev Cert.GuideKernelIdeal.nD,
      m' ((c.tc : Thread Cert.GuideReferenceIdeal.nD Cert.GuideReferenceIdeal.τ).loc Cert.GuideReferenceIdeal.main_arg0) = m ((c.tc : Thread Cert.GuideKernelIdeal.nD Cert.GuideKernelIdeal.τ).loc Cert.GuideKernelIdeal.main_arg0)
      ∧ m' ((c.tc : Thread Cert.GuideReferenceIdeal.nD Cert.GuideReferenceIdeal.τ).loc Cert.GuideReferenceIdeal.main_arg1) = m ((c.tc : Thread Cert.GuideKernelIdeal.nD Cert.GuideKernelIdeal.τ).loc Cert.GuideKernelIdeal.main_arg1)
      ∧ m' ((c.tc : Thread Cert.GuideReferenceIdeal.nD Cert.GuideReferenceIdeal.τ).loc Cert.GuideReferenceIdeal.main_arg2) = m ((c.tc : Thread Cert.GuideKernelIdeal.nD Cert.GuideKernelIdeal.τ).loc Cert.GuideKernelIdeal.main_arg2)
      ∧ m' ((c.tc : Thread Cert.GuideReferenceIdeal.nD Cert.GuideReferenceIdeal.τ).loc Cert.GuideReferenceIdeal.main_arg3) = m ((c.tc : Thread Cert.GuideKernelIdeal.nD Cert.GuideKernelIdeal.τ).loc Cert.GuideKernelIdeal.main_arg3)) →
    ∃ (v0 : (c : Dev Cert.GuideKernelIdeal.nD) → Buf (Elt Ideal) ((c.tc : Thread Cert.GuideKernelIdeal.nD Cert.GuideKernelIdeal.τ).loc Cert.GuideKernelIdeal.main_v1_0)) (v1 : (c : Dev Cert.GuideKernelIdeal.nD) → Buf (Elt Ideal) ((c.tc : Thread Cert.GuideKernelIdeal.nD Cert.GuideKernelIdeal.τ).loc Cert.GuideKernelIdeal.main_v1_1)),
      θ_run (Cert.GuideKernelIdeal.defs (F := Ideal)) (onTc (τ := Cert.GuideKernelIdeal.τ) (Cert.GuideKernelIdeal.main (F := Ideal))) ⟨m, fun _ => 0, g⟩ (fun r => ∀ c : Dev Cert.GuideKernelIdeal.nD,
          r.2.mem ((c.tc : Thread Cert.GuideKernelIdeal.nD Cert.GuideKernelIdeal.τ).loc Cert.GuideKernelIdeal.main_v1_0) = v0 c
          ∧ r.2.mem ((c.tc : Thread Cert.GuideKernelIdeal.nD Cert.GuideKernelIdeal.τ).loc Cert.GuideKernelIdeal.main_v1_1) = v1 c
          ∧ r.2.mem ((c.tc : Thread Cert.GuideKernelIdeal.nD Cert.GuideKernelIdeal.τ).loc Cert.GuideKernelIdeal.main_arg0) = m ((c.tc : Thread Cert.GuideKernelIdeal.nD Cert.GuideKernelIdeal.τ).loc Cert.GuideKernelIdeal.main_arg0)
          ∧ r.2.mem ((c.tc : Thread Cert.GuideKernelIdeal.nD Cert.GuideKernelIdeal.τ).loc Cert.GuideKernelIdeal.main_arg1) = m ((c.tc : Thread Cert.GuideKernelIdeal.nD Cert.GuideKernelIdeal.τ).loc Cert.GuideKernelIdeal.main_arg1)
          ∧ r.2.mem ((c.tc : Thread Cert.GuideKernelIdeal.nD Cert.GuideKernelIdeal.τ).loc Cert.GuideKernelIdeal.main_arg2) = m ((c.tc : Thread Cert.GuideKernelIdeal.nD Cert.GuideKernelIdeal.τ).loc Cert.GuideKernelIdeal.main_arg2)
          ∧ r.2.mem ((c.tc : Thread Cert.GuideKernelIdeal.nD Cert.GuideKernelIdeal.τ).loc Cert.GuideKernelIdeal.main_arg3) = m ((c.tc : Thread Cert.GuideKernelIdeal.nD Cert.GuideKernelIdeal.τ).loc Cert.GuideKernelIdeal.main_arg3))
      ∧ θ_run (Cert.GuideReferenceIdeal.defs (F := Ideal)) (onTc (τ := Cert.GuideReferenceIdeal.τ) (Cert.GuideReferenceIdeal.main (F := Ideal))) ⟨m', fun _ => 0, g'⟩ (fun r => ∀ c : Dev Cert.GuideReferenceIdeal.nD,
          r.2.mem ((c.tc : Thread Cert.GuideReferenceIdeal.nD Cert.GuideReferenceIdeal.τ).loc Cert.GuideReferenceIdeal.main_v19) = v0 c
          ∧ r.2.mem ((c.tc : Thread Cert.GuideReferenceIdeal.nD Cert.GuideReferenceIdeal.τ).loc Cert.GuideReferenceIdeal.main_v21) = v1 c
          ∧ r.2.mem ((c.tc : Thread Cert.GuideReferenceIdeal.nD Cert.GuideReferenceIdeal.τ).loc Cert.GuideReferenceIdeal.main_arg0) = m' ((c.tc : Thread Cert.GuideReferenceIdeal.nD Cert.GuideReferenceIdeal.τ).loc Cert.GuideReferenceIdeal.main_arg0)
          ∧ r.2.mem ((c.tc : Thread Cert.GuideReferenceIdeal.nD Cert.GuideReferenceIdeal.τ).loc Cert.GuideReferenceIdeal.main_arg1) = m' ((c.tc : Thread Cert.GuideReferenceIdeal.nD Cert.GuideReferenceIdeal.τ).loc Cert.GuideReferenceIdeal.main_arg1)
          ∧ r.2.mem ((c.tc : Thread Cert.GuideReferenceIdeal.nD Cert.GuideReferenceIdeal.τ).loc Cert.GuideReferenceIdeal.main_arg2) = m' ((c.tc : Thread Cert.GuideReferenceIdeal.nD Cert.GuideReferenceIdeal.τ).loc Cert.GuideReferenceIdeal.main_arg2)
          ∧ r.2.mem ((c.tc : Thread Cert.GuideReferenceIdeal.nD Cert.GuideReferenceIdeal.τ).loc Cert.GuideReferenceIdeal.main_arg3) = m' ((c.tc : Thread Cert.GuideReferenceIdeal.nD Cert.GuideReferenceIdeal.τ).loc Cert.GuideReferenceIdeal.main_arg3))

def preserves_SolverKernel_SolverKernelIdeal : Prop :=
  True

def algebraic_SolverKernelIdeal_SolverReferenceIdeal [hSolverKernelIdeal : Cert.SolverKernelIdeal.Facts] [hSolverReferenceIdeal : Cert.SolverReferenceIdeal.Facts] : Prop :=
  ∀ (m : (ℓ : Loc Cert.SolverKernelIdeal.nD Cert.SolverKernelIdeal.τ Cert.SolverKernelIdeal.sig) → Buf (Elt Ideal) ℓ) (g : Dev Cert.SolverKernelIdeal.nD → PrngReg)
    (m' : (ℓ : Loc Cert.SolverReferenceIdeal.nD Cert.SolverReferenceIdeal.τ Cert.SolverReferenceIdeal.sig) → Buf (Elt Ideal) ℓ) (g' : Dev Cert.SolverReferenceIdeal.nD → PrngReg), Pre_SolverKernelIdeal m →
    (∀ c : Dev Cert.SolverKernelIdeal.nD,
      m' ((c.tc : Thread Cert.SolverReferenceIdeal.nD Cert.SolverReferenceIdeal.τ).loc Cert.SolverReferenceIdeal.main_arg0) = m ((c.tc : Thread Cert.SolverKernelIdeal.nD Cert.SolverKernelIdeal.τ).loc Cert.SolverKernelIdeal.main_arg0)
      ∧ m' ((c.tc : Thread Cert.SolverReferenceIdeal.nD Cert.SolverReferenceIdeal.τ).loc Cert.SolverReferenceIdeal.main_arg1) = m ((c.tc : Thread Cert.SolverKernelIdeal.nD Cert.SolverKernelIdeal.τ).loc Cert.SolverKernelIdeal.main_arg1)
      ∧ m' ((c.tc : Thread Cert.SolverReferenceIdeal.nD Cert.SolverReferenceIdeal.τ).loc Cert.SolverReferenceIdeal.main_arg2) = m ((c.tc : Thread Cert.SolverKernelIdeal.nD Cert.SolverKernelIdeal.τ).loc Cert.SolverKernelIdeal.main_arg2)
      ∧ m' ((c.tc : Thread Cert.SolverReferenceIdeal.nD Cert.SolverReferenceIdeal.τ).loc Cert.SolverReferenceIdeal.main_arg3) = m ((c.tc : Thread Cert.SolverKernelIdeal.nD Cert.SolverKernelIdeal.τ).loc Cert.SolverKernelIdeal.main_arg3)
      ∧ m' ((c.tc : Thread Cert.SolverReferenceIdeal.nD Cert.SolverReferenceIdeal.τ).loc Cert.SolverReferenceIdeal.main_arg4) = m ((c.tc : Thread Cert.SolverKernelIdeal.nD Cert.SolverKernelIdeal.τ).loc Cert.SolverKernelIdeal.main_arg4)
      ∧ m' ((c.tc : Thread Cert.SolverReferenceIdeal.nD Cert.SolverReferenceIdeal.τ).loc Cert.SolverReferenceIdeal.main_arg5) = m ((c.tc : Thread Cert.SolverKernelIdeal.nD Cert.SolverKernelIdeal.τ).loc Cert.SolverKernelIdeal.main_arg5)
      ∧ m' ((c.tc : Thread Cert.SolverReferenceIdeal.nD Cert.SolverReferenceIdeal.τ).loc Cert.SolverReferenceIdeal.main_arg6) = m ((c.tc : Thread Cert.SolverKernelIdeal.nD Cert.SolverKernelIdeal.τ).loc Cert.SolverKernelIdeal.main_arg6)) →
    ∃ (v0 : (c : Dev Cert.SolverKernelIdeal.nD) → Buf (Elt Ideal) ((c.tc : Thread Cert.SolverKernelIdeal.nD Cert.SolverKernelIdeal.τ).loc Cert.SolverKernelIdeal.main_v10_0)) (v1 : (c : Dev Cert.SolverKernelIdeal.nD) → Buf (Elt Ideal) ((c.tc : Thread Cert.SolverKernelIdeal.nD Cert.SolverKernelIdeal.τ).loc Cert.SolverKernelIdeal.main_v10_1)),
      θ_run (Cert.SolverKernelIdeal.defs (F := Ideal)) (onTc (τ := Cert.SolverKernelIdeal.τ) (Cert.SolverKernelIdeal.main (F := Ideal))) ⟨m, fun _ => 0, g⟩ (fun r => ∀ c : Dev Cert.SolverKernelIdeal.nD,
          r.2.mem ((c.tc : Thread Cert.SolverKernelIdeal.nD Cert.SolverKernelIdeal.τ).loc Cert.SolverKernelIdeal.main_v10_0) = v0 c
          ∧ r.2.mem ((c.tc : Thread Cert.SolverKernelIdeal.nD Cert.SolverKernelIdeal.τ).loc Cert.SolverKernelIdeal.main_v10_1) = v1 c
          ∧ r.2.mem ((c.tc : Thread Cert.SolverKernelIdeal.nD Cert.SolverKernelIdeal.τ).loc Cert.SolverKernelIdeal.main_arg0) = m ((c.tc : Thread Cert.SolverKernelIdeal.nD Cert.SolverKernelIdeal.τ).loc Cert.SolverKernelIdeal.main_arg0)
          ∧ r.2.mem ((c.tc : Thread Cert.SolverKernelIdeal.nD Cert.SolverKernelIdeal.τ).loc Cert.SolverKernelIdeal.main_arg1) = m ((c.tc : Thread Cert.SolverKernelIdeal.nD Cert.SolverKernelIdeal.τ).loc Cert.SolverKernelIdeal.main_arg1)
          ∧ r.2.mem ((c.tc : Thread Cert.SolverKernelIdeal.nD Cert.SolverKernelIdeal.τ).loc Cert.SolverKernelIdeal.main_arg2) = m ((c.tc : Thread Cert.SolverKernelIdeal.nD Cert.SolverKernelIdeal.τ).loc Cert.SolverKernelIdeal.main_arg2)
          ∧ r.2.mem ((c.tc : Thread Cert.SolverKernelIdeal.nD Cert.SolverKernelIdeal.τ).loc Cert.SolverKernelIdeal.main_arg3) = m ((c.tc : Thread Cert.SolverKernelIdeal.nD Cert.SolverKernelIdeal.τ).loc Cert.SolverKernelIdeal.main_arg3)
          ∧ r.2.mem ((c.tc : Thread Cert.SolverKernelIdeal.nD Cert.SolverKernelIdeal.τ).loc Cert.SolverKernelIdeal.main_arg4) = m ((c.tc : Thread Cert.SolverKernelIdeal.nD Cert.SolverKernelIdeal.τ).loc Cert.SolverKernelIdeal.main_arg4)
          ∧ r.2.mem ((c.tc : Thread Cert.SolverKernelIdeal.nD Cert.SolverKernelIdeal.τ).loc Cert.SolverKernelIdeal.main_arg5) = m ((c.tc : Thread Cert.SolverKernelIdeal.nD Cert.SolverKernelIdeal.τ).loc Cert.SolverKernelIdeal.main_arg5)
          ∧ r.2.mem ((c.tc : Thread Cert.SolverKernelIdeal.nD Cert.SolverKernelIdeal.τ).loc Cert.SolverKernelIdeal.main_arg6) = m ((c.tc : Thread Cert.SolverKernelIdeal.nD Cert.SolverKernelIdeal.τ).loc Cert.SolverKernelIdeal.main_arg6))
      ∧ θ_run (Cert.SolverReferenceIdeal.defs (F := Ideal)) (onTc (τ := Cert.SolverReferenceIdeal.τ) (Cert.SolverReferenceIdeal.main (F := Ideal))) ⟨m', fun _ => 0, g'⟩ (fun r => ∀ c : Dev Cert.SolverReferenceIdeal.nD,
          r.2.mem ((c.tc : Thread Cert.SolverReferenceIdeal.nD Cert.SolverReferenceIdeal.τ).loc Cert.SolverReferenceIdeal.main_v8_0) = v0 c
          ∧ r.2.mem ((c.tc : Thread Cert.SolverReferenceIdeal.nD Cert.SolverReferenceIdeal.τ).loc Cert.SolverReferenceIdeal.main_v8_1) = v1 c
          ∧ r.2.mem ((c.tc : Thread Cert.SolverReferenceIdeal.nD Cert.SolverReferenceIdeal.τ).loc Cert.SolverReferenceIdeal.main_arg0) = m' ((c.tc : Thread Cert.SolverReferenceIdeal.nD Cert.SolverReferenceIdeal.τ).loc Cert.SolverReferenceIdeal.main_arg0)
          ∧ r.2.mem ((c.tc : Thread Cert.SolverReferenceIdeal.nD Cert.SolverReferenceIdeal.τ).loc Cert.SolverReferenceIdeal.main_arg1) = m' ((c.tc : Thread Cert.SolverReferenceIdeal.nD Cert.SolverReferenceIdeal.τ).loc Cert.SolverReferenceIdeal.main_arg1)
          ∧ r.2.mem ((c.tc : Thread Cert.SolverReferenceIdeal.nD Cert.SolverReferenceIdeal.τ).loc Cert.SolverReferenceIdeal.main_arg2) = m' ((c.tc : Thread Cert.SolverReferenceIdeal.nD Cert.SolverReferenceIdeal.τ).loc Cert.SolverReferenceIdeal.main_arg2)
          ∧ r.2.mem ((c.tc : Thread Cert.SolverReferenceIdeal.nD Cert.SolverReferenceIdeal.τ).loc Cert.SolverReferenceIdeal.main_arg3) = m' ((c.tc : Thread Cert.SolverReferenceIdeal.nD Cert.SolverReferenceIdeal.τ).loc Cert.SolverReferenceIdeal.main_arg3)
          ∧ r.2.mem ((c.tc : Thread Cert.SolverReferenceIdeal.nD Cert.SolverReferenceIdeal.τ).loc Cert.SolverReferenceIdeal.main_arg4) = m' ((c.tc : Thread Cert.SolverReferenceIdeal.nD Cert.SolverReferenceIdeal.τ).loc Cert.SolverReferenceIdeal.main_arg4)
          ∧ r.2.mem ((c.tc : Thread Cert.SolverReferenceIdeal.nD Cert.SolverReferenceIdeal.τ).loc Cert.SolverReferenceIdeal.main_arg5) = m' ((c.tc : Thread Cert.SolverReferenceIdeal.nD Cert.SolverReferenceIdeal.τ).loc Cert.SolverReferenceIdeal.main_arg5)
          ∧ r.2.mem ((c.tc : Thread Cert.SolverReferenceIdeal.nD Cert.SolverReferenceIdeal.τ).loc Cert.SolverReferenceIdeal.main_arg6) = m' ((c.tc : Thread Cert.SolverReferenceIdeal.nD Cert.SolverReferenceIdeal.τ).loc Cert.SolverReferenceIdeal.main_arg6))

def preserves_RelKernel_RelKernelIdeal : Prop :=
  True

def algebraic_RelKernelIdeal_RelReferenceIdeal [hRelKernelIdeal : Cert.RelKernelIdeal.Facts] [hRelReferenceIdeal : Cert.RelReferenceIdeal.Facts] : Prop :=
  ∀ (m : (ℓ : Loc Cert.RelKernelIdeal.nD Cert.RelKernelIdeal.τ Cert.RelKernelIdeal.sig) → Buf (Elt Ideal) ℓ) (g : Dev Cert.RelKernelIdeal.nD → PrngReg)
    (m' : (ℓ : Loc Cert.RelReferenceIdeal.nD Cert.RelReferenceIdeal.τ Cert.RelReferenceIdeal.sig) → Buf (Elt Ideal) ℓ) (g' : Dev Cert.RelReferenceIdeal.nD → PrngReg), Pre_RelKernelIdeal m →
    (∀ c : Dev Cert.RelKernelIdeal.nD,
      m' ((c.tc : Thread Cert.RelReferenceIdeal.nD Cert.RelReferenceIdeal.τ).loc Cert.RelReferenceIdeal.main_arg0) = m ((c.tc : Thread Cert.RelKernelIdeal.nD Cert.RelKernelIdeal.τ).loc Cert.RelKernelIdeal.main_arg0)
      ∧ m' ((c.tc : Thread Cert.RelReferenceIdeal.nD Cert.RelReferenceIdeal.τ).loc Cert.RelReferenceIdeal.main_arg1) = m ((c.tc : Thread Cert.RelKernelIdeal.nD Cert.RelKernelIdeal.τ).loc Cert.RelKernelIdeal.main_arg1)) →
    ∃ (v0 : (c : Dev Cert.RelKernelIdeal.nD) → Buf (Elt Ideal) ((c.tc : Thread Cert.RelKernelIdeal.nD Cert.RelKernelIdeal.τ).loc Cert.RelKernelIdeal.main_v0)),
      θ_run (Cert.RelKernelIdeal.defs (F := Ideal)) (onTc (τ := Cert.RelKernelIdeal.τ) (Cert.RelKernelIdeal.main (F := Ideal))) ⟨m, fun _ => 0, g⟩ (fun r => ∀ c : Dev Cert.RelKernelIdeal.nD,
          r.2.mem ((c.tc : Thread Cert.RelKernelIdeal.nD Cert.RelKernelIdeal.τ).loc Cert.RelKernelIdeal.main_v0) = v0 c
          ∧ r.2.mem ((c.tc : Thread Cert.RelKernelIdeal.nD Cert.RelKernelIdeal.τ).loc Cert.RelKernelIdeal.main_arg0) = m ((c.tc : Thread Cert.RelKernelIdeal.nD Cert.RelKernelIdeal.τ).loc Cert.RelKernelIdeal.main_arg0)
          ∧ r.2.mem ((c.tc : Thread Cert.RelKernelIdeal.nD Cert.RelKernelIdeal.τ).loc Cert.RelKernelIdeal.main_arg1) = m ((c.tc : Thread Cert.RelKernelIdeal.nD Cert.RelKernelIdeal.τ).loc Cert.RelKernelIdeal.main_arg1))
      ∧ θ_run (Cert.RelReferenceIdeal.defs (F := Ideal)) (onTc (τ := Cert.RelReferenceIdeal.τ) (Cert.RelReferenceIdeal.main (F := Ideal))) ⟨m', fun _ => 0, g'⟩ (fun r => ∀ c : Dev Cert.RelReferenceIdeal.nD,
          r.2.mem ((c.tc : Thread Cert.RelReferenceIdeal.nD Cert.RelReferenceIdeal.τ).loc Cert.RelReferenceIdeal.main_v9) = v0 c
          ∧ r.2.mem ((c.tc : Thread Cert.RelReferenceIdeal.nD Cert.RelReferenceIdeal.τ).loc Cert.RelReferenceIdeal.main_arg0) = m' ((c.tc : Thread Cert.RelReferenceIdeal.nD Cert.RelReferenceIdeal.τ).loc Cert.RelReferenceIdeal.main_arg0)
          ∧ r.2.mem ((c.tc : Thread Cert.RelReferenceIdeal.nD Cert.RelReferenceIdeal.τ).loc Cert.RelReferenceIdeal.main_arg1) = m' ((c.tc : Thread Cert.RelReferenceIdeal.nD Cert.RelReferenceIdeal.τ).loc Cert.RelReferenceIdeal.main_arg1))

def Claim : Prop :=
  ∃ (hKernel : Cert.Kernel.Facts) (hKernelIdeal : Cert.KernelIdeal.Facts) (hReferenceIdeal : Cert.ReferenceIdeal.Facts) (hPatchKernel : Cert.PatchKernel.Facts) (hPatchKernelIdeal : Cert.PatchKernelIdeal.Facts) (hPatchReferenceIdeal : Cert.PatchReferenceIdeal.Facts) (hGuideKernel : Cert.GuideKernel.Facts) (hGuideKernelIdeal : Cert.GuideKernelIdeal.Facts) (hGuideReferenceIdeal : Cert.GuideReferenceIdeal.Facts) (hSolverKernel : Cert.SolverKernel.Facts) (hSolverKernelIdeal : Cert.SolverKernelIdeal.Facts) (hSolverReferenceIdeal : Cert.SolverReferenceIdeal.Facts) (hRelKernel : Cert.RelKernel.Facts) (hRelKernelIdeal : Cert.RelKernelIdeal.Facts) (hRelReferenceIdeal : Cert.RelReferenceIdeal.Facts),
    quiescent_Kernel (hKernel := hKernel)
    ∧ quiescent_KernelIdeal (hKernelIdeal := hKernelIdeal)
    ∧ quiescent_ReferenceIdeal (hReferenceIdeal := hReferenceIdeal)
    ∧ quiescent_PatchKernel (hPatchKernel := hPatchKernel)
    ∧ quiescent_PatchKernelIdeal (hPatchKernelIdeal := hPatchKernelIdeal)
    ∧ quiescent_PatchReferenceIdeal (hPatchReferenceIdeal := hPatchReferenceIdeal)
    ∧ quiescent_GuideKernel (hGuideKernel := hGuideKernel)
    ∧ quiescent_GuideKernelIdeal (hGuideKernelIdeal := hGuideKernelIdeal)
    ∧ quiescent_GuideReferenceIdeal (hGuideReferenceIdeal := hGuideReferenceIdeal)
    ∧ quiescent_SolverKernel (hSolverKernel := hSolverKernel)
    ∧ quiescent_SolverKernelIdeal (hSolverKernelIdeal := hSolverKernelIdeal)
    ∧ quiescent_SolverReferenceIdeal (hSolverReferenceIdeal := hSolverReferenceIdeal)
    ∧ quiescent_RelKernel (hRelKernel := hRelKernel)
    ∧ quiescent_RelKernelIdeal (hRelKernelIdeal := hRelKernelIdeal)
    ∧ quiescent_RelReferenceIdeal (hRelReferenceIdeal := hRelReferenceIdeal)
    ∧ preserves_Kernel_KernelIdeal
    ∧ algebraic_KernelIdeal_ReferenceIdeal (hKernelIdeal := hKernelIdeal) (hReferenceIdeal := hReferenceIdeal)
    ∧ preserves_PatchKernel_PatchKernelIdeal
    ∧ algebraic_PatchKernelIdeal_PatchReferenceIdeal (hPatchKernelIdeal := hPatchKernelIdeal) (hPatchReferenceIdeal := hPatchReferenceIdeal)
    ∧ preserves_GuideKernel_GuideKernelIdeal
    ∧ algebraic_GuideKernelIdeal_GuideReferenceIdeal (hGuideKernelIdeal := hGuideKernelIdeal) (hGuideReferenceIdeal := hGuideReferenceIdeal)
    ∧ preserves_SolverKernel_SolverKernelIdeal
    ∧ algebraic_SolverKernelIdeal_SolverReferenceIdeal (hSolverKernelIdeal := hSolverKernelIdeal) (hSolverReferenceIdeal := hSolverReferenceIdeal)
    ∧ preserves_RelKernel_RelKernelIdeal
    ∧ algebraic_RelKernelIdeal_RelReferenceIdeal (hRelKernelIdeal := hRelKernelIdeal) (hRelReferenceIdeal := hRelReferenceIdeal)
-- ==== Kernel.lean ====
abbrev S_ : Shape := ⟨0, ![]⟩
abbrev S5x3600x64 : Shape := ⟨3, ![5, 3600, 64]⟩
abbrev S64x5120 : Shape := ⟨2, ![64, 5120]⟩
abbrev S5120 : Shape := ⟨1, ![5120]⟩
abbrev S5x2x3600x5120 : Shape := ⟨4, ![5, 2, 3600, 5120]⟩
abbrev S5x5120 : Shape := ⟨2, ![5, 5120]⟩
abbrev S5120x64 : Shape := ⟨2, ![5120, 64]⟩
abbrev S64 : Shape := ⟨1, ![64]⟩
abbrev S1x1 : Shape := ⟨2, ![1, 1]⟩
abbrev S1x5120 : Shape := ⟨2, ![1, 5120]⟩
abbrev S5x1x5120 : Shape := ⟨3, ![5, 1, 5120]⟩
abbrev S64x1 : Shape := ⟨2, ![64, 1]⟩
abbrev S5x2x40x3600 : Shape := ⟨4, ![5, 2, 40, 3600]⟩
abbrev S5x2x3600 : Shape := ⟨3, ![5, 2, 3600]⟩
abbrev S5x2x64x3600 : Shape := ⟨4, ![5, 2, 64, 3600]⟩
abbrev S5x1x3600 : Shape := ⟨3, ![5, 1, 3600]⟩
abbrev S1x256x64 : Shape := ⟨3, ![1, 256, 64]⟩
abbrev S1x2x256x5120 : Shape := ⟨4, ![1, 2, 256, 5120]⟩
abbrev S1x1x5120 : Shape := ⟨3, ![1, 1, 5120]⟩
abbrev S1x2x40x256 : Shape := ⟨4, ![1, 2, 40, 256]⟩
abbrev S1x2x256 : Shape := ⟨3, ![1, 2, 256]⟩
abbrev S1x2x64x256 : Shape := ⟨4, ![1, 2, 64, 256]⟩
abbrev S1x1x256 : Shape := ⟨3, ![1, 1, 256]⟩
abbrev S2x256x5120 : Shape := ⟨3, ![2, 256, 5120]⟩
abbrev S2x256x128 : Shape := ⟨3, ![2, 256, 128]⟩
abbrev S64x256 : Shape := ⟨2, ![64, 256]⟩
abbrev S256x64 : Shape := ⟨2, ![256, 64]⟩
abbrev S256x128 : Shape := ⟨2, ![256, 128]⟩
abbrev S1x1x256x256 : Shape := ⟨4, ![1, 1, 256, 256]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S1x256x128 : Shape := ⟨3, ![1, 256, 128]⟩
abbrev S1x256x256 : Shape := ⟨3, ![1, 256, 256]⟩
abbrev S1x256x640 : Shape := ⟨3, ![1, 256, 640]⟩
abbrev S256x640 : Shape := ⟨2, ![256, 640]⟩
abbrev S1x1x256x640 : Shape := ⟨4, ![1, 1, 256, 640]⟩
abbrev S64x640 : Shape := ⟨2, ![64, 640]⟩
abbrev S128x256 : Shape := ⟨2, ![128, 256]⟩
abbrev S1x1x64x256 : Shape := ⟨4, ![1, 1, 64, 256]⟩
abbrev S40x256 : Shape := ⟨2, ![40, 256]⟩
abbrev S1x1x40x256 : Shape := ⟨4, ![1, 1, 40, 256]⟩

abbrev nBuf : Space → Nat
  | .hbm => 26
  | .vmem => 32
  | .smem => 1
  | _ => 0

abbrev bufTy : (tb : Table) → Fin (tcTables nBuf tb) → BufTy
  | .hbm, ⟨0, _⟩ => ⟨S_, .f32⟩
  | .hbm, ⟨1, _⟩ => ⟨S5x3600x64, .fp8e4m3⟩
  | .hbm, ⟨2, _⟩ => ⟨S64x5120, .fp8e4m3⟩
  | .hbm, ⟨3, _⟩ => ⟨S5120, .f32⟩
  | .hbm, ⟨4, _⟩ => ⟨S5120, .f32⟩
  | .hbm, ⟨5, _⟩ => ⟨S5x2x3600x5120, .bf16⟩
  | .hbm, ⟨6, _⟩ => ⟨S5x5120, .f32⟩
  | .hbm, ⟨7, _⟩ => ⟨S5x5120, .f32⟩
  | .hbm, ⟨8, _⟩ => ⟨S5120x64, .fp8e4m3⟩
  | .hbm, ⟨9, _⟩ => ⟨S64, .f32⟩
  | .hbm, ⟨10, _⟩ => ⟨S64, .f32⟩
  | .hbm, ⟨11, _⟩ => ⟨S1x1, .f32⟩
  | .hbm, ⟨12, _⟩ => ⟨S1x5120, .f32⟩
  | .hbm, ⟨13, _⟩ => ⟨S1x5120, .f32⟩
  | .hbm, ⟨14, _⟩ => ⟨S5x1x5120, .f32⟩
  | .hbm, ⟨15, _⟩ => ⟨S5x1x5120, .f32⟩
  | .hbm, ⟨16, _⟩ => ⟨S64x5120, .fp8e4m3⟩
  | .hbm, ⟨17, _⟩ => ⟨S64x1, .f32⟩
  | .hbm, ⟨18, _⟩ => ⟨S64x1, .f32⟩
  | .hbm, ⟨19, _⟩ => ⟨S5x2x3600x5120, .i8⟩
  | .hbm, ⟨20, _⟩ => ⟨S5x2x40x3600, .f32⟩
  | .hbm, ⟨21, _⟩ => ⟨S5x2x3600x5120, .fp8e4m3⟩
  | .hbm, ⟨22, _⟩ => ⟨S5x2x3600, .f32⟩
  | .hbm, ⟨23, _⟩ => ⟨S5x2x64x3600, .f32⟩
  | .hbm, ⟨24, _⟩ => ⟨S5x1x3600, .f32⟩
  | .hbm, ⟨25, _⟩ => ⟨S5x1x3600, .f32⟩
  | .local _ .vmem, ⟨0, _⟩ => ⟨S1x256x64, .fp8e4m3⟩
  | .local _ .vmem, ⟨1, _⟩ => ⟨S1x256x64, .fp8e4m3⟩
  | .local _ .vmem, ⟨2, _⟩ => ⟨S1x2x256x5120, .bf16⟩
  | .local _ .vmem, ⟨3, _⟩ => ⟨S1x2x256x5120, .bf16⟩
  | .local _ .vmem, ⟨4, _⟩ => ⟨S64x5120, .fp8e4m3⟩
  | .local _ .vmem, ⟨5, _⟩ => ⟨S1x5120, .f32⟩
  | .local _ .vmem, ⟨6, _⟩ => ⟨S1x5120, .f32⟩
  | .local _ .vmem, ⟨7, _⟩ => ⟨S1x1x5120, .f32⟩
  | .local _ .vmem, ⟨8, _⟩ => ⟨S1x1x5120, .f32⟩
  | .local _ .vmem, ⟨9, _⟩ => ⟨S1x1x5120, .f32⟩
  | .local _ .vmem, ⟨10, _⟩ => ⟨S1x1x5120, .f32⟩
  | .local _ .vmem, ⟨11, _⟩ => ⟨S64x5120, .fp8e4m3⟩
  | .local _ .vmem, ⟨12, _⟩ => ⟨S64x1, .f32⟩
  | .local _ .vmem, ⟨13, _⟩ => ⟨S64x1, .f32⟩
  | .local _ .vmem, ⟨14, _⟩ => ⟨S1x2x256x5120, .i8⟩
  | .local _ .vmem, ⟨15, _⟩ => ⟨S1x2x256x5120, .i8⟩
  | .local _ .vmem, ⟨16, _⟩ => ⟨S1x2x40x256, .f32⟩
  | .local _ .vmem, ⟨17, _⟩ => ⟨S1x2x40x256, .f32⟩
  | .local _ .vmem, ⟨18, _⟩ => ⟨S1x2x256x5120, .fp8e4m3⟩
  | .local _ .vmem, ⟨19, _⟩ => ⟨S1x2x256x5120, .fp8e4m3⟩
  | .local _ .vmem, ⟨20, _⟩ => ⟨S1x2x256, .f32⟩
  | .local _ .vmem, ⟨21, _⟩ => ⟨S1x2x256, .f32⟩
  | .local _ .vmem, ⟨22, _⟩ => ⟨S1x2x64x256, .f32⟩
  | .local _ .vmem, ⟨23, _⟩ => ⟨S1x2x64x256, .f32⟩
  | .local _ .vmem, ⟨24, _⟩ => ⟨S1x1x256, .f32⟩
  | .local _ .vmem, ⟨25, _⟩ => ⟨S1x1x256, .f32⟩
  | .local _ .vmem, ⟨26, _⟩ => ⟨S1x1x256, .f32⟩
  | .local _ .vmem, ⟨27, _⟩ => ⟨S1x1x256, .f32⟩
  | .local _ .vmem, ⟨28, _⟩ => ⟨S2x256x5120, .f32⟩
  | .local _ .vmem, ⟨29, _⟩ => ⟨S2x256x128, .f32⟩
  | .local _ .vmem, ⟨30, _⟩ => ⟨S2x256x128, .f32⟩
  | .local _ .vmem, ⟨31, _⟩ => ⟨S64x256, .f32⟩
  | .local _ .smem, ⟨0, _⟩ => ⟨S1x1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev main_v8_5 : Ref sig .tc := ⟨.hbm, 24, rfl⟩
abbrev main_v8_6 : Ref sig .tc := ⟨.hbm, 25, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![5, 15], ![false, false]⟩

@[reducible] def k0_t1_loop : Scf.Loop 32 :=
  let c0_i32 : BitVec 32 := 0#32
  let c20_i32 : BitVec 32 := 20#32
  let v5 : BitVec 32 := Scalar.addi c0_i32 c20_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg24 : BitVec 32 := Scf.iv c0_i32 c1_i32 k0_t1
  let c256_i32 : BitVec 32 := 256#32
  let v153 : BitVec 32 := Scalar.muli arg24 c256_i32
  v153
def k0_off1 (k0_t1 : Fin k0_t1_loop.trips) : Fin 4 → Nat :=
  let c0_126 : Index := 0#32
  let c0_127 : Index := 0#32
  let c0_128 : Index := 0#32
  let c0_i32 : BitVec 32 := 0#32
  let c1_i32 : BitVec 32 := 1#32
  let arg24 : BitVec 32 := Scf.iv c0_i32 c1_i32 k0_t1
  let c256_i32 : BitVec 32 := 256#32
  let v153 : BitVec 32 := Scalar.muli arg24 c256_i32
  let v154 : BitVec 32 := v153
  let v155 : Index := Scalar.indexCast v154
  ![0, 0, 0, v155.toNat]
@[reducible] def k0_t2_loop : Scf.Loop 32 :=
  let c0_i32_8 : BitVec 32 := 0#32
  let c20_i32_9 : BitVec 32 := 20#32
  let v12 : BitVec 32 := Scalar.addi c0_i32_8 c20_i32_9
  let c1_i32_10 : BitVec 32 := 1#32
  ⟨c0_i32_8, v12, c1_i32_10⟩
def k0_mult2 (k0_t2 : Fin k0_t2_loop.trips) : BitVec 32 :=
  let c0_i32_8 : BitVec 32 := 0#32
  let c1_i32_10 : BitVec 32 := 1#32
  let arg24 : BitVec 32 := Scf.iv c0_i32_8 c1_i32_10 k0_t2
  let c256_i32 : BitVec 32 := 256#32
  let v153 : BitVec 32 := Scalar.muli arg24 c256_i32
  v153
def k0_off2 (k0_t2 : Fin k0_t2_loop.trips) : Fin 4 → Nat :=
  let c0_126 : Index := 0#32
  let c0_127 : Index := 0#32
  let c0_128 : Index := 0#32
  let c0_i32_8 : BitVec 32 := 0#32
  let c1_i32_10 : BitVec 32 := 1#32
  let arg24 : BitVec 32 := Scf.iv c0_i32_8 c1_i32_10 k0_t2
  let c256_i32 : BitVec 32 := 256#32
  let v153 : BitVec 32 := Scalar.muli arg24 c256_i32
  let v154 : BitVec 32 := v153
  let v155 : Index := Scalar.indexCast v154
  ![0, 0, 0, v155.toNat]
@[reducible] def k0_t3_loop : Scf.Loop 32 :=
  let c0_i32_17 : BitVec 32 := 0#32
  let c20_i32_18 : BitVec 32 := 20#32
  let v24 : BitVec 32 := Scalar.addi c0_i32_17 c20_i32_18
  let c1_i32_19 : BitVec 32 := 1#32
  ⟨c0_i32_17, v24, c1_i32_19⟩
def k0_mult3 (k0_t3 : Fin k0_t3_loop.trips) : BitVec 32 :=
  let c0_i32_17 : BitVec 32 := 0#32
  let c1_i32_19 : BitVec 32 := 1#32
  let arg24 : BitVec 32 := Scf.iv c0_i32_17 c1_i32_19 k0_t3
  let c256_i32 : BitVec 32 := 256#32
  let v153 : BitVec 32 := Scalar.muli arg24 c256_i32
  v153
def k0_off3 (k0_t3 : Fin k0_t3_loop.trips) : Fin 4 → Nat :=
  let c0_126 : Index := 0#32
  let c1_127 : Index := 1#32
  let c0_128 : Index := 0#32
  let c0_i32_17 : BitVec 32 := 0#32
  let c1_i32_19 : BitVec 32 := 1#32
  let arg24 : BitVec 32 := Scf.iv c0_i32_17 c1_i32_19 k0_t3
  let c256_i32 : BitVec 32 := 256#32
  let v153 : BitVec 32 := Scalar.muli arg24 c256_i32
  let v154 : BitVec 32 := v153
  let v155 : Index := Scalar.indexCast v154
  ![0, 1, 0, v155.toNat]
@[reducible] def k0_t4_loop : Scf.Loop 32 :=
  let c0_i32_24 : BitVec 32 := 0#32
  let c20_i32_25 : BitVec 32 := 20#32
  let v31 : BitVec 32 := Scalar.addi c0_i32_24 c20_i32_25
  let c1_i32_26 : BitVec 32 := 1#32
  ⟨c0_i32_24, v31, c1_i32_26⟩
def k0_mult4 (k0_t4 : Fin k0_t4_loop.trips) : BitVec 32 :=
  let c0_i32_24 : BitVec 32 := 0#32
  let c1_i32_26 : BitVec 32 := 1#32
  let arg24 : BitVec 32 := Scf.iv c0_i32_24 c1_i32_26 k0_t4
  let c256_i32 : BitVec 32 := 256#32
  let v153 : BitVec 32 := Scalar.muli arg24 c256_i32
  v153
def k0_off4 (k0_t4 : Fin k0_t4_loop.trips) : Fin 4 → Nat :=
  let c0_126 : Index := 0#32
  let c1_127 : Index := 1#32
  let c0_128 : Index := 0#32
  let c0_i32_24 : BitVec 32 := 0#32
  let c1_i32_26 : BitVec 32 := 1#32
  let arg24 : BitVec 32 := Scf.iv c0_i32_24 c1_i32_26 k0_t4
  let c256_i32 : BitVec 32 := 256#32
  let v153 : BitVec 32 := Scalar.muli arg24 c256_i32
  let v154 : BitVec 32 := v153
  let v155 : Index := Scalar.indexCast v154
  ![0, 1, 0, v155.toNat]
@[reducible] def k0_t5_loop : Scf.Loop 32 :=
  let c0_i32_40 : BitVec 32 := 0#32
  let c20_i32_41 : BitVec 32 := 20#32
  let v50 : BitVec 32 := Scalar.addi c0_i32_40 c20_i32_41
  let c1_i32_42 : BitVec 32 := 1#32
  ⟨c0_i32_40, v50, c1_i32_42⟩
def k0_mult5 (k0_t5 : Fin k0_t5_loop.trips) : BitVec 32 :=
  let c0_i32_40 : BitVec 32 := 0#32
  let c1_i32_42 : BitVec 32 := 1#32
  let arg24 : BitVec 32 := Scf.iv c0_i32_40 c1_i32_42 k0_t5
  let c256_i32 : BitVec 32 := 256#32
  let v153 : BitVec 32 := Scalar.muli arg24 c256_i32
  v153
def k0_off5 (k0_t5 : Fin k0_t5_loop.trips) : Fin 2 → Nat :=
  let c0_126 : Index := 0#32
  let c0_i32_40 : BitVec 32 := 0#32
  let c1_i32_42 : BitVec 32 := 1#32
  let arg24 : BitVec 32 := Scf.iv c0_i32_40 c1_i32_42 k0_t5
  let c256_i32 : BitVec 32 := 256#32
  let v153 : BitVec 32 := Scalar.muli arg24 c256_i32
  let v154 : BitVec 32 := v153
  let v155 : Index := Scalar.indexCast v154
  ![0, v155.toNat]
def k0_off6 (k0_t5 : Fin k0_t5_loop.trips) : Fin 2 → Nat :=
  let c0_128 : Index := 0#32
  let c0_i32_40 : BitVec 32 := 0#32
  let c1_i32_42 : BitVec 32 := 1#32
  let arg24 : BitVec 32 := Scf.iv c0_i32_40 c1_i32_42 k0_t5
  let c256_i32 : BitVec 32 := 256#32
  let v153 : BitVec 32 := Scalar.muli arg24 c256_i32
  let v154 : BitVec 32 := v153
  let v160 : Index := Scalar.indexCast v154
  ![0, v160.toNat]
def k0_off7 (k0_t5 : Fin k0_t5_loop.trips) : Fin 4 → Nat :=
  let c0_130 : Index := 0#32
  let c0_131 : Index := 0#32
  let c0_132 : Index := 0#32
  let c0_i32_40 : BitVec 32 := 0#32
  let c1_i32_42 : BitVec 32 := 1#32
  let arg24 : BitVec 32 := Scf.iv c0_i32_40 c1_i32_42 k0_t5
  let c256_i32 : BitVec 32 := 256#32
  let v153 : BitVec 32 := Scalar.muli arg24 c256_i32
  let v154 : BitVec 32 := v153
  let v170 : Index := Scalar.indexCast v154
  ![0, 0, 0, v170.toNat]
def k0_off8 (k0_t5 : Fin k0_t5_loop.trips) : Fin 3 → Nat :=
  let c0_163 : Index := 0#32
  let c0_164 : Index := 0#32
  let c0_i32_40 : BitVec 32 := 0#32
  let c1_i32_42 : BitVec 32 := 1#32
  let arg24 : BitVec 32 := Scf.iv c0_i32_40 c1_i32_42 k0_t5
  let c256_i32 : BitVec 32 := 256#32
  let v153 : BitVec 32 := Scalar.muli arg24 c256_i32
  let v154 : BitVec 32 := v153
  let v243 : Index := Scalar.indexCast v154
  ![0, 0, v243.toNat]
def k0_off9 (k0_t5 : Fin k0_t5_loop.trips) : Fin 3 → Nat :=
  let c0_174 : Index := 0#32
  let c0_175 : Index := 0#32
  let c0_i32_40 : BitVec 32 := 0#32
  let c1_i32_42 : BitVec 32 := 1#32
  let arg24 : BitVec 32 := Scf.iv c0_i32_40 c1_i32_42 k0_t5
  let c256_i32 : BitVec 32 := 256#32
  let v153 : BitVec 32 := Scalar.muli arg24 c256_i32
  let v154 : BitVec 32 := v153
  let v265 : Index := Scalar.indexCast v154
  ![0, 0, v265.toNat]
def k0_off10 (k0_t5 : Fin k0_t5_loop.trips) : Fin 4 → Nat :=
  let c0_176 : Index := 0#32
  let c1_177 : Index := 1#32
  let c0_178 : Index := 0#32
  let c0_i32_40 : BitVec 32 := 0#32
  let c1_i32_42 : BitVec 32 := 1#32
  let arg24 : BitVec 32 := Scf.iv c0_i32_40 c1_i32_42 k0_t5
  let c256_i32 : BitVec 32 := 256#32
  let v153 : BitVec 32 := Scalar.muli arg24 c256_i32
  let v154 : BitVec 32 := v153
  let v269 : Index := Scalar.indexCast v154
  ![0, 1, 0, v269.toNat]
def k0_off11 (k0_t5 : Fin k0_t5_loop.trips) : Fin 3 → Nat :=
  let c1_221 : Index := 1#32
  let c0_222 : Index := 0#32
  let c0_i32_40 : BitVec 32 := 0#32
  let c1_i32_42 : BitVec 32 := 1#32
  let arg24 : BitVec 32 := Scf.iv c0_i32_40 c1_i32_42 k0_t5
  let c256_i32 : BitVec 32 := 256#32
  let v153 : BitVec 32 := Scalar.muli arg24 c256_i32
  let v154 : BitVec 32 := v153
  let v364 : Index := Scalar.indexCast v154
  ![1, 0, v364.toNat]
@[reducible] def k0_t6_loop : Scf.Loop 32 :=
  let c0_i32_54 : BitVec 32 := 0#32
  let c8_i32 : BitVec 32 := 8#32
  let v65 : BitVec 32 := Scalar.addi c0_i32_54 c8_i32
  let c1_i32_55 : BitVec 32 := 1#32
  ⟨c0_i32_54, v65, c1_i32_55⟩
def k0_mult6 (k0_t6 : Fin k0_t6_loop.trips) : BitVec 32 :=
  let c0_i32_54 : BitVec 32 := 0#32
  let c1_i32_55 : BitVec 32 := 1#32
  let arg24 : BitVec 32 := Scf.iv c0_i32_54 c1_i32_55 k0_t6
  let c640_i32 : BitVec 32 := 640#32
  let v153 : BitVec 32 := Scalar.muli arg24 c640_i32
  v153
def k0_off12 (k0_t6 : Fin k0_t6_loop.trips) : Fin 3 → Nat :=
  let c0_126 : Index := 0#32
  let c0_127 : Index := 0#32
  let c0_i32_54 : BitVec 32 := 0#32
  let c1_i32_55 : BitVec 32 := 1#32
  let arg24 : BitVec 32 := Scf.iv c0_i32_54 c1_i32_55 k0_t6
  let c640_i32 : BitVec 32 := 640#32
  let v153 : BitVec 32 := Scalar.muli arg24 c640_i32
  let v154 : BitVec 32 := v153
  let v155 : Index := Scalar.indexCast v154
  ![0, 0, v155.toNat]
def k0_off13 (k0_t6 : Fin k0_t6_loop.trips) : Fin 4 → Nat :=
  let c0_130 : Index := 0#32
  let c0_131 : Index := 0#32
  let c0_132 : Index := 0#32
  let c0_i32_54 : BitVec 32 := 0#32
  let c1_i32_55 : BitVec 32 := 1#32
  let arg24 : BitVec 32 := Scf.iv c0_i32_54 c1_i32_55 k0_t6
  let c640_i32 : BitVec 32 := 640#32
  let v153 : BitVec 32 := Scalar.muli arg24 c640_i32
  let v154 : BitVec 32 := v153
  let v165 : Index := Scalar.indexCast v154
  ![0, 0, 0, v165.toNat]
def k0_off14 (k0_t6 : Fin k0_t6_loop.trips) : Fin 2 → Nat :=
  let c0_135 : Index := 0#32
  let c0_i32_54 : BitVec 32 := 0#32
  let c1_i32_55 : BitVec 32 := 1#32
  let arg24 : BitVec 32 := Scf.iv c0_i32_54 c1_i32_55 k0_t6
  let c640_i32 : BitVec 32 := 640#32
  let v153 : BitVec 32 := Scalar.muli arg24 c640_i32
  let v154 : BitVec 32 := v153
  let v170 : Index := Scalar.indexCast v154
  ![0, v170.toNat]
@[reducible] def k0_t7_loop : Scf.Loop 32 :=
  let c0_i32_86 : BitVec 32 := 0#32
  let c8_i32_87 : BitVec 32 := 8#32
  let v108 : BitVec 32 := Scalar.addi c0_i32_86 c8_i32_87
  let c1_i32_88 : BitVec 32 := 1#32
  ⟨c0_i32_86, v108, c1_i32_88⟩
def k0_mult7 (k0_t7 : Fin k0_t7_loop.trips) : BitVec 32 :=
  let c0_i32_86 : BitVec 32 := 0#32
  let c1_i32_88 : BitVec 32 := 1#32
  let arg24 : BitVec 32 := Scf.iv c0_i32_86 c1_i32_88 k0_t7
  let c640_i32 : BitVec 32 := 640#32
  let v153 : BitVec 32 := Scalar.muli arg24 c640_i32
  v153
def k0_off15 (k0_t7 : Fin k0_t7_loop.trips) : Fin 3 → Nat :=
  let c1_126 : Index := 1#32
  let c0_127 : Index := 0#32
  let c0_i32_86 : BitVec 32 := 0#32
  let c1_i32_88 : BitVec 32 := 1#32
  let arg24 : BitVec 32 := Scf.iv c0_i32_86 c1_i32_88 k0_t7
  let c640_i32 : BitVec 32 := 640#32
  let v153 : BitVec 32 := Scalar.muli arg24 c640_i32
  let v154 : BitVec 32 := v153
  let v155 : Index := Scalar.indexCast v154
  ![1, 0, v155.toNat]
def k0_off16 (k0_t7 : Fin k0_t7_loop.trips) : Fin 4 → Nat :=
  let c0_130 : Index := 0#32
  let c1_131 : Index := 1#32
  let c0_132 : Index := 0#32
  let c0_i32_86 : BitVec 32 := 0#32
  let c1_i32_88 : BitVec 32 := 1#32
  let arg24 : BitVec 32 := Scf.iv c0_i32_86 c1_i32_88 k0_t7
  let c640_i32 : BitVec 32 := 640#32
  let v153 : BitVec 32 := Scalar.muli arg24 c640_i32
  let v154 : BitVec 32 := v153
  let v165 : Index := Scalar.indexCast v154
  ![0, 1, 0, v165.toNat]
def k0_off17 (k0_t7 : Fin k0_t7_loop.trips) : Fin 2 → Nat :=
  let c0_135 : Index := 0#32
  let c0_i32_86 : BitVec 32 := 0#32
  let c1_i32_88 : BitVec 32 := 1#32
  let arg24 : BitVec 32 := Scf.iv c0_i32_86 c1_i32_88 k0_t7
  let c640_i32 : BitVec 32 := 640#32
  let v153 : BitVec 32 := Scalar.muli arg24 c640_i32
  let v154 : BitVec 32 := v153
  let v170 : Index := Scalar.indexCast v154
  ![0, v170.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x64 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x256x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x5120 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x5120 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S64x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x2x256x5120 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x40x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x256x5120 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ReferenceIdeal.lean ====
abbrev S_ : Shape := ⟨0, ![]⟩
abbrev S5x3600x64 : Shape := ⟨3, ![5, 3600, 64]⟩
abbrev S64x5120 : Shape := ⟨2, ![64, 5120]⟩
abbrev S5120 : Shape := ⟨1, ![5120]⟩
abbrev S5x2x3600x5120 : Shape := ⟨4, ![5, 2, 3600, 5120]⟩
abbrev S5x5120 : Shape := ⟨2, ![5, 5120]⟩
abbrev S5120x64 : Shape := ⟨2, ![5120, 64]⟩
abbrev S64 : Shape := ⟨1, ![64]⟩
abbrev S1x1 : Shape := ⟨2, ![1, 1]⟩
abbrev S1x5120 : Shape := ⟨2, ![1, 5120]⟩
abbrev S1x64 : Shape := ⟨2, ![1, 64]⟩
abbrev S5x2x40x3600 : Shape := ⟨4, ![5, 2, 40, 3600]⟩
abbrev S5x2x3600 : Shape := ⟨3, ![5, 2, 3600]⟩
abbrev S5x2x64x3600 : Shape := ⟨4, ![5, 2, 64, 3600]⟩
abbrev S5x1x3600 : Shape := ⟨3, ![5, 1, 3600]⟩
abbrev S18000x64 : Shape := ⟨2, ![18000, 64]⟩
abbrev S18000x5120 : Shape := ⟨2, ![18000, 5120]⟩
abbrev S5x1x3600x5120 : Shape := ⟨4, ![5, 1, 3600, 5120]⟩
abbrev S5x2x3600x40x128 : Shape := ⟨5, ![5, 2, 3600, 40, 128]⟩
abbrev S5x2x3600x40 : Shape := ⟨4, ![5, 2, 3600, 40]⟩
abbrev S5x2x3600x40x1 : Shape := ⟨5, ![5, 2, 3600, 40, 1]⟩
abbrev S5x2x3600x1 : Shape := ⟨4, ![5, 2, 3600, 1]⟩
abbrev S5x1x1x5120 : Shape := ⟨4, ![5, 1, 1, 5120]⟩
abbrev S36000x5120 : Shape := ⟨2, ![36000, 5120]⟩
abbrev S36000x64 : Shape := ⟨2, ![36000, 64]⟩
abbrev S5x2x3600x64 : Shape := ⟨4, ![5, 2, 3600, 64]⟩
abbrev S1x1x1x64 : Shape := ⟨4, ![1, 1, 1, 64]⟩
abbrev S5x1x3600x64 : Shape := ⟨4, ![5, 1, 3600, 64]⟩
abbrev S5x3600 : Shape := ⟨2, ![5, 3600]⟩

abbrev nBuf : Space → Nat
  | .hbm => 23
  | .vmem => 18
  | .smem => 0
  | _ => 0

abbrev bufTy : (tb : Table) → Fin (tcTables nBuf tb) → BufTy
  | .hbm, ⟨0, _⟩ => ⟨S_, .f32⟩
  | .hbm, ⟨1, _⟩ => ⟨S5x3600x64, .fp8e4m3⟩
  | .hbm, ⟨2, _⟩ => ⟨S64x5120, .fp8e4m3⟩
  | .hbm, ⟨3, _⟩ => ⟨S5120, .f32⟩
  | .hbm, ⟨4, _⟩ => ⟨S5120, .f32⟩
  | .hbm, ⟨5, _⟩ => ⟨S5x2x3600x5120, .bf16⟩
  | .hbm, ⟨6, _⟩ => ⟨S5x5120, .f32⟩
  | .hbm, ⟨7, _⟩ => ⟨S5x5120, .f32⟩
  | .hbm, ⟨8, _⟩ => ⟨S5120x64, .fp8e4m3⟩
  | .hbm, ⟨9, _⟩ => ⟨S64, .f32⟩
  | .hbm, ⟨10, _⟩ => ⟨S64, .f32⟩
  | .hbm, ⟨11, _⟩ => ⟨S1x1, .f32⟩
  | .hbm, ⟨12, _⟩ => ⟨S1x5120, .f32⟩
  | .hbm, ⟨13, _⟩ => ⟨S1x5120, .f32⟩
  | .hbm, ⟨14, _⟩ => ⟨S1x64, .f32⟩
  | .hbm, ⟨15, _⟩ => ⟨S1x64, .f32⟩
  | .hbm, ⟨16, _⟩ => ⟨S5x2x3600x5120, .i8⟩
  | .hbm, ⟨17, _⟩ => ⟨S5x2x40x3600, .f32⟩
  | .hbm, ⟨18, _⟩ => ⟨S5x2x3600x5120, .fp8e4m3⟩
  | .hbm, ⟨19, _⟩ => ⟨S5x2x3600, .f32⟩
  | .hbm, ⟨20, _⟩ => ⟨S5x2x64x3600, .f32⟩
  | .hbm, ⟨21, _⟩ => ⟨S5x1x3600, .f32⟩
  | .hbm, ⟨22, _⟩ => ⟨S5x1x3600, .f32⟩
  | .local _ .vmem, ⟨0, _⟩ => ⟨S1x1, .f32⟩
  | .local _ .vmem, ⟨1, _⟩ => ⟨S5x3600x64, .fp8e4m3⟩
  | .local _ .vmem, ⟨2, _⟩ => ⟨S64x5120, .fp8e4m3⟩
  | .local _ .vmem, ⟨3, _⟩ => ⟨S1x5120, .f32⟩
  | .local _ .vmem, ⟨4, _⟩ => ⟨S1x5120, .f32⟩
  | .local _ .vmem, ⟨5, _⟩ => ⟨S5x2x3600x5120, .bf16⟩
  | .local _ .vmem, ⟨6, _⟩ => ⟨S5x5120, .f32⟩
  | .local _ .vmem, ⟨7, _⟩ => ⟨S5x5120, .f32⟩
  | .local _ .vmem, ⟨8, _⟩ => ⟨S5120x64, .fp8e4m3⟩
  | .local _ .vmem, ⟨9, _⟩ => ⟨S1x64, .f32⟩
  | .local _ .vmem, ⟨10, _⟩ => ⟨S1x64, .f32⟩
  | .local _ .vmem, ⟨11, _⟩ => ⟨S5x2x3600x5120, .i8⟩
  | .local _ .vmem, ⟨12, _⟩ => ⟨S5x2x40x3600, .f32⟩
  | .local _ .vmem, ⟨13, _⟩ => ⟨S5x2x3600x5120, .fp8e4m3⟩
  | .local _ .vmem, ⟨14, _⟩ => ⟨S5x2x3600, .f32⟩
  | .local _ .vmem, ⟨15, _⟩ => ⟨S5x2x64x3600, .f32⟩
  | .local _ .vmem, ⟨16, _⟩ => ⟨S5x1x3600, .f32⟩
  | .local _ .vmem, ⟨17, _⟩ => ⟨S5x1x3600, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v5_3 : Ref sig .tc := ⟨.hbm, 19, rfl⟩
abbrev main_v5_4 : Ref sig .tc := ⟨.hbm, 20, rfl⟩
abbrev main_v5_5 : Ref sig .tc := ⟨.hbm, 21, rfl⟩
abbrev main_v5_6 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x3600x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x2x3600x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5120x64 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S5x2x3600x5120 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S5x2x40x3600 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S5x2x3600x5120 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S5x2x3600 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S5x2x64x3600 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S5x1x3600 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S5x1x3600 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== PatchKernel.lean ====
abbrev S5x16x1x90x160 : Shape := ⟨5, ![5, 16, 1, 90, 160]⟩
abbrev S_ : Shape := ⟨0, ![]⟩
abbrev S5x16x90x160 : Shape := ⟨4, ![5, 16, 90, 160]⟩
abbrev S5x16x160x90 : Shape := ⟨4, ![5, 16, 160, 90]⟩
abbrev S1x1 : Shape := ⟨2, ![1, 1]⟩
abbrev S1x16x160x90 : Shape := ⟨4, ![1, 16, 160, 90]⟩

abbrev nBuf : Space → Nat
  | .hbm => 6
  | .vmem => 4
  | .smem => 1
  | _ => 0

abbrev bufTy : (tb : Table) → Fin (tcTables nBuf tb) → BufTy
  | .hbm, ⟨0, _⟩ => ⟨S5x16x1x90x160, .f32⟩
  | .hbm, ⟨1, _⟩ => ⟨S_, .f32⟩
  | .hbm, ⟨2, _⟩ => ⟨S5x16x90x160, .f32⟩
  | .hbm, ⟨3, _⟩ => ⟨S5x16x160x90, .f32⟩
  | .hbm, ⟨4, _⟩ => ⟨S1x1, .f32⟩
  | .hbm, ⟨5, _⟩ => ⟨S5x16x160x90, .fp8e4m3⟩
  | .local _ .vmem, ⟨0, _⟩ => ⟨S1x16x160x90, .f32⟩
  | .local _ .vmem, ⟨1, _⟩ => ⟨S1x16x160x90, .f32⟩
  | .local _ .vmem, ⟨2, _⟩ => ⟨S1x16x160x90, .fp8e4m3⟩
  | .local _ .vmem, ⟨3, _⟩ => ⟨S1x16x160x90, .fp8e4m3⟩
  | .local _ .smem, ⟨0, _⟩ => ⟨S1x1, .f32⟩
  | _, _ => ⟨S5x16x1x90x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x160x90 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x160x90 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PatchReferenceIdeal.lean ====
abbrev S5x16x1x90x160 : Shape := ⟨5, ![5, 16, 1, 90, 160]⟩
abbrev S_ : Shape := ⟨0, ![]⟩
abbrev S5x16x90x160 : Shape := ⟨4, ![5, 16, 90, 160]⟩
abbrev S5x16x160x90 : Shape := ⟨4, ![5, 16, 160, 90]⟩
abbrev S1x1 : Shape := ⟨2, ![1, 1]⟩

abbrev nBuf : Space → Nat
  | .hbm => 6
  | .vmem => 3
  | .smem => 0
  | _ => 0

abbrev bufTy : (tb : Table) → Fin (tcTables nBuf tb) → BufTy
  | .hbm, ⟨0, _⟩ => ⟨S5x16x1x90x160, .f32⟩
  | .hbm, ⟨1, _⟩ => ⟨S_, .f32⟩
  | .hbm, ⟨2, _⟩ => ⟨S5x16x90x160, .f32⟩
  | .hbm, ⟨3, _⟩ => ⟨S5x16x160x90, .f32⟩
  | .hbm, ⟨4, _⟩ => ⟨S1x1, .f32⟩
  | .hbm, ⟨5, _⟩ => ⟨S5x16x160x90, .fp8e4m3⟩
  | .local _ .vmem, ⟨0, _⟩ => ⟨S5x16x160x90, .f32⟩
  | .local _ .vmem, ⟨1, _⟩ => ⟨S1x1, .f32⟩
  | .local _ .vmem, ⟨2, _⟩ => ⟨S5x16x160x90, .fp8e4m3⟩
  | _, _ => ⟨S5x16x1x90x160, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S5x16x160x90 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x16x160x90 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== GuideKernel.lean ====
abbrev S5 : Shape := ⟨1, ![5]⟩
abbrev S5x2x64x3600 : Shape := ⟨4, ![5, 2, 64, 3600]⟩
abbrev S5x1x3600 : Shape := ⟨3, ![5, 1, 3600]⟩
abbrev S5x1 : Shape := ⟨2, ![5, 1]⟩
abbrev S5x64x3600 : Shape := ⟨3, ![5, 64, 3600]⟩
abbrev S5x1x128 : Shape := ⟨3, ![5, 1, 128]⟩
abbrev S1x2x64x3600 : Shape := ⟨4, ![1, 2, 64, 3600]⟩
abbrev S1x1x3600 : Shape := ⟨3, ![1, 1, 3600]⟩
abbrev S1x64x3600 : Shape := ⟨3, ![1, 64, 3600]⟩
abbrev S1x1x128 : Shape := ⟨3, ![1, 1, 128]⟩
abbrev S1x3600 : Shape := ⟨2, ![1, 3600]⟩
abbrev S1 : Shape := ⟨1, ![1]⟩
abbrev S1x1 : Shape := ⟨2, ![1, 1]⟩
abbrev S1x128 : Shape := ⟨2, ![1, 128]⟩
abbrev S1x1x64x3600 : Shape := ⟨4, ![1, 1, 64, 3600]⟩
abbrev S64x3600 : Shape := ⟨2, ![64, 3600]⟩

abbrev nBuf : Space → Nat
  | .hbm => 7
  | .vmem => 10
  | .smem => 1
  | _ => 0

abbrev bufTy : (tb : Table) → Fin (tcTables nBuf tb) → BufTy
  | .hbm, ⟨0, _⟩ => ⟨S5, .f32⟩
  | .hbm, ⟨1, _⟩ => ⟨S5x2x64x3600, .f32⟩
  | .hbm, ⟨2, _⟩ => ⟨S5x1x3600, .f32⟩
  | .hbm, ⟨3, _⟩ => ⟨S5x1x3600, .f32⟩
  | .hbm, ⟨4, _⟩ => ⟨S5x1, .f32⟩
  | .hbm, ⟨5, _⟩ => ⟨S5x64x3600, .f32⟩
  | .hbm, ⟨6, _⟩ => ⟨S5x1x128, .f32⟩
  | .local _ .vmem, ⟨0, _⟩ => ⟨S1x2x64x3600, .f32⟩
  | .local _ .vmem, ⟨1, _⟩ => ⟨S1x2x64x3600, .f32⟩
  | .local _ .vmem, ⟨2, _⟩ => ⟨S1x1x3600, .f32⟩
  | .local _ .vmem, ⟨3, _⟩ => ⟨S1x1x3600, .f32⟩
  | .local _ .vmem, ⟨4, _⟩ => ⟨S1x1x3600, .f32⟩
  | .local _ .vmem, ⟨5, _⟩ => ⟨S1x1x3600, .f32⟩
  | .local _ .vmem, ⟨6, _⟩ => ⟨S1x64x3600, .f32⟩
  | .local _ .vmem, ⟨7, _⟩ => ⟨S1x64x3600, .f32⟩
  | .local _ .vmem, ⟨8, _⟩ => ⟨S1x1x128, .f32⟩
  | .local _ .vmem, ⟨9, _⟩ => ⟨S1x1x128, .f32⟩
  | .local _ .smem, ⟨0, _⟩ => ⟨S5x1, .f32⟩
  | _, _ => ⟨S5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![5], ![false]⟩

def k0_off1 (i : grid0.Coords) : Fin 2 → Nat :=
  let arg0 : BitVec 32 := BitVec.ofNat 32 (i 0).val
  let v22 : Index := Scalar.indexCast arg0
  let c0_14 : Index := 0#32
  ![v22.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S5x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2x64x3600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x3600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x3600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GuideReferenceIdeal.lean ====
abbrev S5 : Shape := ⟨1, ![5]⟩
abbrev S5x2x64x3600 : Shape := ⟨4, ![5, 2, 64, 3600]⟩
abbrev S5x1x3600 : Shape := ⟨3, ![5, 1, 3600]⟩
abbrev S5x1x64x3600 : Shape := ⟨4, ![5, 1, 64, 3600]⟩
abbrev S5x64x3600 : Shape := ⟨3, ![5, 64, 3600]⟩
abbrev S5x3600 : Shape := ⟨2, ![5, 3600]⟩
abbrev S_ : Shape := ⟨0, ![]⟩
abbrev S5x1x1 : Shape := ⟨3, ![5, 1, 1]⟩
abbrev S5x1x128 : Shape := ⟨3, ![5, 1, 128]⟩

abbrev nBuf : Space → Nat
  | .hbm => 32
  | .vmem => 0
  | .smem => 0
  | _ => 0

abbrev bufTy : (tb : Table) → Fin (tcTables nBuf tb) → BufTy
  | .hbm, ⟨0, _⟩ => ⟨S5, .f32⟩
  | .hbm, ⟨1, _⟩ => ⟨S5x2x64x3600, .f32⟩
  | .hbm, ⟨2, _⟩ => ⟨S5x1x3600, .f32⟩
  | .hbm, ⟨3, _⟩ => ⟨S5x1x3600, .f32⟩
  | .hbm, ⟨4, _⟩ => ⟨S5x1x64x3600, .f32⟩
  | .hbm, ⟨5, _⟩ => ⟨S5x64x3600, .f32⟩
  | .hbm, ⟨6, _⟩ => ⟨S5x1x64x3600, .f32⟩
  | .hbm, ⟨7, _⟩ => ⟨S5x64x3600, .f32⟩
  | .hbm, ⟨8, _⟩ => ⟨S5x3600, .f32⟩
  | .hbm, ⟨9, _⟩ => ⟨S_, .f32⟩
  | .hbm, ⟨10, _⟩ => ⟨S5, .f32⟩
  | .hbm, ⟨11, _⟩ => ⟨S5x3600, .f32⟩
  | .hbm, ⟨12, _⟩ => ⟨S_, .f32⟩
  | .hbm, ⟨13, _⟩ => ⟨S5, .f32⟩
  | .hbm, ⟨14, _⟩ => ⟨S_, .f32⟩
  | .hbm, ⟨15, _⟩ => ⟨S5, .f32⟩
  | .hbm, ⟨16, _⟩ => ⟨S5, .i1⟩
  | .hbm, ⟨17, _⟩ => ⟨S_, .f32⟩
  | .hbm, ⟨18, _⟩ => ⟨S_, .f32⟩
  | .hbm, ⟨19, _⟩ => ⟨S5, .f32⟩
  | .hbm, ⟨20, _⟩ => ⟨S5, .f32⟩
  | .hbm, ⟨21, _⟩ => ⟨S5, .f32⟩
  | .hbm, ⟨22, _⟩ => ⟨S5x1x1, .f32⟩
  | .hbm, ⟨23, _⟩ => ⟨S5x64x3600, .f32⟩
  | .hbm, ⟨24, _⟩ => ⟨S5x64x3600, .f32⟩
  | .hbm, ⟨25, _⟩ => ⟨S5x1x1, .f32⟩
  | .hbm, ⟨26, _⟩ => ⟨S5x64x3600, .f32⟩
  | .hbm, ⟨27, _⟩ => ⟨S5x64x3600, .f32⟩
  | .hbm, ⟨28, _⟩ => ⟨S5x64x3600, .f32⟩
  | .hbm, ⟨29, _⟩ => ⟨S5x64x3600, .f32⟩
  | .hbm, ⟨30, _⟩ => ⟨S5x1x1, .f32⟩
  | .hbm, ⟨31, _⟩ => ⟨S5x1x128, .f32⟩
  | _, _ => ⟨S5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== SolverKernel.lean ====
abbrev S5x16x1x90x160 : Shape := ⟨5, ![5, 16, 1, 90, 160]⟩
abbrev S5x16x160x90 : Shape := ⟨4, ![5, 16, 160, 90]⟩
abbrev S_ : Shape := ⟨0, ![]⟩
abbrev S5 : Shape := ⟨1, ![5]⟩
abbrev S5x16x90x160 : Shape := ⟨4, ![5, 16, 90, 160]⟩
abbrev S5x1 : Shape := ⟨2, ![5, 1]⟩
abbrev S5x4 : Shape := ⟨2, ![5, 4]⟩
abbrev S1x16x160x90 : Shape := ⟨4, ![1, 16, 160, 90]⟩
abbrev S1x1 : Shape := ⟨2, ![1, 1]⟩

abbrev nBuf : Space → Nat
  | .hbm => 19
  | .vmem => 10
  | .smem => 1
  | _ => 0

abbrev bufTy : (tb : Table) → Fin (tcTables nBuf tb) → BufTy
  | .hbm, ⟨0, _⟩ => ⟨S5x16x1x90x160, .f32⟩
  | .hbm, ⟨1, _⟩ => ⟨S5x16x160x90, .f32⟩
  | .hbm, ⟨2, _⟩ => ⟨S5x16x1x90x160, .f32⟩
  | .hbm, ⟨3, _⟩ => ⟨S_, .f32⟩
  | .hbm, ⟨4, _⟩ => ⟨S5, .f32⟩
  | .hbm, ⟨5, _⟩ => ⟨S5, .f32⟩
  | .hbm, ⟨6, _⟩ => ⟨S5, .f32⟩
  | .hbm, ⟨7, _⟩ => ⟨S5x16x90x160, .f32⟩
  | .hbm, ⟨8, _⟩ => ⟨S5x16x160x90, .f32⟩
  | .hbm, ⟨9, _⟩ => ⟨S5x16x90x160, .f32⟩
  | .hbm, ⟨10, _⟩ => ⟨S5x16x160x90, .f32⟩
  | .hbm, ⟨11, _⟩ => ⟨S5, .f32⟩
  | .hbm, ⟨12, _⟩ => ⟨S5x1, .f32⟩
  | .hbm, ⟨13, _⟩ => ⟨S5x1, .f32⟩
  | .hbm, ⟨14, _⟩ => ⟨S5x1, .f32⟩
  | .hbm, ⟨15, _⟩ => ⟨S5x1, .f32⟩
  | .hbm, ⟨16, _⟩ => ⟨S5x4, .f32⟩
  | .hbm, ⟨17, _⟩ => ⟨S5x16x160x90, .f32⟩
  | .hbm, ⟨18, _⟩ => ⟨S5x16x160x90, .fp8e4m3⟩
  | .local _ .vmem, ⟨0, _⟩ => ⟨S1x16x160x90, .f32⟩
  | .local _ .vmem, ⟨1, _⟩ => ⟨S1x16x160x90, .f32⟩
  | .local _ .vmem, ⟨2, _⟩ => ⟨S1x16x160x90, .f32⟩
  | .local _ .vmem, ⟨3, _⟩ => ⟨S1x16x160x90, .f32⟩
  | .local _ .vmem, ⟨4, _⟩ => ⟨S1x16x160x90, .f32⟩
  | .local _ .vmem, ⟨5, _⟩ => ⟨S1x16x160x90, .f32⟩
  | .local _ .vmem, ⟨6, _⟩ => ⟨S1x16x160x90, .f32⟩
  | .local _ .vmem, ⟨7, _⟩ => ⟨S1x16x160x90, .f32⟩
  | .local _ .vmem, ⟨8, _⟩ => ⟨S1x16x160x90, .fp8e4m3⟩
  | .local _ .vmem, ⟨9, _⟩ => ⟨S1x16x160x90, .fp8e4m3⟩
  | .local _ .smem, ⟨0, _⟩ => ⟨S5x4, .f32⟩
  | _, _ => ⟨S5x16x1x90x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![5], ![false]⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v6 : Index := Scalar.indexCast arg0
  let c1 : Index := 1#32
  ![v6.toNat, 1]
def k0_off3 (i : grid0.Coords) : Fin 2 → Nat :=
  let arg0 : BitVec 32 := BitVec.ofNat 32 (i 0).val
  let v12 : Index := Scalar.indexCast arg0
  let c2 : Index := 2#32
  ![v12.toNat, 2]
def k0_off4 (i : grid0.Coords) : Fin 2 → Nat :=
  let arg0 : BitVec 32 := BitVec.ofNat 32 (i 0).val
  let v20 : Index := Scalar.indexCast arg0
  let c3 : Index := 3#32
  ![v20.toNat, 3]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S5x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x160x90 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x160x90 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x160x90 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x160x90 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x160x90 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SolverReferenceIdeal.lean ====
abbrev S5x16x1x90x160 : Shape := ⟨5, ![5, 16, 1, 90, 160]⟩
abbrev S5x16x160x90 : Shape := ⟨4, ![5, 16, 160, 90]⟩
abbrev S_ : Shape := ⟨0, ![]⟩
abbrev S5 : Shape := ⟨1, ![5]⟩
abbrev S5x16x90x160 : Shape := ⟨4, ![5, 16, 90, 160]⟩
abbrev S1x1 : Shape := ⟨2, ![1, 1]⟩
abbrev S5x1 : Shape := ⟨2, ![5, 1]⟩
abbrev S5x1x1x1 : Shape := ⟨4, ![5, 1, 1, 1]⟩

abbrev nBuf : Space → Nat
  | .hbm => 17
  | .vmem => 9
  | .smem => 0
  | _ => 0

abbrev bufTy : (tb : Table) → Fin (tcTables nBuf tb) → BufTy
  | .hbm, ⟨0, _⟩ => ⟨S5x16x1x90x160, .f32⟩
  | .hbm, ⟨1, _⟩ => ⟨S5x16x160x90, .f32⟩
  | .hbm, ⟨2, _⟩ => ⟨S5x16x1x90x160, .f32⟩
  | .hbm, ⟨3, _⟩ => ⟨S_, .f32⟩
  | .hbm, ⟨4, _⟩ => ⟨S5, .f32⟩
  | .hbm, ⟨5, _⟩ => ⟨S5, .f32⟩
  | .hbm, ⟨6, _⟩ => ⟨S5, .f32⟩
  | .hbm, ⟨7, _⟩ => ⟨S5x16x90x160, .f32⟩
  | .hbm, ⟨8, _⟩ => ⟨S5x16x160x90, .f32⟩
  | .hbm, ⟨9, _⟩ => ⟨S5x16x90x160, .f32⟩
  | .hbm, ⟨10, _⟩ => ⟨S5x16x160x90, .f32⟩
  | .hbm, ⟨11, _⟩ => ⟨S1x1, .f32⟩
  | .hbm, ⟨12, _⟩ => ⟨S5x1, .f32⟩
  | .hbm, ⟨13, _⟩ => ⟨S5x1, .f32⟩
  | .hbm, ⟨14, _⟩ => ⟨S5x1, .f32⟩
  | .hbm, ⟨15, _⟩ => ⟨S5x16x160x90, .f32⟩
  | .hbm, ⟨16, _⟩ => ⟨S5x16x160x90, .fp8e4m3⟩
  | .local _ .vmem, ⟨0, _⟩ => ⟨S5x16x160x90, .f32⟩
  | .local _ .vmem, ⟨1, _⟩ => ⟨S5x16x160x90, .f32⟩
  | .local _ .vmem, ⟨2, _⟩ => ⟨S5x16x160x90, .f32⟩
  | .local _ .vmem, ⟨3, _⟩ => ⟨S1x1, .f32⟩
  | .local _ .vmem, ⟨4, _⟩ => ⟨S5x1, .f32⟩
  | .local _ .vmem, ⟨5, _⟩ => ⟨S5x1, .f32⟩
  | .local _ .vmem, ⟨6, _⟩ => ⟨S5x1, .f32⟩
  | .local _ .vmem, ⟨7, _⟩ => ⟨S5x16x160x90, .f32⟩
  | .local _ .vmem, ⟨8, _⟩ => ⟨S5x16x160x90, .fp8e4m3⟩
  | _, _ => ⟨S5x16x1x90x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S5x16x160x90 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x16x160x90 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x16x160x90 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5x16x160x90 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x16x160x90 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== RelKernel.lean ====
abbrev S5x1x3600 : Shape := ⟨3, ![5, 1, 3600]⟩
abbrev S5x128 : Shape := ⟨2, ![5, 128]⟩
abbrev S5x3600 : Shape := ⟨2, ![5, 3600]⟩
abbrev S5 : Shape := ⟨1, ![5]⟩
abbrev S5x1 : Shape := ⟨2, ![5, 1]⟩

abbrev nBuf : Space → Nat
  | .hbm => 3
  | .vmem => 3
  | .smem => 0
  | _ => 0

abbrev bufTy : (tb : Table) → Fin (tcTables nBuf tb) → BufTy
  | .hbm, ⟨0, _⟩ => ⟨S5x1x3600, .f32⟩
  | .hbm, ⟨1, _⟩ => ⟨S5x1x3600, .f32⟩
  | .hbm, ⟨2, _⟩ => ⟨S5x128, .f32⟩
  | .local _ .vmem, ⟨0, _⟩ => ⟨S5x1x3600, .f32⟩
  | .local _ .vmem, ⟨1, _⟩ => ⟨S5x1x3600, .f32⟩
  | .local _ .vmem, ⟨2, _⟩ => ⟨S5x128, .f32⟩
  | _, _ => ⟨S5x1x3600, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S5x1x3600 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x1x3600 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== RelReferenceIdeal.lean ====
abbrev S5x1x3600 : Shape := ⟨3, ![5, 1, 3600]⟩
abbrev S5x3600 : Shape := ⟨2, ![5, 3600]⟩
abbrev S_ : Shape := ⟨0, ![]⟩
abbrev S5 : Shape := ⟨1, ![5]⟩
abbrev S5x1 : Shape := ⟨2, ![5, 1]⟩
abbrev S5x128 : Shape := ⟨2, ![5, 128]⟩

abbrev nBuf : Space → Nat
  | .hbm => 18
  | .vmem => 0
  | .smem => 0
  | _ => 0

abbrev bufTy : (tb : Table) → Fin (tcTables nBuf tb) → BufTy
  | .hbm, ⟨0, _⟩ => ⟨S5x1x3600, .f32⟩
  | .hbm, ⟨1, _⟩ => ⟨S5x1x3600, .f32⟩
  | .hbm, ⟨2, _⟩ => ⟨S5x3600, .f32⟩
  | .hbm, ⟨3, _⟩ => ⟨S_, .f32⟩
  | .hbm, ⟨4, _⟩ => ⟨S5, .f32⟩
  | .hbm, ⟨5, _⟩ => ⟨S5x3600, .f32⟩
  | .hbm, ⟨6, _⟩ => ⟨S_, .f32⟩
  | .hbm, ⟨7, _⟩ => ⟨S5, .f32⟩
  | .hbm, ⟨8, _⟩ => ⟨S_, .f32⟩
  | .hbm, ⟨9, _⟩ => ⟨S5, .f32⟩
  | .hbm, ⟨10, _⟩ => ⟨S5, .i1⟩
  | .hbm, ⟨11, _⟩ => ⟨S_, .f32⟩
  | .hbm, ⟨12, _⟩ => ⟨S_, .f32⟩
  | .hbm, ⟨13, _⟩ => ⟨S5, .f32⟩
  | .hbm, ⟨14, _⟩ => ⟨S5, .f32⟩
  | .hbm, ⟨15, _⟩ => ⟨S5, .f32⟩
  | .hbm, ⟨16, _⟩ => ⟨S5x1, .f32⟩
  | .hbm, ⟨17, _⟩ => ⟨S5x128, .f32⟩
  | _, _ => ⟨S5x1x3600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== Proof.Frame.Body.lean ====
module

public import proofs.«01_k».proof.Proof.Gen.Kernel.Frame
public import proofs.«01_k».proof.Proof.Gen.Kernel.Loops

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The body of the kernel, run once, with nothing said of what it writes

The staging buffers by name, the arguments unchanged once the pipeline has run, and the body's triple over buffers of
any contents. -/

set_option maxHeartbeats 1080000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 3 rfl).trans ((hA c 3).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 2 rfl).trans ((hA c 2).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The kernel body on any staging memrefs: a subtype the run finds -/

/-- Each window's current staging memref at point `t`, spelled as the pipeline passes it (`bodyAt0`), and its wholeness. -/
abbrev ms0_0 (t : Fin cfg0.N) : Memref sig .tc .smem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x64 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2x256x5120 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x5120 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x5120 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x5120 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x5120 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x5120 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x5120 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2x256x5120 .i8 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2x40x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x2x256x5120 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x2x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x2x64x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x1x256 .f32 := win0_17.stage (cfg0.slots t 17)
abbrev hs0_17 (t : Fin cfg0.N) : (ms0_17 t).IsWhole := hstage0_17 ((cfg0.slots t 17).cast nbuf0_17)
/-- The scratch operands: whole scoped buffers of the kernel's own, passed beside the windows. -/
abbrev scM0_0 : Memref sig .tc .vmem S2x256x5120 .f32 := Memref.whole cc0_scratch0
abbrev scM0_1 : Memref sig .tc .vmem S2x256x128 .f32 := Memref.whole cc0_scratch1
abbrev scM0_2 : Memref sig .tc .vmem S2x256x128 .f32 := Memref.whole cc0_scratch2
abbrev scM0_3 : Memref sig .tc .vmem S64x256 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

-- (the run's proof term is large: checking it walks past the default budget)
set_option maxHeartbeats 1000000 in
/-- The body's triple: on whole staging memrefs — the inputs' at their contents,
    the FORGOTTEN outputs' (11, 12, 13, 14, 15, 16, 17) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole)
    (x0 : Vec F S1x1 .f32) (x1 : Vec F S1x256x64 .fp8e4m3) (x2 : Vec F S1x2x256x5120 .bf16) (x3 : Vec F S64x5120 .fp8e4m3) (x4 : Vec F S1x5120 .f32) (x5 : Vec F S1x5120 .f32) (x6 : Vec F S1x1x5120 .f32) (x7 : Vec F S1x1x5120 .f32) (x8 : Vec F S64x5120 .fp8e4m3) (x9 : Vec F S64x1 .f32) (x10 : Vec F S64x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_cond i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_cond_eq_skeleton]; unfold cc0_cond_skel
    simp only [k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Hand

end
-- ==== Proof.Frame.Kernel.lean ====
module

public import proofs.«01_k».proof.Proof.Frame.Body

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The kernel as compiled runs to the end and leaves its arguments alone

The last block of tokens overhangs the arrays, so the windows of the codes and of the block output hold cells no
transfer filled: nothing is said of them here, and nothing of the results. -/

/-! ## The pipeline's proof data -/

/-- The output windows this certificate FORGETS (11, 12, 13, 14, 15, 16, 17): nothing reads what the kernel leaves in them, so nothing
    of it is named (Lib/Pipeline/Dat.lean `Dat.toRForget`). -/
def forgets0 : Fin 18 → Bool := fun w => w.val == 1 || w.val == 2 || w.val == 11 || w.val == 12 || w.val == 13 || w.val == 14 || w.val == 15 || w.val == 16 || w.val == 17

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨2, h⟩ => Pipeline.Dat.unnamed (cfg := cfg0) ⟨2, h⟩ t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨_ + 18, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare d)
    ∗ (∃ d, owns (c : Thread nD τ) (ms0_2 t) fullShare d)
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare d)
    ∗ (∃ d, owns (c : Thread nD τ) (ms0_2 t) fullShare d)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_3, after0_4, after0_5, after0_6, after0_7, after0_8, after0_9, after0_10]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((kernelRun0_A c (grid0.coords t) _ _ _ _ _ _ _ _ _ _ _ _ _ _ _ _ _ _ _ _ _ _ _ _ _ _ _ _ _ _ _ _ _ _ _ _ _ _ _ _ _ _ _ _ (iblk m c 0 t) d1 d2 (iblk m c 3 t) (iblk m c 4 t) (iblk m c 5 t) (iblk m c 6 t) (iblk m c 7 t) (iblk m c 8 t) (iblk m c 9 t) (iblk m c 10 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexists _; iexact H1
  isplitl [H2]; · iexists _; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 11, 12, 13, 14, 15, 16, 17) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

end Cert.Kernel.Hand

end
-- ==== Proof.Value.Rows.lean ====
module

public import Idealize.ShloMosaic.Lib.Pointwise

@[expose] public section

noncomputable section

/-! # One token's row, over the extended reals

What both programs compute for one token of one branch, as functions of the token's patch codes `x`, its hidden row `h`
and the weights `P`; and the three regroupings the kernel makes of a row of 5120 channels: a sum and a maximum taken in
20 chunks of 256 channels folded to 128 lanes, and a sum taken in 8 chunks of 640. -/

namespace Cert.Rows

open Idealize.ShloMosaic
open scoped BigOperators

/-- The weights and per-batch rows one token meets: the patch scale, the embedding's weights, scales and bias, the head's
    gain and shift, and the head's weights, scales and bias. -/
structure Params where
  s : EReal
  we : Fin 64 → Fin 5120 → EReal
  se : Fin 5120 → EReal
  be : Fin 5120 → EReal
  hg : Fin 5120 → EReal
  hs : Fin 5120 → EReal
  wh : Fin 64 → Fin 5120 → EReal
  sh : Fin 64 → EReal
  bh : Fin 64 → EReal

/-- The element the reductions by maximum start from: minus infinity. -/
abbrev NI : EReal := Ideal.ofBits .f32 0xFF800000#32
/-- The absolute value. -/
abbrev abs' (a : EReal) : EReal := max a (-a)
/-- The scale of a group whose largest magnitude is `a`: 1 for a zero group, else `a` over the largest code. -/
def scaleOf (q : BitVec 32) (a : EReal) : EReal := if a = 0 then 1 else Ideal.div a (Ideal.ofBits .f32 q)

section
variable (P : Params) (x : Fin 64 → EReal) (h : Fin 5120 → EReal)

/-- The token's embedding at channel `c`. -/
def embed (c : Fin 5120) : EReal := (∑ k, x k * P.we k c) * P.s * P.se c + P.be c
/-- The residual the cache keeps: hidden less embedding. -/
def resid (c : Fin 5120) : EReal := h c - embed P x c
/-- Channel `l` of group `g`. -/
def chan (g : Fin 40) (l : Fin 128) : Fin 5120 := ⟨g.val * 128 + l.val, by omega⟩
/-- The group of a channel. -/
def grp (c : Fin 5120) : Fin 40 := ⟨c.val / 128, by omega⟩
/-- The largest magnitude of the residual in group `g`. -/
def gmax (g : Fin 40) : EReal := Finset.univ.fold max NI fun l : Fin 128 => abs' (resid P x h (chan g l))
/-- The group's scale. -/
def gscale (g : Fin 40) : EReal := scaleOf 1123942400#32 (gmax P x h g)
/-- A value rounded and clipped to the int8 codes, before its conversion. -/
def quant (v s : EReal) : EReal :=
  min (Ideal.ofBits .f32 1123942400#32) (max (Ideal.ofBits .f32 3271426048#32)
    (Ideal.liftRound Ideal.roundHalfEven (Ideal.div v s)))
/-- The residual's int8 code at channel `c`. -/
def rcode (c : Fin 5120) : BitVec 8 :=
  FloatOps.fptosi (F := Ideal) (φ := .f32) 8 (quant (resid P x h c) (gscale P x h (grp c)))

/-- The row's mean. -/
def mean : EReal := Ideal.div (∑ c, h c) (Ideal.ofBits .f32 1168113664#32)
/-- The row's centred square at channel `c`. -/
def csq (c : Fin 5120) : EReal := (h c - mean h) * (h c - mean h)
/-- The row's variance. -/
def var : EReal := Ideal.div (∑ c, csq h c) (Ideal.ofBits .f32 1168113664#32)
/-- The normalised, modulated row. -/
def hm (c : Fin 5120) : EReal :=
  Ideal.div (h c - mean h) (Ideal.sqrt (var h + Ideal.ofBits .f32 897988541#32)) * (1 + P.hg c) + P.hs c
/-- Its largest magnitude. -/
def hmax : EReal := Finset.univ.fold max NI fun c => abs' (hm P h c)
/-- Its scale. -/
def hscale : EReal := scaleOf 1138753536#32 (hmax P h)
/-- A value clipped to the fp8 codes. -/
def quant8 (v s : EReal) : EReal :=
  min (Ideal.ofBits .f32 1138753536#32) (max (Ideal.ofBits .f32 3286237184#32) (Ideal.div v s))
/-- Its fp8 code at channel `c`. -/
def hcode (c : Fin 5120) : EReal := quant8 (hm P h c) (hscale P h)
/-- The head's output at patch coordinate `j`. -/
def out (j : Fin 64) : EReal := (∑ c, hcode P h c * P.wh j c) * hscale P h * P.sh j + P.bh j
end

/-- The inner product of two branches' outputs for one token. -/
def cross (P : Params) (h h' : Fin 5120 → EReal) : EReal := ∑ j, out P h j * out P h' j

/-! ## The regroupings -/

/-- A row as a function of a natural number, 0 past its end. -/
def ext (f : Fin 5120 → EReal) (n : ℕ) : EReal := if h : n < 5120 then f ⟨n, h⟩ else 0

theorem ext_lt (f : Fin 5120 → EReal) {n : ℕ} (h : n < 5120) : ext f n = f ⟨n, h⟩ := dif_pos h

/-- Lane `l` of the sum of the first `k` chunks of 256 channels, each folded to 128 lanes. -/
def runSum (f : Fin 5120 → EReal) : ℕ → Fin 128 → EReal
  | 0, _ => 0
  | k + 1, l => runSum f k l + ext f (256 * k + l.val) + ext f (256 * k + (128 + l.val))

/-- Lane `l` of the maximum of the first `k` chunks of 256 channels, each folded to 128 lanes, from 0. -/
def runMax (f : Fin 5120 → EReal) : ℕ → Fin 128 → EReal
  | 0, _ => 0
  | k + 1, l => max (runMax f k l) (max (ext f (256 * k + l.val)) (ext f (256 * k + (128 + l.val))))

/-- The sum of the first `k` chunks of 640 channels. -/
def runDot (f : Fin 5120 → EReal) : ℕ → EReal
  | 0 => 0
  | k + 1 => runDot f k + ∑ i : Fin 640, ext f (640 * k + i.val)

theorem runSum_eq (f : Fin 5120 → EReal) (k : ℕ) (l : Fin 128) :
    runSum f k l = ∑ j : Fin k, (ext f (256 * j.val + l.val) + ext f (256 * j.val + (128 + l.val))) := by
  induction k with
  | zero => simp [runSum]
  | succ k ih => rw [runSum, ih, Fin.sum_univ_castSucc (n := k)]; simp only [Fin.val_castSucc, Fin.val_last, add_assoc]

/-- Twenty chunks folded to lanes, then summed over the lanes, are the row's sum. -/
theorem sum_runSum (f : Fin 5120 → EReal) : ∑ l : Fin 128, runSum f 20 l = ∑ c, f c := by
  rw [Fin.sum_univ_tiles 20 256 (by norm_num) f]
  simp only [runSum_eq]
  rw [Finset.sum_comm]
  refine Finset.sum_congr rfl fun j _ => ?_
  rw [Fin.sum_univ_two_halves (N := 256) 128 128 (by norm_num), Finset.sum_add_distrib]
  refine congrArg₂ (· + ·) (Finset.sum_congr rfl fun l _ => ?_) (Finset.sum_congr rfl fun l _ => ?_)
  · rw [ext_lt f (by omega)]; exact congrArg f (Fin.ext (by simp only []; omega))
  · rw [ext_lt f (by omega)]; exact congrArg f (Fin.ext (by simp only []; omega))

theorem runDot_eq (f : Fin 5120 → EReal) (k : ℕ) :
    runDot f k = ∑ j : Fin k, ∑ i : Fin 640, ext f (640 * j.val + i.val) := by
  induction k with
  | zero => simp [runDot]
  | succ k ih => rw [runDot, ih, Fin.sum_univ_castSucc (n := k)]; simp only [Fin.val_castSucc, Fin.val_last]

/-- Eight chunks of 640 are the row's sum. -/
theorem runDot_all (f : Fin 5120 → EReal) : runDot f 8 = ∑ c, f c := by
  rw [Fin.sum_univ_tiles 8 640 (by norm_num) f, runDot_eq]
  refine Finset.sum_congr rfl fun j _ => Finset.sum_congr rfl fun l _ => ?_
  rw [ext_lt f (by omega)]; exact congrArg f (Fin.ext (by simp only []; omega))

theorem runMax_le (f : Fin 5120 → EReal) (M : EReal) (h0 : 0 ≤ M) (h : ∀ c, f c ≤ M) (k : ℕ) (l : Fin 128) :
    runMax f k l ≤ M := by
  have he : ∀ n, ext f n ≤ M := fun n => by unfold ext; split; · exact h _
                                            · exact h0
  induction k with
  | zero => exact h0
  | succ k ih => exact max_le ih (max_le (he _) (he _))

theorem runMax_mono (f : Fin 5120 → EReal) (l : Fin 128) {k k' : ℕ} (h : k ≤ k') : runMax f k l ≤ runMax f k' l := by
  induction h with
  | refl => exact le_rfl
  | step _ ih => exact ih.trans (le_max_left _ _)

theorem le_runMax (f : Fin 5120 → EReal) (c : Fin 5120) : ∃ l, f c ≤ runMax f 20 l := by
  have hk : c.val / 256 + 1 ≤ 20 := by omega
  by_cases hc : c.val % 256 < 128
  · refine ⟨⟨c.val % 256, hc⟩, le_trans ?_ (runMax_mono f _ hk)⟩
    refine le_trans ?_ ((le_max_left _ _).trans (le_max_right _ _))
    rw [ext_lt f (by simp only []; omega)]
    exact le_of_eq (congrArg f (Fin.ext (by simp only []; omega)))
  · refine ⟨⟨c.val % 256 - 128, by omega⟩, le_trans ?_ (runMax_mono f _ hk)⟩
    refine le_trans ?_ ((le_max_right _ _).trans (le_max_right _ _))
    rw [ext_lt f (by simp only []; omega)]
    exact le_of_eq (congrArg f (Fin.ext (by simp only []; omega)))

/-- Twenty chunks folded to lanes by the maximum from 0, then the maximum over the lanes, are the maximum of a row of
    non-negative entries. -/
theorem fold_runMax (f : Fin 5120 → EReal) (hf : ∀ c, 0 ≤ f c) :
    (Finset.univ : Finset (Fin 128)).fold max NI (runMax f 20) = Finset.univ.fold max NI f := by
  have hz : (0 : EReal) ≤ (Finset.univ : Finset (Fin 5120)).fold max NI f :=
    (hf 0).trans (Finset.le_fold_max _ |>.mpr (Or.inr ⟨0, Finset.mem_univ _, le_rfl⟩))
  apply le_antisymm
  · rw [Finset.fold_max_le]
    refine ⟨Finset.le_fold_max _ |>.mpr (Or.inl le_rfl), fun l _ => ?_⟩
    exact runMax_le f _ hz (fun c => Finset.le_fold_max _ |>.mpr (Or.inr ⟨c, Finset.mem_univ _, le_rfl⟩)) _ _
  · rw [Finset.fold_max_le]
    refine ⟨Finset.le_fold_max _ |>.mpr (Or.inl le_rfl), fun c _ => ?_⟩
    obtain ⟨l, hl⟩ := le_runMax f c
    exact Finset.le_fold_max _ |>.mpr (Or.inr ⟨l, Finset.mem_univ _, hl⟩)

theorem abs'_nonneg (a : EReal) : 0 ≤ abs' a := by
  rcases le_total 0 a with h | h
  · exact h.trans (le_max_left _ _)
  · exact (EReal.neg_nonneg.mpr h).trans (le_max_right _ _)

/-! ## Dividing by the root is multiplying by its reciprocal -/

theorem mul_self_nonneg' (a : EReal) : 0 ≤ a * a := by
  rcases le_total 0 a with h | h
  · exact mul_nonneg h h
  · have : 0 ≤ (-a) * (-a) := mul_nonneg (EReal.neg_nonneg.mpr h) (EReal.neg_nonneg.mpr h)
    simpa using this

/-- For a nonzero divisor, `a / y = a · (1 / y)`. -/
theorem mul_div_one (a y : EReal) (hy : y ≠ 0) : a * Ideal.div 1 y = Ideal.div a y := by
  simp only [Ideal.div, if_neg hy, one_mul]

theorem eps_pos : (0 : EReal) < Ideal.ofBits .f32 897988541#32 := by
  simp [Ideal.ofBits, Ideal.ieee, -EReal.coe_mul]

theorem D_pos : (0 : EReal) < Ideal.ofBits .f32 1168113664#32 := by
  simp [Ideal.ofBits, Ideal.ieee, -EReal.coe_mul]

theorem sqrt_ne_zero (a : EReal) (h : 0 < a) : Ideal.sqrt a ≠ 0 := by
  induction a using EReal.rec with
  | bot => exact absurd h (by simp)
  | top => rw [show Ideal.sqrt ⊤ = ⊤ from rfl]; exact EReal.top_ne_zero
  | coe r =>
    have hr : 0 < r := by exact_mod_cast h
    rw [show Ideal.sqrt (r : EReal) = if r < 0 then ⊥ else (Real.sqrt r : EReal) from rfl, if_neg (not_lt.mpr hr.le)]
    exact_mod_cast (Real.sqrt_pos.mpr hr).ne'

theorem var_nonneg (h : Fin 5120 → EReal) : 0 ≤ var h := by
  unfold var Ideal.div
  rw [if_neg D_pos.ne']
  exact mul_nonneg (Finset.sum_nonneg fun c _ => mul_self_nonneg' _) (EReal.inv_nonneg_of_nonneg D_pos.le)

/-- The normalised row as the kernel writes it: times the reciprocal of the root. -/
theorem hm_mul (P : Params) (h : Fin 5120 → EReal) (c : Fin 5120) :
    (h c - mean h) * Ideal.div 1 (Ideal.sqrt (var h + Ideal.ofBits .f32 897988541#32)) * (1 + P.hg c) + P.hs c
      = hm P h c := by
  rw [mul_div_one _ _ (sqrt_ne_zero _ (lt_of_lt_of_le eps_pos (le_add_of_nonneg_left (var_nonneg h))))]
  rfl

end Cert.Rows

end
-- ==== Proof.Value.Payloads.lean ====
module

public import proofs.«01_k».proof.Proof.Gen.KernelIdeal.Skeleton
public import proofs.«01_k».proof.Proof.Value.Rows

@[expose] public section

set_option maxRecDepth 16384

noncomputable section

/-! # The kernel's stored values, read at an index

Each payload of the body over blocks of 256 tokens, at one token and one channel, is the row function of Rows.lean at that
token. The payloads of the second branch are the same functions as those of the first, by unfolding; they are rewritten to
the first branch's, so that each fact is proved once. -/

namespace Cert.KernelIdeal.Hand

open Idealize.ShloMosaic Cert.KernelIdeal Cert.KernelIdeal.Gen Cert.Rows
open scoped BigOperators

/-- Channel `c` of chunk `k` of 256 channels. -/
abbrev cc {k : ℕ} (hk : k < 20) (c : Fin 256) : Fin 5120 := ⟨256 * k + c.val, by omega⟩
/-- Lane `l` of the low half of a chunk. -/
abbrev lo (l : Fin 128) : Fin 256 := ⟨l.val, by omega⟩
/-- Lane `l` of the high half of a chunk. -/
abbrev hi (l : Fin 128) : Fin 256 := ⟨128 + l.val, by omega⟩

/-! ## The pieces both branches share -/

/-- The low half of a chunk of residuals. -/
def loHalf (R : FVec Ideal S256x256 .f32) : FVec Ideal S256x128 .f32 :=
  extractStridedSlice S256x128 ![0, 0] R slices_S256x256_o0_0_S256x128
/-- The scale of the low group of a chunk of residuals. -/
def loScale (R : FVec Ideal S256x256 .f32) : FVec Ideal S256x1 .f32 :=
  have v177 : FVec Ideal S256 .f32 := multiReduction .maximumf [1] S256 (absf (loHalf R)) 0xFF800000#32 reduces_S256x128_S256 (.inl rfl) rfl
  have v178 : FVec Ideal S256x1 .f32 := shapeCast S256x1 v177 shapeCasts_S256_S256x1
  select (cmpf .oeq v178 (broadcast S256x1 (Scalar.ofBits .f32 0x00000000#32)))
    (broadcast S256x1 (Scalar.ofBits .f32 0x3F800000#32)) (divf v178 (broadcast S256x1 (Scalar.ofBits .f32 0x42FE0000#32)))
/-- The low group of a chunk of residuals, rounded and clipped. -/
def loQ (R : FVec Ideal S256x256 .f32) : FVec Ideal S256x128 .f32 :=
  minimumf (broadcast S256x128 (Scalar.ofBits .f32 0x42FE0000#32))
    (maximumf (broadcast S256x128 (Scalar.ofBits .f32 0xC2FE0000#32))
      (roundeven (divf (loHalf R) (broadcastTo S256x128 (loScale R) broadcasts_S256x1_S256x128))))

theorem pay6_eq (v1 v2 v156 v161 v166 v171) :
    k0_pay6 (F := Ideal) v1 v2 v156 v161 v166 v171 = loScale (k0_pay4 v1 v2 v156 v161 v166 v171) := rfl
theorem pay7_eq (v1 v2 v156 v161 v166 v171) :
    k0_pay7 (F := Ideal) v1 v2 v156 v161 v166 v171 = loQ (k0_pay4 v1 v2 v156 v161 v166 v171) := rfl
theorem pay22_eq (v169 v271) : k0_pay22 (F := Ideal) v169 v271 = loScale (k0_pay20 v169 v271) := rfl
theorem pay23_eq (v169 v271) : k0_pay23 (F := Ideal) v169 v271 = loQ (k0_pay20 v169 v271) := rfl
theorem pay25_eq (v169 v271) : k0_pay25 (F := Ideal) v169 v271 = k0_pay10 (k0_pay20 v169 v271) := rfl
theorem pay26_eq (v169 v271) : k0_pay26 (F := Ideal) v169 v271 = k0_pay11 (k0_pay20 v169 v271) := rfl
theorem pay28_eq (R : FVec Ideal S256x256 .f32) (q) :
    k0_pay28 (F := Ideal) q (k0_pay10 R) (k0_pay11 R) = k0_pay14 (k0_pay13 R q) := rfl
theorem pay27_eq (R : FVec Ideal S256x256 .f32) (v3 a v) :
    k0_pay27 (F := Ideal) v3 a (k0_pay11 R) v = k0_pay12 v3 a R v := rfl
theorem pay46_eq (a b c d e) : k0_pay46 (k0_pay29 (F := Ideal) a b c d) (k0_pay30 e) = k0_pay15 a b c d e := rfl
theorem pay47_eq (a b c d e v) : k0_pay47 (k0_pay29 (F := Ideal) a b c d) (k0_pay30 e) v = k0_pay16 a b c d e v := rfl
theorem pay48_eq (a b c d e) : k0_pay48 (k0_pay29 (F := Ideal) a b c d) (k0_pay30 e) = k0_pay17 a b c d e := rfl

/-! ## The statistics -/

section Stats
variable (h : Fin 256 → Fin 5120 → EReal)

/-- One chunk added to the running lane sums. -/
theorem pay33_apply (acc : FVec Ideal S256x128 .f32) (v : Vec Ideal S1x1x256x256 .bf16) {k : ℕ} (hk : k < 20)
    (hv : ∀ r c, v (ix4 0 0 r c) = h r (cc hk c)) (r : Fin 256) (l : Fin 128) :
    k0_pay33 acc v (ix2 r l) = acc (ix2 r l) + ext (h r) (256 * k + l.val) + ext (h r) (256 * k + (128 + l.val)) := by
  rw [ext_lt _ (by omega), ext_lt _ (by omega)]
  pointwise [k0_pay33]
  erw [hv r (lo l), hv r (hi l)]

/-- The mean from the lane sums. -/
theorem pay34_apply (v : FVec Ideal S256x128 .f32) (r : Fin 256) (hv : ∀ l, v (ix2 r l) = runSum (h r) 20 l) :
    k0_pay34 v (ix2 r 0) = mean (h r) := by
  pointwise [k0_pay34, hv]
  rw [sum_runSum, mean]

/-- One chunk of centred squares added to the running lane sums. -/
theorem pay42_apply (v29 : FVec Ideal S256x1 .f32) (acc : FVec Ideal S256x128 .f32) (v : Vec Ideal S1x1x256x256 .bf16) {k : ℕ}
    (hk : k < 20) (hm : ∀ r, v29 (ix2 r 0) = mean (h r))
    (hv : ∀ r c, v (ix4 0 0 r c) = h r (cc hk c)) (r : Fin 256) (l : Fin 128) :
    k0_pay42 v29 acc v (ix2 r l)
      = acc (ix2 r l) + ext (csq (h r)) (256 * k + l.val) + ext (csq (h r)) (256 * k + (128 + l.val)) := by
  rw [ext_lt _ (by omega), ext_lt _ (by omega)]
  pointwise [k0_pay42, hm]
  erw [hv r (lo l), hv r (hi l)]
  rfl

/-- The reciprocal root of the variance from the lane sums. -/
theorem pay43_apply (v : FVec Ideal S256x128 .f32) (r : Fin 256) (hv : ∀ l, v (ix2 r l) = runSum (csq (h r)) 20 l) :
    k0_pay43 v (ix2 r 0) = Ideal.div 1 (Ideal.sqrt (var (h r) + Ideal.ofBits .f32 897988541#32)) := by
  pointwise [k0_pay43, hv]
  rw [sum_runSum, var]

end Stats

/-! ## One chunk of channels -/

section Chunk
variable (P : Params) (x : Fin 256 → Fin 64 → EReal) (h : Fin 256 → Fin 5120 → EReal) {k : ℕ} (hk : k < 20)

/-- The embedding of the block's tokens at the chunk's channels. -/
theorem pay2_apply (v1 : FVec Ideal S256x64 .fp8e4m3) (v2 : Elt Ideal .f32) (v156 : Vec Ideal S64x256 .fp8e4m3)
    (v161 : Vec Ideal S1x256 .f32) (v166 : Vec Ideal S1x256 .f32)
    (h1 : ∀ r j, v1 (ix2 r j) = x r j) (h2 : v2 = P.s) (hw : ∀ j c, v156 (ix2 j c) = P.we j (cc hk c))
    (hs : ∀ c, v161 (ix2 0 c) = P.se (cc hk c)) (hb : ∀ c, v166 (ix2 0 c) = P.be (cc hk c)) (r c : Fin 256) :
    k0_pay2 v1 v2 v156 v161 v166 (ix2 r c) = embed P (x r) (cc hk c) := by
  pointwise [k0_pay2, h1, h2, hw, hs, hb]
  rfl

variable (R : FVec Ideal S256x256 .f32) (hR : ∀ r c, R (ix2 r c) = resid P (x r) (h r) (cc hk c))
include hR

theorem loHalf_apply (r : Fin 256) (l : Fin 128) : loHalf R (ix2 r l) = resid P (x r) (h r) (cc hk (lo l)) := by
  pointwise [loHalf]
  erw [hR r (lo l)]

theorem hiHalf_apply (r : Fin 256) (l : Fin 128) : k0_pay10 R (ix2 r l) = resid P (x r) (h r) (cc hk (hi l)) := by
  pointwise [k0_pay10]
  erw [hR r (hi l)]

/-- The low group's scale. -/
theorem loScale_apply (r : Fin 256) : loScale R (ix2 r 0) = gscale P (x r) (h r) ⟨2 * k, by omega⟩ := by
  pointwise [loScale, loHalf_apply P x h hk R hR, Ideal.absf_def]
  unfold gscale scaleOf gmax
  have : ∀ l : Fin 128, chan ⟨2 * k, by omega⟩ l = cc hk (lo l) := fun l => Fin.ext (by simp only [chan]; omega)
  simp only [this]

/-- The high group's scale. -/
theorem hiScale_apply (r : Fin 256) : k0_pay11 R (ix2 r 0) = gscale P (x r) (h r) ⟨2 * k + 1, by omega⟩ := by
  pointwise [k0_pay11, hiHalf_apply P x h hk R hR, Ideal.absf_def]
  unfold gscale scaleOf gmax
  have : ∀ l : Fin 128, chan ⟨2 * k + 1, by omega⟩ l = cc hk (hi l) := fun l => Fin.ext (by simp only [chan]; omega)
  simp only [this]

/-- The chunk's int8 codes. -/
theorem codes_apply (r c : Fin 256) :
    k0_pay14 (k0_pay13 R (loQ R)) (ix4 0 0 r c) = rcode P (x r) (h r) (cc hk c) := by
  pointwise [k0_pay14, k0_pay13]
  unfold rcode
  congr 1
  split
  · next hc =>
    pointwise [loQ]
    erw [loHalf_apply P x h hk R hR r ⟨c.val, hc⟩, loScale_apply P x h hk R hR r]
    have hg : grp (cc hk c) = ⟨2 * k, by omega⟩ := Fin.ext (by simp only [grp]; omega)
    rw [hg]; rfl
  · next hc =>
    erw [hiHalf_apply P x h hk R hR r ⟨c.val - 128, by omega⟩, hiScale_apply P x h hk R hR r]
    have hg : grp (cc hk c) = ⟨2 * k + 1, by omega⟩ := Fin.ext (by simp only [grp]; omega)
    have hcc : cc hk (hi ⟨c.val - 128, by omega⟩) = cc hk c := Fin.ext (by simp only []; omega)
    rw [hg, hcc]; rfl

end Chunk

section Norm
variable (P : Params) (h : Fin 256 → Fin 5120 → EReal) {k : ℕ} (hk : k < 20)
  (v10 : FVec Ideal S256x1 .f32) (v22 : FVec Ideal S256x1 .f32) (H : FVec Ideal S256x256 .f32) (v244 v251 : Vec Ideal S1x1x256 .f32)
  (h10 : ∀ r, v10 (ix2 r 0) = mean (h r))
  (h22 : ∀ r, v22 (ix2 r 0) = Ideal.div 1 (Ideal.sqrt (var (h r) + Ideal.ofBits .f32 897988541#32)))
  (hH : ∀ r c, H (ix2 r c) = h r (cc hk c)) (hg : ∀ c, v244 (ix3 0 0 c) = P.hg (cc hk c))
  (hs : ∀ c, v251 (ix3 0 0 c) = P.hs (cc hk c))
include h10 h22 hH hg hs

/-- The normalised, modulated chunk. -/
theorem pay15_apply (r c : Fin 256) : k0_pay15 v10 v22 H v244 v251 (ix2 r c) = hm P (h r) (cc hk c) := by
  rw [← hm_mul]
  pointwise [k0_pay15, h10, h22, hH, hg, hs]

theorem pay17_apply (r c : Fin 256) : k0_pay17 v10 v22 H v244 v251 (ix3 0 r c) = hm P (h r) (cc hk c) := by
  rw [← pay15_apply P h hk v10 v22 H v244 v251 h10 h22 hH hg hs]
  pointwise [k0_pay17]

/-- The running lane maxima with the chunk's magnitudes. -/
theorem pay16_apply (v : Vec Ideal S1x256x128 .f32) (r : Fin 256) (l : Fin 128)
    (hv : v (ix3 0 r l) = runMax (fun c => abs' (hm P (h r) c)) k l) :
    k0_pay16 v10 v22 H v244 v251 v (ix3 0 r l) = runMax (fun c => abs' (hm P (h r) c)) (k + 1) l := by
  rw [runMax, ext_lt _ (by omega), ext_lt _ (by omega)]
  pointwise [k0_pay16, hv, Ideal.absf_def]
  erw [pay15_apply P h hk v10 v22 H v244 v251 h10 h22 hH hg hs r (lo l),
    pay15_apply P h hk v10 v22 H v244 v251 h10 h22 hH hg hs r (hi l)]

end Norm

/-! ## The head -/

section Head
variable (P : Params) (h : Fin 256 → Fin 5120 → EReal) (v94 : Vec Ideal S1x256x128 .f32)
  (h94 : ∀ r l, v94 (ix3 0 r l) = runMax (fun c => abs' (hm P (h r) c)) 20 l)
include h94

/-- The head's scale of a token. -/
theorem pay62_apply (r : Fin 256) : k0_pay62 v94 (ix2 r 0) = hscale P (h r) := by
  pointwise [k0_pay62, h94]
  unfold hscale scaleOf hmax
  have := fold_runMax (fun c => abs' (hm P (h r) c)) (fun c => abs'_nonneg _)
  rw [← this]

/-- Channel `i` of chunk `k` of 640 channels. -/
abbrev ck {k : ℕ} (hk : k < 8) (i : Fin 640) : Fin 5120 := ⟨640 * k + i.val, by omega⟩

theorem pay64_apply {k : ℕ} (hk : k < 8) (v156 : Vec Ideal S1x256x640 .f32)
    (hv : ∀ r i, v156 (ix3 0 r i) = hm P (h r) (ck hk i)) (r : Fin 256) (i : Fin 640) :
    k0_pay64 v94 v156 (ix2 r i) = hcode P (h r) (ck hk i) := by
  pointwise [k0_pay64, hv, pay62_apply P h v94 h94]
  rfl

theorem pay65_apply {k : ℕ} (hk : k < 8) (v156 : Vec Ideal S1x256x640 .f32)
    (hv : ∀ r i, v156 (ix3 0 r i) = hm P (h r) (ck hk i)) (r : Fin 256) (i : Fin 640) :
    k0_pay65 v94 v156 (ix4 0 0 r i) = hcode P (h r) (ck hk i) := by
  rw [← pay64_apply P h v94 h94 hk v156 hv]
  pointwise [k0_pay65]

/-- One chunk added to the head's running product. -/
theorem pay66_apply {k : ℕ} (hk : k < 8) (v156 : Vec Ideal S1x256x640 .f32)
    (hv : ∀ r i, v156 (ix3 0 r i) = hm P (h r) (ck hk i)) (acc : Vec Ideal S64x256 .f32) (w : Vec Ideal S64x640 .fp8e4m3)
    (hw : ∀ j i, w (ix2 j i) = P.wh j (ck hk i)) (j : Fin 64) (r : Fin 256)
    (ha : acc (ix2 j r) = runDot (fun c => hcode P (h r) c * P.wh j c) k) :
    k0_pay66 v94 v156 acc w (ix2 j r) = runDot (fun c => hcode P (h r) c * P.wh j c) (k + 1) := by
  rw [runDot, ← ha]
  pointwise [k0_pay66, pay64_apply P h v94 h94 hk v156 hv, hw]
  congr 1
  refine Finset.sum_congr rfl fun i _ => ?_
  rw [ext_lt _ (by omega), mul_comm]

theorem pay67_apply (r : Fin 256) : k0_pay67 v94 (ix2 0 r) = hscale P (h r) := by
  pointwise [k0_pay67, pay62_apply P h v94 h94]

theorem pay70_apply (r : Fin 256) : k0_pay70 (k0_pay67 v94) (ix3 0 0 r) = hscale P (h r) := by
  pointwise [k0_pay70, pay67_apply P h v94 h94]

/-- The head's output of a token. -/
theorem pay69_apply (acc : Vec Ideal S64x256 .f32) (sh bh : Vec Ideal S64x1 .f32)
    (ha : ∀ j r, acc (ix2 j r) = runDot (fun c => hcode P (h r) c * P.wh j c) 8)
    (hs : ∀ j, sh (ix2 j 0) = P.sh j) (hb : ∀ j, bh (ix2 j 0) = P.bh j) (j : Fin 64) (r : Fin 256) :
    k0_pay69 (k0_pay68 v94 acc sh bh) (ix4 0 0 j r) = out P (h r) j := by
  pointwise [k0_pay69, k0_pay68, pay67_apply P h v94 h94, ha, hs, hb]
  rw [runDot_all]
  rfl
end Head

/-- A group's scales, transposed for the store. -/
theorem pay71_apply (v : Vec Ideal S1x256x128 .f32) (g : Fin 40) (r : Fin 256) :
    k0_pay71 v (ix4 0 0 g r) = v (ix3 0 r ⟨g.val, by omega⟩) := by
  pointwise [k0_pay71]

theorem pay73_apply (v v' : Vec Ideal S1x1x64x256 .f32) (r : Fin 256) :
    k0_pay73 v v' (ix3 0 0 r) = ∑ j, v (ix4 0 0 j r) * v' (ix4 0 0 j r) := by
  pointwise [k0_pay73, k0_pay72]

theorem pay1_apply (v' : Vec Ideal S1x1x64x256 .f32) (r : Fin 256) :
    k0_pay1 (k0_pay74 v') (ix3 0 0 r) = ∑ j, v' (ix4 0 0 j r) * v' (ix4 0 0 j r) := by
  pointwise [k0_pay1, k0_pay74, k0_pay72]

theorem pay58_eq (v51 acc sh bh) :
    k0_pay58 (k0_pay50 v51) (k0_pay51 v51) (Scalar.ofBits (F := Ideal) .f32 0x3F800000#32) acc sh bh
      = k0_pay69 (k0_pay68 v51 acc sh bh) := rfl
theorem pay59_eq (v51) :
    k0_pay59 (k0_pay50 v51) (k0_pay51 v51) (Scalar.ofBits (F := Ideal) .f32 0x3F800000#32) = k0_pay70 (k0_pay67 v51) := rfl
theorem pay55_eq (v51 v) :
    k0_pay55 (k0_pay50 v51) (k0_pay51 v51) (Scalar.ofBits (F := Ideal) .f32 0x3F800000#32) v = k0_pay65 v51 v := rfl
theorem pay56_eq (v51 v a w) :
    k0_pay56 (k0_pay50 v51) (k0_pay51 v51) (Scalar.ofBits (F := Ideal) .f32 0x3F800000#32) v a w = k0_pay66 v51 v a w := rfl
theorem pay61_eq (v : Vec Ideal S1x256x128 .f32) : k0_pay61 (k0_pay60 v) = k0_pay71 v := rfl

end Cert.KernelIdeal.Hand

end
-- ==== Proof.Value.Common.lean ====
module

public import proofs.«01_k».proof.Proof.Value.Payloads
public import Idealize.ShloMosaic.Lib.WritesUnit
public import Idealize.ShloMosaic.Lib.Exec
public import Idealize.ShloMosaic.Lib.Scf

@[expose] public section

set_option maxRecDepth 16384

noncomputable section

/-! # Loads, stores and offsets of the kernel's loops

The closed forms of the offsets the loops compute; what a load at a rectangle reads; what two stores, one per branch, leave
in a buffer with a branch axis; and the store of one lane of the scales. -/

namespace Cert.KernelIdeal.Hand

open Idealize.ShloMosaic Cert.KernelIdeal Cert.KernelIdeal.Gen Cert.Rows
open scoped BigOperators

/-! ## Offsets -/

theorem off1_eq : ∀ k, k0_off1 k = ![0, 0, 0, 256 * k.val] := by decide
theorem off2_eq : ∀ k, k0_off2 k = ![0, 0, 0, 256 * k.val] := by decide
theorem off3_eq : ∀ k, k0_off3 k = ![0, 1, 0, 256 * k.val] := by decide
theorem off4_eq : ∀ k, k0_off4 k = ![0, 1, 0, 256 * k.val] := by decide
theorem off5_eq : ∀ k, k0_off5 k = ![0, 256 * k.val] := by decide
theorem off6_eq : ∀ k, k0_off6 k = ![0, 256 * k.val] := by decide
theorem off7_eq : ∀ k, k0_off7 k = ![0, 0, 0, 256 * k.val] := by decide
theorem off8_eq : ∀ k, k0_off8 k = ![0, 0, 256 * k.val] := by decide
theorem off9_eq : ∀ k, k0_off9 k = ![0, 0, 256 * k.val] := by decide
theorem off10_eq : ∀ k, k0_off10 k = ![0, 1, 0, 256 * k.val] := by decide
theorem off11_eq : ∀ k, k0_off11 k = ![1, 0, 256 * k.val] := by decide
theorem off12_eq : ∀ k, k0_off12 k = ![0, 0, 640 * k.val] := by decide
theorem off13_eq : ∀ k, k0_off13 k = ![0, 0, 0, 640 * k.val] := by decide
theorem off14_eq : ∀ k, k0_off14 k = ![0, 640 * k.val] := by decide
theorem off15_eq : ∀ k, k0_off15 k = ![1, 0, 640 * k.val] := by decide
theorem off16_eq : ∀ k, k0_off16 k = ![0, 1, 0, 640 * k.val] := by decide
theorem off17_eq : ∀ k, k0_off17 k = ![0, 640 * k.val] := by decide

theorem trips1 : k0_t1_loop.trips = 20 := by decide
theorem trips2 : k0_t2_loop.trips = 20 := by decide
theorem trips3 : k0_t3_loop.trips = 20 := by decide
theorem trips4 : k0_t4_loop.trips = 20 := by decide
theorem trips5 : k0_t5_loop.trips = 20 := by decide
theorem trips6 : k0_t6_loop.trips = 8 := by decide
theorem trips7 : k0_t7_loop.trips = 8 := by decide

/-! ## Loads and stores -/

section Views
variable {sig : RefSig} {κ : Kind} {sp : Space} {Val : EltTy → Type}

/-- A load at a unit-stride rectangle reads the buffer at the offset index. -/
theorem rdAt {s : Shape} {e : EltTy} (v : View sig κ sp s e) {off off' size : Fin s.rank → ℕ} (inb : ∀ a, off a + size a ≤ s.size a)
    (f : v.ty.Contents Val) (x : (Rect.unit off size inb).toLoadRect.shape.Idx) (y : s.Idx) (heq : off = off')
    (h : ∀ a, (y a).val = off' a + (x a).val) :
    v.readAt Val (Rect.unit off size inb).toLoadRect f x = v.read Val f y := by
  subst heq
  refine congrArg (v.read Val f) (funext fun a => Fin.ext ?_)
  show off a + 1 * (x a).val = (y a).val
  rw [h a, Nat.one_mul]

/-- Two stores of a chunk of 256 columns, one per branch, extend what is known of the columns before it. -/
theorem read_cols4 {e : EltTy} (v : View sig κ sp S1x2x256x5120 e) (f : v.ty.Contents Val) {o0 o1 : Fin 4 → ℕ} {k : ℕ} (hk : k < 20)
    (inb1 : ∀ a, o1 a + S1x1x256x256.size a ≤ S1x2x256x5120.size a) (inb0 : ∀ a, o0 a + S1x1x256x256.size a ≤ S1x2x256x5120.size a)
    (w1 w0 : S1x1x256x256.Idx → Val e) (L : List (View.Piece Val S1x2x256x5120 e))
    (e1 : o1 = ![0, 1, 0, 256 * k]) (e0 : o0 = ![0, 0, 0, 256 * k]) (G : Fin 2 → Fin 256 → Fin 5120 → Val e)
    (h1 : ∀ r c, w1 (ix4 0 0 r c) = G 1 r (cc hk c)) (h0 : ∀ r c, w0 (ix4 0 0 r c) = G 0 r (cc hk c))
    (IH : ∀ b r c, c.val < 256 * k → v.read Val (v.writes Val f L) (ix4 0 b r c) = G b r c) (b : Fin 2) (r : Fin 256) (c : Fin 5120)
    (hc : c.val < 256 * (k + 1)) :
    v.read Val (v.writes Val f ((⟨Rect.unit o1 S1x1x256x256.size inb1, w1⟩ : View.Piece Val S1x2x256x5120 e) ::
      (⟨Rect.unit o0 S1x1x256x256.size inb0, w0⟩ : View.Piece Val S1x2x256x5120 e) :: L)) (ix4 0 b r c) = G b r c := by
  by_cases hc' : c.val < 256 * k
  · rw [View.read_writes_cons_unit_of_not_mem v f inb1 w1 _ _ e1 3 (Or.inl hc'),
      View.read_writes_cons_unit_of_not_mem v f inb0 w0 _ _ e0 3 (Or.inl hc'), IH b r c hc']
  · have hcc : c = cc hk ⟨c.val - 256 * k, by omega⟩ := Fin.ext (by simp only []; omega)
    match b with
    | 0 =>
      rw [View.read_writes_cons_unit_of_not_mem v f inb1 w1 _ _ e1 1 (Or.inl Nat.zero_lt_one)]
      refine (View.read_writes_cons_unit_of_mem v f inb0 w0 L _ (ix4 0 0 r ⟨c.val - 256 * k, by omega⟩) e0 ?_).trans ?_
      · intro a; fin_cases a
        · rfl
        · rfl
        · exact (Nat.zero_add _).symm
        · show c.val = 256 * k + (c.val - 256 * k); omega
      · rw [h0, ← hcc]
    | 1 =>
      refine (View.read_writes_cons_unit_of_mem v f inb1 w1 _ _ (ix4 0 0 r ⟨c.val - 256 * k, by omega⟩) e1 ?_).trans ?_
      · intro a; fin_cases a
        · rfl
        · rfl
        · exact (Nat.zero_add _).symm
        · show c.val = 256 * k + (c.val - 256 * k); omega
      · rw [h1, ← hcc]

/-- The same for a buffer of two slabs of rows. -/
theorem read_cols3 {e : EltTy} (v : View sig κ sp S2x256x5120 e) (f : v.ty.Contents Val) {o0 o1 : Fin 3 → ℕ} {k : ℕ} (hk : k < 20)
    (inb1 : ∀ a, o1 a + S1x256x256.size a ≤ S2x256x5120.size a) (inb0 : ∀ a, o0 a + S1x256x256.size a ≤ S2x256x5120.size a)
    (w1 w0 : S1x256x256.Idx → Val e) (L : List (View.Piece Val S2x256x5120 e))
    (e1 : o1 = ![1, 0, 256 * k]) (e0 : o0 = ![0, 0, 256 * k]) (G : Fin 2 → Fin 256 → Fin 5120 → Val e)
    (h1 : ∀ r c, w1 (ix3 0 r c) = G 1 r (cc hk c)) (h0 : ∀ r c, w0 (ix3 0 r c) = G 0 r (cc hk c))
    (IH : ∀ b r c, c.val < 256 * k → v.read Val (v.writes Val f L) (ix3 b r c) = G b r c) (b : Fin 2) (r : Fin 256) (c : Fin 5120)
    (hc : c.val < 256 * (k + 1)) :
    v.read Val (v.writes Val f ((⟨Rect.unit o1 S1x256x256.size inb1, w1⟩ : View.Piece Val S2x256x5120 e) ::
      (⟨Rect.unit o0 S1x256x256.size inb0, w0⟩ : View.Piece Val S2x256x5120 e) :: L)) (ix3 b r c) = G b r c := by
  by_cases hc' : c.val < 256 * k
  · rw [View.read_writes_cons_unit_of_not_mem v f inb1 w1 _ _ e1 2 (Or.inl hc'),
      View.read_writes_cons_unit_of_not_mem v f inb0 w0 _ _ e0 2 (Or.inl hc'), IH b r c hc']
  · have hcc : c = cc hk ⟨c.val - 256 * k, by omega⟩ := Fin.ext (by simp only []; omega)
    match b with
    | 0 =>
      rw [View.read_writes_cons_unit_of_not_mem v f inb1 w1 _ _ e1 0 (Or.inl Nat.zero_lt_one)]
      refine (View.read_writes_cons_unit_of_mem v f inb0 w0 L _ (ix3 0 r ⟨c.val - 256 * k, by omega⟩) e0 ?_).trans ?_
      · intro a; fin_cases a
        · rfl
        · exact (Nat.zero_add _).symm
        · show c.val = 256 * k + (c.val - 256 * k); omega
      · rw [h0, ← hcc]
    | 1 =>
      refine (View.read_writes_cons_unit_of_mem v f inb1 w1 _ _ (ix3 0 r ⟨c.val - 256 * k, by omega⟩) e1 ?_).trans ?_
      · intro a; fin_cases a
        · rfl
        · exact (Nat.zero_add _).symm
        · show c.val = 256 * k + (c.val - 256 * k); omega
      · rw [h1, ← hcc]

/-- A buffer of two slabs under a store of slab 1 reads the store there and what was before elsewhere. -/
theorem read_slab1 {e : EltTy} (v : View sig κ sp S2x256x128 e) (f : v.ty.Contents Val)
    (inb : ∀ a, (![1, 0, 0] : Fin 3 → ℕ) a + S1x256x128.size a ≤ S2x256x128.size a)
    (w : S1x256x128.Idx → Val e) (L : List (View.Piece Val S2x256x128 e)) (b : Fin 2) (r : Fin 256) (l : Fin 128) :
    v.read Val (v.writes Val f ((⟨Rect.unit ![1, 0, 0] S1x256x128.size inb, w⟩ : View.Piece Val S2x256x128 e) :: L)) (ix3 b r l)
      = if b = 1 then w (ix3 0 r l) else v.read Val (v.writes Val f L) (ix3 b r l) := by
  match b with
  | 0 =>
    rw [if_neg (by decide), View.read_writes_cons_unit_of_not_mem v f inb w _ _ rfl 0 (Or.inl Nat.zero_lt_one)]
  | 1 =>
    rw [if_pos rfl]
    refine (View.read_writes_cons_unit_of_mem v f inb w _ _ (ix3 0 r l) rfl ?_)
    intro a; fin_cases a
    · rfl
    · exact (Nat.zero_add _).symm
    · exact (Nat.zero_add _).symm

/-- The same for slab 0. -/
theorem read_slab0 {e : EltTy} (v : View sig κ sp S2x256x128 e) (f : v.ty.Contents Val)
    (inb : ∀ a, (![0, 0, 0] : Fin 3 → ℕ) a + S1x256x128.size a ≤ S2x256x128.size a)
    (w : S1x256x128.Idx → Val e) (L : List (View.Piece Val S2x256x128 e)) (b : Fin 2) (r : Fin 256) (l : Fin 128) :
    v.read Val (v.writes Val f ((⟨Rect.unit ![0, 0, 0] S1x256x128.size inb, w⟩ : View.Piece Val S2x256x128 e) :: L)) (ix3 b r l)
      = if b = 0 then w (ix3 0 r l) else v.read Val (v.writes Val f L) (ix3 b r l) := by
  match b with
  | 1 =>
    rw [if_neg (by decide), View.read_writes_cons_unit_of_not_mem v f inb w L (ix3 1 r l) rfl 0 (Or.inr (Nat.le_refl 1))]
  | 0 =>
    rw [if_pos rfl]
    refine (View.read_writes_cons_unit_of_mem v f inb w _ _ (ix3 0 r l) rfl ?_)
    intro a; fin_cases a
    · rfl
    · exact (Nat.zero_add _).symm
    · exact (Nat.zero_add _).symm

/-- A load of slab `b` reads that slab. -/
theorem rd_slab {e : EltTy} (v : View sig κ sp S2x256x128 e) (f : v.ty.Contents Val) (b : Fin 2)
    (inb : ∀ a, (![b.val, 0, 0] : Fin 3 → ℕ) a + S1x256x128.size a ≤ S2x256x128.size a) (r : Fin 256) (l : Fin 128) :
    v.readAt Val (Rect.unit (s := S2x256x128) ![b.val, 0, 0] S1x256x128.size inb).toLoadRect f (ix3 0 r l) = v.read Val f (ix3 b r l) :=
  rdAt v inb f _ _ rfl (by
    intro a; fin_cases a
    · rfl
    · exact (Nat.zero_add _).symm
    · exact (Nat.zero_add _).symm)

/-- A store of a chunk of 640 columns of branch `b` extends what is known of the columns before it, and leaves the other
branch. -/
theorem read_cols640 {e : EltTy} (v : View sig κ sp S1x2x256x5120 e) (f : v.ty.Contents Val) {o : Fin 4 → ℕ} {k : ℕ} (hk : k < 8) (b : Fin 2)
    (inb : ∀ a, o a + S1x1x256x640.size a ≤ S1x2x256x5120.size a)
    (w : S1x1x256x640.Idx → Val e) (L : List (View.Piece Val S1x2x256x5120 e))
    (eo : o = ![0, b.val, 0, 640 * k]) (G : Fin 256 → Fin 5120 → Val e)
    (h : ∀ r i, w (ix4 0 0 r i) = G r (ck hk i))
    (IH : ∀ r c, c.val < 640 * k → v.read Val (v.writes Val f L) (ix4 0 b r c) = G r c) (r : Fin 256) (c : Fin 5120)
    (hc : c.val < 640 * (k + 1)) :
    v.read Val (v.writes Val f ((⟨Rect.unit o S1x1x256x640.size inb, w⟩ : View.Piece Val S1x2x256x5120 e) :: L)) (ix4 0 b r c) = G r c := by
  by_cases hc' : c.val < 640 * k
  · rw [View.read_writes_cons_unit_of_not_mem v f inb w _ _ eo 3 (Or.inl hc'), IH r c hc']
  · have hcc : c = ck hk ⟨c.val - 640 * k, by omega⟩ := Fin.ext (by simp only []; omega)
    refine (View.read_writes_cons_unit_of_mem v f inb w L _ (ix4 0 0 r ⟨c.val - 640 * k, by omega⟩) eo ?_).trans ?_
    · intro a; fin_cases a
      · rfl
      · rfl
      · exact (Nat.zero_add _).symm
      · show c.val = 640 * k + (c.val - 640 * k); omega
    · rw [h, ← hcc]

/-- A store to one branch's columns leaves the other branch. -/
theorem read_cols640_other {e : EltTy} (v : View sig κ sp S1x2x256x5120 e) (f : v.ty.Contents Val) {o : Fin 4 → ℕ} {k : ℕ} {b b' : Fin 2} (hb : b' ≠ b)
    (inb : ∀ a, o a + S1x1x256x640.size a ≤ S1x2x256x5120.size a)
    (w : S1x1x256x640.Idx → Val e) (L : List (View.Piece Val S1x2x256x5120 e))
    (eo : o = ![0, b.val, 0, 640 * k]) (r : Fin 256) (c : Fin 5120) :
    v.read Val (v.writes Val f ((⟨Rect.unit o S1x1x256x640.size inb, w⟩ : View.Piece Val S1x2x256x5120 e) :: L)) (ix4 0 b' r c)
      = v.read Val (v.writes Val f L) (ix4 0 b' r c) := by
  refine View.read_writes_cons_unit_of_not_mem v f inb w _ _ eo 1 ?_
  show b'.val < b.val ∨ b.val + 1 ≤ b'.val
  have : b'.val ≠ b.val := fun h => hb (Fin.ext h)
  omega

/-- Two stores, one per branch, of a buffer of two branches: each branch reads its own store. -/
theorem read_two4 {e : EltTy} (m : ℕ) (v : View sig κ sp (⟨4, ![1, 2, m, 256]⟩ : Shape) e) (f : v.ty.Contents Val)
    (inb1 : ∀ a, (![0, 1, 0, 0] : Fin 4 → ℕ) a + (![1, 1, m, 256] : Fin 4 → ℕ) a ≤ (⟨4, ![1, 2, m, 256]⟩ : Shape).size a)
    (inb0 : ∀ a, (![0, 0, 0, 0] : Fin 4 → ℕ) a + (![1, 1, m, 256] : Fin 4 → ℕ) a ≤ (⟨4, ![1, 2, m, 256]⟩ : Shape).size a)
    (w1 w0 : (⟨4, ![1, 1, m, 256]⟩ : Shape).Idx → Val e) (L : List (View.Piece Val (⟨4, ![1, 2, m, 256]⟩ : Shape) e))
    (b : Fin 2) (j : Fin m) (r : Fin 256) :
    v.read Val (v.writes Val f ((⟨Rect.unit (s := (⟨4, ![1, 2, m, 256]⟩ : Shape)) ![0, 1, 0, 0] ![1, 1, m, 256] inb1, w1⟩ : View.Piece Val (⟨4, ![1, 2, m, 256]⟩ : Shape) e) ::
      (⟨Rect.unit (s := (⟨4, ![1, 2, m, 256]⟩ : Shape)) ![0, 0, 0, 0] ![1, 1, m, 256] inb0, w0⟩ : View.Piece Val (⟨4, ![1, 2, m, 256]⟩ : Shape) e) :: L))
        (ix4 0 b j r) = if b = 1 then w1 (ix4 0 0 j r) else w0 (ix4 0 0 j r) := by
  match b with
  | 0 =>
    rw [if_neg (by decide), View.read_writes_cons_unit_of_not_mem v f inb1 w1 _ _ rfl 1 (Or.inl Nat.zero_lt_one)]
    refine View.read_writes_cons_unit_of_mem v f inb0 w0 L _ (ix4 0 0 j r) rfl ?_
    intro a; fin_cases a
    · rfl
    · rfl
    · exact (Nat.zero_add _).symm
    · exact (Nat.zero_add _).symm
  | 1 =>
    rw [if_pos rfl]
    refine View.read_writes_cons_unit_of_mem v f inb1 w1 _ _ (ix4 0 0 j r) rfl ?_
    intro a; fin_cases a
    · rfl
    · rfl
    · exact (Nat.zero_add _).symm
    · exact (Nat.zero_add _).symm

/-- The same for a buffer of one row per branch. -/
theorem read_two3 {e : EltTy} (v : View sig κ sp S1x2x256 e) (f : v.ty.Contents Val)
    (inb1 : ∀ a, (![0, 1, 0] : Fin 3 → ℕ) a + S1x1x256.size a ≤ S1x2x256.size a)
    (inb0 : ∀ a, (![0, 0, 0] : Fin 3 → ℕ) a + S1x1x256.size a ≤ S1x2x256.size a)
    (w1 w0 : S1x1x256.Idx → Val e) (L : List (View.Piece Val S1x2x256 e)) (b : Fin 2) (r : Fin 256) :
    v.read Val (v.writes Val f ((⟨Rect.unit ![0, 1, 0] S1x1x256.size inb1, w1⟩ : View.Piece Val S1x2x256 e) ::
      (⟨Rect.unit ![0, 0, 0] S1x1x256.size inb0, w0⟩ : View.Piece Val S1x2x256 e) :: L))
        (ix3 0 b r) = if b = 1 then w1 (ix3 0 0 r) else w0 (ix3 0 0 r) := by
  match b with
  | 0 =>
    rw [if_neg (by decide), View.read_writes_cons_unit_of_not_mem v f inb1 w1 _ _ rfl 1 (Or.inl Nat.zero_lt_one)]
    refine View.read_writes_cons_unit_of_mem v f inb0 w0 L _ (ix3 0 0 r) rfl ?_
    intro a; fin_cases a
    · rfl
    · rfl
    · exact (Nat.zero_add _).symm
  | 1 =>
    rw [if_pos rfl]
    refine View.read_writes_cons_unit_of_mem v f inb1 w1 _ _ (ix3 0 0 r) rfl ?_
    intro a; fin_cases a
    · rfl
    · rfl
    · exact (Nat.zero_add _).symm

end Views

/-! ## One lane of the scales -/

/-- The lane counter. -/
def IsIota (v3 : IVec S256x128 32) : Prop := ∀ r l, v3 (ix2 r l) = BitVec.ofNat 32 l.val

theorem laneLo : ∀ k : Fin k0_t5_loop.trips, Scalar.addi (Scalar.muli 2#32 (Scf.iv (0#32) (1#32) k.val)) 0#32 = BitVec.ofNat 32 (2 * k.val) := by
  decide
theorem laneHi : ∀ k : Fin k0_t5_loop.trips, Scalar.addi (Scalar.muli 2#32 (Scf.iv (0#32) (1#32) k.val)) 1#32 = BitVec.ofNat 32 (2 * k.val + 1) := by
  decide

theorem lane_select {α : Type} (l : Fin 128) (n : ℕ) (hn : n < 128) (a b : α) :
    Scalar.select (IntOp.cmpi .eq (BitVec.ofNat 32 l.val) (BitVec.ofNat 32 n)) a b = if l.val = n then a else b := by
  have hl := l.isLt
  by_cases h : l.val = n
  · rw [if_pos h, h]; simp [Scalar.select, IntOp.cmpi]
  · rw [if_neg h]
    have : BitVec.ofNat 32 l.val ≠ BitVec.ofNat 32 n := fun e => h (by
      have := congrArg BitVec.toNat e
      simp only [BitVec.toNat_ofNat] at this
      omega)
    simp [Scalar.select, IntOp.cmpi, beq_eq_false_iff_ne.mpr this]

/-- The store of the low group's scale changes its lane alone. -/
theorem pay9_apply (s : FVec Ideal S256x1 .f32) (v3 : IVec S256x128 32) (h3 : IsIota v3) (k : Fin k0_t5_loop.trips) (v : Vec Ideal S1x256x128 .f32)
    (r : Fin 256) (l : Fin 128) :
    k0_pay9 s (k0_pay8 v3 0#32 1#32 k) v (ix3 0 r l) = if l.val = 2 * k.val then s (ix2 r 0) else v (ix3 0 r l) := by
  have hk : k.val < 20 := trips5 ▸ k.isLt
  rw [← lane_select l _ (by omega), ← laneLo, ← h3 r l]
  pointwise [k0_pay9, k0_pay8]

/-- The store of the high group's scale changes its lane alone. -/
theorem pay12_apply (R : FVec Ideal S256x256 .f32) (v3 : IVec S256x128 32) (h3 : IsIota v3) (k : Fin k0_t5_loop.trips) (v : Vec Ideal S1x256x128 .f32)
    (r : Fin 256) (l : Fin 128) :
    k0_pay12 v3 (Scf.iv 0#32 1#32 k) R v (ix3 0 r l) = if l.val = 2 * k.val + 1 then k0_pay11 R (ix2 r 0) else v (ix3 0 r l) := by
  have hk : k.val < 20 := trips5 ▸ k.isLt
  rw [← lane_select l _ (by omega), ← laneHi, ← h3 r l]
  pointwise [k0_pay12]

theorem pay24_eq (v3 : IVec S256x128 32) (a b : BitVec 32) (k : Fin k0_t5_loop.trips) (v169 v271) (v : Vec Ideal S1x256x128 .f32) :
    k0_pay24 (F := Ideal) v3 (Scf.iv a b k) v169 v271 v = k0_pay9 (loScale (k0_pay20 v169 v271)) (k0_pay8 v3 a b k) v := rfl

end Cert.KernelIdeal.Hand

end
-- ==== Proof.Value.Stats.lean ====
module

public import proofs.«01_k».proof.Proof.Gen.KernelIdeal.Loops
public import proofs.«01_k».proof.Proof.Value.Common

@[expose] public section

set_option maxRecDepth 16384
set_option maxHeartbeats 4000000

noncomputable section

/-! # The four statistics loops

The carried lane sums before each trip, and with them the mean and the reciprocal root of the variance of every token of the
block, for both branches. -/

namespace Cert.KernelIdeal.Hand

open Idealize.ShloMosaic Idealize.ShloMosaic.TcCoe Cert.KernelIdeal Cert.KernelIdeal.Gen Cert.Rows
open scoped BigOperators

variable (𝒱 : Variants) (c : Dev nD) (bd : Option 𝒱.V) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole)
variable (h : Fin 2 → Fin 256 → Fin 5120 → EReal) (X4 : BufTy.Contents (Elt Ideal) arg4.view.ty)
  (hX4 : ∀ b r c, arg4.view.read (Elt Ideal) X4 (ix4 0 b r c) = h b r c)
include hX4

/-- A load of a chunk of branch `b`. -/
theorem rd_hidden (b : Fin 2) {k : ℕ} (hk : k < 20) {o : Fin 4 → ℕ} (eo : o = ![0, b.val, 0, 256 * k])
    (inb : ∀ a, o a + S1x1x256x256.size a ≤ S1x2x256x5120.size a) (r c : Fin 256) :
    arg4.view.readAt (Elt Ideal) (Rect.unit (s := S1x2x256x5120) o S1x1x256x256.size inb).toLoadRect X4 (ix4 0 0 r c) = h b r (cc hk c) :=
  (rdAt arg4.view inb X4 _ (ix4 0 b r (cc hk c)) eo (by
    intro a; fin_cases a
    · rfl
    · rfl
    · exact (Nat.zero_add _).symm
    · rfl)).trans (hX4 b r (cc hk c))

omit hX4 in
/-- One trip of loop 1. -/
theorem trip1_eq (k : Fin k0_t1_loop.trips) (acc : FVec Ideal S256x128 .f32) :
    tripR_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X4 k acc = k0_pay33 acc (arg4.view.readAt (Elt Ideal) (Rect.unit (s := S1x2x256x5120) (k0_off1 k) S1x1x256x256.size (k0_off1_inb k)).toLoadRect X4) := by
  unfold tripR_k0_t1 trip_k0_t1
  rfl

/-- The lane sums carried by loop 1 before trip `n`. -/
theorem st1_apply : ∀ n, n ≤ 20 → ∀ r l,
    st_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X4 (k0_pay32 (F := Ideal)) n (ix2 r l) = runSum (h 0 r) n l := by
  intro n
  induction n with
  | zero =>
    intro _ r l
    show k0_pay32 (F := Ideal) (ix2 r l) = 0
    pointwise [k0_pay32]
  | succ n ih =>
    intro hn r l
    have hk : n < 20 := hn
    let k : Fin k0_t1_loop.trips := ⟨n, trips1 ▸ hk⟩
    have e := st_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X4 (k0_pay32 (F := Ideal)) k
    rw [show n + 1 = k.val + 1 from rfl, e, trip1_eq, runSum, ← ih (by omega) r l]
    exact pay33_apply (h 0) _ _ hk (rd_hidden arg4 h X4 hX4 0 hk (off1_eq k) _) r l

omit hX4 in
/-- One trip of loop 2. -/
theorem trip2_eq (v6 : FVec Ideal S256x128 .f32) (k : Fin k0_t2_loop.trips) (acc : FVec Ideal S256x128 .f32) :
    tripR_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v6 X4 k acc = k0_pay36 v6 acc (arg4.view.readAt (Elt Ideal) (Rect.unit (s := S1x2x256x5120) (k0_off2 k) S1x1x256x256.size (k0_off2_inb k)).toLoadRect X4) := by
  unfold tripR_k0_t2 trip_k0_t2
  rfl

/-- The lane sums carried by loop 2 before trip `n`. -/
theorem st2_apply (v6 : FVec Ideal S256x128 .f32) (hm : ∀ r, (k0_pay34 v6) (ix2 r 0) = mean (h 0 r)) : ∀ n, n ≤ 20 → ∀ r l,
    st_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v6 X4 (k0_pay35 (F := Ideal)) n (ix2 r l) = runSum (csq (h 0 r)) n l := by
  intro n
  induction n with
  | zero =>
    intro _ r l
    show k0_pay35 (F := Ideal) (ix2 r l) = 0
    pointwise [k0_pay35]
  | succ n ih =>
    intro hn r l
    have hk : n < 20 := hn
    let k : Fin k0_t2_loop.trips := ⟨n, trips2 ▸ hk⟩
    have e := st_k0_t2_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v6 X4 (k0_pay35 (F := Ideal)) k
    rw [show n + 1 = k.val + 1 from rfl, e, trip2_eq, runSum, ← ih (by omega) r l]
    exact pay42_apply (h 0) (k0_pay34 v6) _ _ hk hm (rd_hidden arg4 h X4 hX4 0 hk (off2_eq k) _) r l

omit hX4 in
/-- One trip of loop 3. -/
theorem trip3_eq (k : Fin k0_t3_loop.trips) (acc : FVec Ideal S256x128 .f32) :
    tripR_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X4 k acc = k0_pay39 acc (arg4.view.readAt (Elt Ideal) (Rect.unit (s := S1x2x256x5120) (k0_off3 k) S1x1x256x256.size (k0_off3_inb k)).toLoadRect X4) := by
  unfold tripR_k0_t3 trip_k0_t3
  rfl

/-- The lane sums carried by loop 3 before trip `n`. -/
theorem st3_apply : ∀ n, n ≤ 20 → ∀ r l,
    st_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X4 (k0_pay38 (F := Ideal)) n (ix2 r l) = runSum (h 1 r) n l := by
  intro n
  induction n with
  | zero =>
    intro _ r l
    show k0_pay38 (F := Ideal) (ix2 r l) = 0
    pointwise [k0_pay38]
  | succ n ih =>
    intro hn r l
    have hk : n < 20 := hn
    let k : Fin k0_t3_loop.trips := ⟨n, trips3 ▸ hk⟩
    have e := st_k0_t3_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X4 (k0_pay38 (F := Ideal)) k
    rw [show n + 1 = k.val + 1 from rfl, e, trip3_eq, runSum, ← ih (by omega) r l]
    exact pay33_apply (h 1) _ _ hk (rd_hidden arg4 h X4 hX4 1 hk (off3_eq k) _) r l

omit hX4 in
/-- One trip of loop 4. -/
theorem trip4_eq (v1 : FVec Ideal S256x64 .fp8e4m3) (v2 : Elt Ideal .f32) (v3 : IVec S256x128 32) (v10 : FVec Ideal S256x1 .f32) (v22 : FVec Ideal S256x1 .f32) (v29 : FVec Ideal S256x1 .f32) (k : Fin k0_t4_loop.trips) (acc : FVec Ideal S256x128 .f32) :
    tripR_k0_t4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v2 v3 v10 v22 v29 X4 k acc = k0_pay42 v29 acc (arg4.view.readAt (Elt Ideal) (Rect.unit (s := S1x2x256x5120) (k0_off4 k) S1x1x256x256.size (k0_off4_inb k)).toLoadRect X4) := by
  unfold tripR_k0_t4 trip_k0_t4
  rfl

/-- The lane sums carried by loop 4 before trip `n`. -/
theorem st4_apply (v1 : FVec Ideal S256x64 .fp8e4m3) (v2 : Elt Ideal .f32) (v3 : IVec S256x128 32) (v10 : FVec Ideal S256x1 .f32) (v22 : FVec Ideal S256x1 .f32) (v29 : FVec Ideal S256x1 .f32) (hm : ∀ r, v29 (ix2 r 0) = mean (h 1 r)) : ∀ n, n ≤ 20 → ∀ r l,
    st_k0_t4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v2 v3 v10 v22 v29 X4 (k0_pay41 (F := Ideal)) n (ix2 r l) = runSum (csq (h 1 r)) n l := by
  intro n
  induction n with
  | zero =>
    intro _ r l
    show k0_pay41 (F := Ideal) (ix2 r l) = 0
    pointwise [k0_pay41]
  | succ n ih =>
    intro hn r l
    have hk : n < 20 := hn
    let k : Fin k0_t4_loop.trips := ⟨n, trips4 ▸ hk⟩
    have e := st_k0_t4_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v2 v3 v10 v22 v29 X4 (k0_pay41 (F := Ideal)) k
    rw [show n + 1 = k.val + 1 from rfl, e, trip4_eq, runSum, ← ih (by omega) r l]
    exact pay42_apply (h 1) v29 _ _ hk hm (rd_hidden arg4 h X4 hX4 1 hk (off4_eq k) _) r l

end Cert.KernelIdeal.Hand

end
-- ==== Proof.Value.Chunk.lean ====
module

public import proofs.«01_k».proof.Proof.Gen.KernelIdeal.Loops
public import proofs.«01_k».proof.Proof.Value.Stats

@[expose] public section

set_option maxRecDepth 16384
set_option maxHeartbeats 4000000

noncomputable section

/-! # The pass over the channels

One trip of the loop over 20 chunks of 256 channels, and what the buffers hold after each number of trips: the residual codes
and the modulated activations of the channels passed, the scales of the groups passed, the lane maxima so far. Both branches
are the same functions of their own block of the hidden state. -/

namespace Cert.KernelIdeal.Hand

open Idealize.ShloMosaic Idealize.ShloMosaic.TcCoe Cert.KernelIdeal Cert.KernelIdeal.Gen Cert.Rows
open scoped BigOperators

variable (𝒱 : Variants) (c : Dev nD) (bd : Option 𝒱.V) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole)
  (v1 : FVec Ideal S256x64 .fp8e4m3) (v2 : Elt Ideal .f32) (v3 : IVec S256x128 32) (v10 v22 v29 : FVec Ideal S256x1 .f32)
  (v32 : FVec Ideal S256x128 .f32)
  (X4 : BufTy.Contents (Elt Ideal) arg4.view.ty) (X5 : BufTy.Contents (Elt Ideal) arg5.view.ty) (X6 : BufTy.Contents (Elt Ideal) arg6.view.ty)
  (X7 : BufTy.Contents (Elt Ideal) arg7.view.ty) (X8 : BufTy.Contents (Elt Ideal) arg8.view.ty) (X9 : BufTy.Contents (Elt Ideal) arg9.view.ty)
  (G13 : BufTy.Contents (Elt Ideal) arg13.view.ty) (G20 : BufTy.Contents (Elt Ideal) arg20.view.ty)
  (G21 : BufTy.Contents (Elt Ideal) arg21.view.ty) (G22 : BufTy.Contents (Elt Ideal) arg22.view.ty)

/-- The scales' store of branch 0: the low group's lane, then the high group's. -/
def scales0 (k : Fin k0_t5_loop.trips) (R : FVec Ideal S256x256 .f32) : List (View.Piece (Elt Ideal) S2x256x128 .f32) :=
  [(⟨Rect.unit (s := S2x256x128) (![0, 0, 0] : Fin 3 → ℕ) S1x256x128.size inb_S2x256x128_S1x256x128_0_0_0, k0_pay12 v3 (Scf.iv 0#32 1#32 k) R (arg22.view.readCov [(⟨Rect.unit (s := S2x256x128) (![0, 0, 0] : Fin 3 → ℕ) S1x256x128.size inb_S2x256x128_S1x256x128_0_0_0, k0_pay9 (loScale R) (k0_pay8 v3 0#32 1#32 k) (arg22.view.readAt (Elt Ideal) (Rect.unit (s := S2x256x128) (![0, 0, 0] : Fin 3 → ℕ) S1x256x128.size inb_S2x256x128_S1x256x128_0_0_0).toLoadRect G22)⟩ : View.Piece (Elt Ideal) S2x256x128 .f32)] (Rect.unit (s := S2x256x128) ![0, 0, 0] S1x256x128.size inb_S2x256x128_S1x256x128_0_0_0).toLoadRect)⟩ : View.Piece (Elt Ideal) S2x256x128 .f32),
    (⟨Rect.unit (s := S2x256x128) (![0, 0, 0] : Fin 3 → ℕ) S1x256x128.size inb_S2x256x128_S1x256x128_0_0_0, k0_pay9 (loScale R) (k0_pay8 v3 0#32 1#32 k) (arg22.view.readAt (Elt Ideal) (Rect.unit (s := S2x256x128) (![0, 0, 0] : Fin 3 → ℕ) S1x256x128.size inb_S2x256x128_S1x256x128_0_0_0).toLoadRect G22)⟩ : View.Piece (Elt Ideal) S2x256x128 .f32)]

/-- The scales' store of branch 1, after branch 0's. -/
def scales1 (k : Fin k0_t5_loop.trips) (R : FVec Ideal S256x256 .f32) (L : List (View.Piece (Elt Ideal) S2x256x128 .f32)) :
    List (View.Piece (Elt Ideal) S2x256x128 .f32) :=
  (⟨Rect.unit (s := S2x256x128) (![1, 0, 0] : Fin 3 → ℕ) S1x256x128.size inb_S2x256x128_S1x256x128_1_0_0, k0_pay12 v3 (Scf.iv 0#32 1#32 k) R (arg22.view.readCov ((⟨Rect.unit (s := S2x256x128) (![1, 0, 0] : Fin 3 → ℕ) S1x256x128.size inb_S2x256x128_S1x256x128_1_0_0, k0_pay9 (loScale R) (k0_pay8 v3 0#32 1#32 k) (arg22.view.readAt (Elt Ideal) (Rect.unit (s := S2x256x128) (![1, 0, 0] : Fin 3 → ℕ) S1x256x128.size inb_S2x256x128_S1x256x128_1_0_0).toLoadRect G22)⟩ : View.Piece (Elt Ideal) S2x256x128 .f32) :: L) (Rect.unit (s := S2x256x128) ![1, 0, 0] S1x256x128.size inb_S2x256x128_S1x256x128_1_0_0).toLoadRect)⟩ : View.Piece (Elt Ideal) S2x256x128 .f32) ::
    (⟨Rect.unit (s := S2x256x128) (![1, 0, 0] : Fin 3 → ℕ) S1x256x128.size inb_S2x256x128_S1x256x128_1_0_0, k0_pay9 (loScale R) (k0_pay8 v3 0#32 1#32 k) (arg22.view.readAt (Elt Ideal) (Rect.unit (s := S2x256x128) (![1, 0, 0] : Fin 3 → ℕ) S1x256x128.size inb_S2x256x128_S1x256x128_1_0_0).toLoadRect G22)⟩ : View.Piece (Elt Ideal) S2x256x128 .f32) :: L

/-- One trip: the pieces it stores, newest first. -/
theorem trip5_eq (k : Fin k0_t5_loop.trips) :
    tripL_k0_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v2 v3 v10 v22 v29 v32 X4 X5 X6 X7 X8 X9 k G13 G20 G21 G22
      = ([(⟨Rect.unit (s := S1x2x256x5120) (k0_off10 k) S1x1x256x256.size (k0_off10_inb k), k0_pay14 (k0_pay13 (k0_pay20 (k0_pay2 v1 v2 (arg5.view.readAt (Elt Ideal) (Rect.unit (s := S64x5120) (k0_off5 k) S64x256.size (k0_off5_inb k)).toLoadRect X5) (arg6.view.readAt (Elt Ideal) (Rect.unit (s := S1x5120) (k0_off6 k) S1x256.size (k0_off6_inb k)).toLoadRect X6) (arg7.view.readAt (Elt Ideal) (Rect.unit (s := S1x5120) (k0_off6 k) S1x256.size (k0_off6_inb k)).toLoadRect X7)) (k0_pay18 (arg4.view.readAt (Elt Ideal) (Rect.unit (s := S1x2x256x5120) (k0_off10 k) S1x1x256x256.size (k0_off10_inb k)).toLoadRect X4))) (loQ (k0_pay20 (k0_pay2 v1 v2 (arg5.view.readAt (Elt Ideal) (Rect.unit (s := S64x5120) (k0_off5 k) S64x256.size (k0_off5_inb k)).toLoadRect X5) (arg6.view.readAt (Elt Ideal) (Rect.unit (s := S1x5120) (k0_off6 k) S1x256.size (k0_off6_inb k)).toLoadRect X6) (arg7.view.readAt (Elt Ideal) (Rect.unit (s := S1x5120) (k0_off6 k) S1x256.size (k0_off6_inb k)).toLoadRect X7)) (k0_pay18 (arg4.view.readAt (Elt Ideal) (Rect.unit (s := S1x2x256x5120) (k0_off10 k) S1x1x256x256.size (k0_off10_inb k)).toLoadRect X4)))))⟩ : View.Piece (Elt Ideal) S1x2x256x5120 .i8),
          (⟨Rect.unit (s := S1x2x256x5120) (k0_off7 k) S1x1x256x256.size (k0_off7_inb k), k0_pay14 (k0_pay13 (k0_pay20 (k0_pay2 v1 v2 (arg5.view.readAt (Elt Ideal) (Rect.unit (s := S64x5120) (k0_off5 k) S64x256.size (k0_off5_inb k)).toLoadRect X5) (arg6.view.readAt (Elt Ideal) (Rect.unit (s := S1x5120) (k0_off6 k) S1x256.size (k0_off6_inb k)).toLoadRect X6) (arg7.view.readAt (Elt Ideal) (Rect.unit (s := S1x5120) (k0_off6 k) S1x256.size (k0_off6_inb k)).toLoadRect X7)) (k0_pay18 (arg4.view.readAt (Elt Ideal) (Rect.unit (s := S1x2x256x5120) (k0_off7 k) S1x1x256x256.size (k0_off7_inb k)).toLoadRect X4))) (loQ (k0_pay20 (k0_pay2 v1 v2 (arg5.view.readAt (Elt Ideal) (Rect.unit (s := S64x5120) (k0_off5 k) S64x256.size (k0_off5_inb k)).toLoadRect X5) (arg6.view.readAt (Elt Ideal) (Rect.unit (s := S1x5120) (k0_off6 k) S1x256.size (k0_off6_inb k)).toLoadRect X6) (arg7.view.readAt (Elt Ideal) (Rect.unit (s := S1x5120) (k0_off6 k) S1x256.size (k0_off6_inb k)).toLoadRect X7)) (k0_pay18 (arg4.view.readAt (Elt Ideal) (Rect.unit (s := S1x2x256x5120) (k0_off7 k) S1x1x256x256.size (k0_off7_inb k)).toLoadRect X4)))))⟩ : View.Piece (Elt Ideal) S1x2x256x5120 .i8)],
         [(⟨Rect.unit (s := S2x256x5120) (k0_off11 k) S1x256x256.size (k0_off11_inb k), k0_pay17 v29 (k0_pay43 v32) (k0_pay3 (arg4.view.readAt (Elt Ideal) (Rect.unit (s := S1x2x256x5120) (k0_off10 k) S1x1x256x256.size (k0_off10_inb k)).toLoadRect X4)) (arg8.view.readAt (Elt Ideal) (Rect.unit (s := S1x1x5120) (k0_off8 k) S1x1x256.size (k0_off8_inb k)).toLoadRect X8) (arg9.view.readAt (Elt Ideal) (Rect.unit (s := S1x1x5120) (k0_off8 k) S1x1x256.size (k0_off8_inb k)).toLoadRect X9)⟩ : View.Piece (Elt Ideal) S2x256x5120 .f32),
          (⟨Rect.unit (s := S2x256x5120) (k0_off9 k) S1x256x256.size (k0_off9_inb k), k0_pay17 v10 v22 (k0_pay3 (arg4.view.readAt (Elt Ideal) (Rect.unit (s := S1x2x256x5120) (k0_off7 k) S1x1x256x256.size (k0_off7_inb k)).toLoadRect X4)) (arg8.view.readAt (Elt Ideal) (Rect.unit (s := S1x1x5120) (k0_off8 k) S1x1x256.size (k0_off8_inb k)).toLoadRect X8) (arg9.view.readAt (Elt Ideal) (Rect.unit (s := S1x1x5120) (k0_off8 k) S1x1x256.size (k0_off8_inb k)).toLoadRect X9)⟩ : View.Piece (Elt Ideal) S2x256x5120 .f32)],
         [(⟨Rect.unit (s := S2x256x128) (![1, 0, 0] : Fin 3 → ℕ) S1x256x128.size inb_S2x256x128_S1x256x128_1_0_0, k0_pay16 v29 (k0_pay43 v32) (k0_pay3 (arg4.view.readAt (Elt Ideal) (Rect.unit (s := S1x2x256x5120) (k0_off10 k) S1x1x256x256.size (k0_off10_inb k)).toLoadRect X4)) (arg8.view.readAt (Elt Ideal) (Rect.unit (s := S1x1x5120) (k0_off8 k) S1x1x256.size (k0_off8_inb k)).toLoadRect X8) (arg9.view.readAt (Elt Ideal) (Rect.unit (s := S1x1x5120) (k0_off8 k) S1x1x256.size (k0_off8_inb k)).toLoadRect X9) (arg21.view.readAt (Elt Ideal) (Rect.unit (s := S2x256x128) (![1, 0, 0] : Fin 3 → ℕ) S1x256x128.size inb_S2x256x128_S1x256x128_1_0_0).toLoadRect G21)⟩ : View.Piece (Elt Ideal) S2x256x128 .f32),
          (⟨Rect.unit (s := S2x256x128) (![0, 0, 0] : Fin 3 → ℕ) S1x256x128.size inb_S2x256x128_S1x256x128_0_0_0, k0_pay16 v10 v22 (k0_pay3 (arg4.view.readAt (Elt Ideal) (Rect.unit (s := S1x2x256x5120) (k0_off7 k) S1x1x256x256.size (k0_off7_inb k)).toLoadRect X4)) (arg8.view.readAt (Elt Ideal) (Rect.unit (s := S1x1x5120) (k0_off8 k) S1x1x256.size (k0_off8_inb k)).toLoadRect X8) (arg9.view.readAt (Elt Ideal) (Rect.unit (s := S1x1x5120) (k0_off8 k) S1x1x256.size (k0_off8_inb k)).toLoadRect X9) (arg21.view.readAt (Elt Ideal) (Rect.unit (s := S2x256x128) (![0, 0, 0] : Fin 3 → ℕ) S1x256x128.size inb_S2x256x128_S1x256x128_0_0_0).toLoadRect G21)⟩ : View.Piece (Elt Ideal) S2x256x128 .f32)],
         scales1 arg22 v3 G22 k (k0_pay20 (k0_pay2 v1 v2 (arg5.view.readAt (Elt Ideal) (Rect.unit (s := S64x5120) (k0_off5 k) S64x256.size (k0_off5_inb k)).toLoadRect X5) (arg6.view.readAt (Elt Ideal) (Rect.unit (s := S1x5120) (k0_off6 k) S1x256.size (k0_off6_inb k)).toLoadRect X6) (arg7.view.readAt (Elt Ideal) (Rect.unit (s := S1x5120) (k0_off6 k) S1x256.size (k0_off6_inb k)).toLoadRect X7)) (k0_pay18 (arg4.view.readAt (Elt Ideal) (Rect.unit (s := S1x2x256x5120) (k0_off10 k) S1x1x256x256.size (k0_off10_inb k)).toLoadRect X4))) (scales0 arg22 v3 G22 k (k0_pay20 (k0_pay2 v1 v2 (arg5.view.readAt (Elt Ideal) (Rect.unit (s := S64x5120) (k0_off5 k) S64x256.size (k0_off5_inb k)).toLoadRect X5) (arg6.view.readAt (Elt Ideal) (Rect.unit (s := S1x5120) (k0_off6 k) S1x256.size (k0_off6_inb k)).toLoadRect X6) (arg7.view.readAt (Elt Ideal) (Rect.unit (s := S1x5120) (k0_off6 k) S1x256.size (k0_off6_inb k)).toLoadRect X7)) (k0_pay18 (arg4.view.readAt (Elt Ideal) (Rect.unit (s := S1x2x256x5120) (k0_off7 k) S1x1x256x256.size (k0_off7_inb k)).toLoadRect X4))))) := by
  unfold tripL_k0_t5 trip_k0_t5
  rfl

/-- What the scales' stores leave at a token's lane: each branch's two new lanes, the rest as before. -/
theorem scales_read (h3 : IsIota v3) (k : Fin k0_t5_loop.trips) (R0 R1 : FVec Ideal S256x256 .f32) (L : List (View.Piece (Elt Ideal) S2x256x128 .f32))
    (f : BufTy.Contents (Elt Ideal) arg22.view.ty) (hf : G22 = arg22.view.writes (Elt Ideal) f L) (b : Fin 2) (r : Fin 256) (l : Fin 128) :
    arg22.view.read (Elt Ideal) (arg22.view.writes (Elt Ideal) f (scales1 arg22 v3 G22 k R1 (scales0 arg22 v3 G22 k R0) ++ L)) (ix3 b r l)
      = if l.val = 2 * k.val + 1 then k0_pay11 (if b = 1 then R1 else R0) (ix2 r 0)
        else if l.val = 2 * k.val then loScale (if b = 1 then R1 else R0) (ix2 r 0)
        else arg22.view.read (Elt Ideal) G22 (ix3 b r l) := by
  unfold scales1 scales0
  simp only [List.cons_append, List.nil_append]
  match b with
  | 0 =>
    rw [read_slab1, if_neg (by decide), read_slab1, if_neg (by decide), read_slab0, if_pos rfl, pay12_apply _ _ h3]
    unfold View.readCov
    rw [show ∀ f, arg22.view.readAt (Elt Ideal) (Rect.unit (s := S2x256x128) ![0, 0, 0] S1x256x128.size inb_S2x256x128_S1x256x128_0_0_0).toLoadRect f (ix3 0 r l)
        = arg22.view.read (Elt Ideal) f (ix3 0 r l) from fun f => rd_slab arg22.view f 0 _ r l, read_slab0, if_pos rfl, pay9_apply _ _ h3]
    rw [show ∀ f, arg22.view.readAt (Elt Ideal) (Rect.unit (s := S2x256x128) ![0, 0, 0] S1x256x128.size inb_S2x256x128_S1x256x128_0_0_0).toLoadRect f (ix3 0 r l)
        = arg22.view.read (Elt Ideal) f (ix3 0 r l) from fun f => rd_slab arg22.view f 0 _ r l]
    rfl
  | 1 =>
    rw [read_slab1, if_pos rfl, pay12_apply _ _ h3]
    unfold View.readCov
    rw [show ∀ f, arg22.view.readAt (Elt Ideal) (Rect.unit (s := S2x256x128) ![1, 0, 0] S1x256x128.size inb_S2x256x128_S1x256x128_1_0_0).toLoadRect f (ix3 0 r l)
        = arg22.view.read (Elt Ideal) f (ix3 1 r l) from fun f => rd_slab arg22.view f 1 _ r l, read_slab1, if_pos rfl, pay9_apply _ _ h3]
    rw [show ∀ f, arg22.view.readAt (Elt Ideal) (Rect.unit (s := S2x256x128) ![1, 0, 0] S1x256x128.size inb_S2x256x128_S1x256x128_1_0_0).toLoadRect f (ix3 0 r l)
        = arg22.view.read (Elt Ideal) f (ix3 1 r l) from fun f => rd_slab arg22.view f 1 _ r l]
    rfl

variable (P : Params) (x : Fin 256 → Fin 64 → EReal) (h : Fin 2 → Fin 256 → Fin 5120 → EReal)
  (hX4 : ∀ b r c, arg4.view.read (Elt Ideal) X4 (ix4 0 b r c) = h b r c)
  (hX5 : ∀ j c, arg5.view.read (Elt Ideal) X5 (ix2 j c) = P.we j c)
  (hX6 : ∀ c, arg6.view.read (Elt Ideal) X6 (ix2 0 c) = P.se c)
  (hX7 : ∀ c, arg7.view.read (Elt Ideal) X7 (ix2 0 c) = P.be c)
  (hX8 : ∀ c, arg8.view.read (Elt Ideal) X8 (ix3 0 0 c) = P.hg c)
  (hX9 : ∀ c, arg9.view.read (Elt Ideal) X9 (ix3 0 0 c) = P.hs c)
  (h1 : ∀ r j, v1 (ix2 r j) = x r j) (h2 : v2 = P.s) (h3 : IsIota v3)
  (h10 : ∀ r, v10 (ix2 r 0) = mean (h 0 r))
  (h22 : ∀ r, v22 (ix2 r 0) = Ideal.div 1 (Ideal.sqrt (var (h 0 r) + Ideal.ofBits .f32 897988541#32)))
  (h29 : ∀ r, v29 (ix2 r 0) = mean (h 1 r))
  (h41 : ∀ r, k0_pay43 v32 (ix2 r 0) = Ideal.div 1 (Ideal.sqrt (var (h 1 r) + Ideal.ofBits .f32 897988541#32)))
  (h21 : ∀ b r l, arg21.view.read (Elt Ideal) G21 (ix3 b r l) = 0)
include hX4 hX5 hX6 hX7 hX8 hX9 h1 h2 h3 h10 h22 h29 h41 h21

/-- The buffers after `n` trips. -/
theorem pb5_apply : ∀ n, n ≤ 20 →
    (∀ b r (ch : Fin 5120), ch.val < 256 * n → arg13.view.read (Elt Ideal) (arg13.view.writes (Elt Ideal) G13 (pb_k0_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v2 v3 v10 v22 v29 v32 X4 X5 X6 X7 X8 X9 G13 G20 G21 G22 n).1) (ix4 0 b r ch)
      = rcode P (x r) (h b r) ch)
    ∧ (∀ b r (ch : Fin 5120), ch.val < 256 * n → arg20.view.read (Elt Ideal) (arg20.view.writes (Elt Ideal) G20 (pb_k0_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v2 v3 v10 v22 v29 v32 X4 X5 X6 X7 X8 X9 G13 G20 G21 G22 n).2.1) (ix3 b r ch)
      = hm P (h b r) ch)
    ∧ (∀ b r l, arg21.view.read (Elt Ideal) (arg21.view.writes (Elt Ideal) G21 (pb_k0_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v2 v3 v10 v22 v29 v32 X4 X5 X6 X7 X8 X9 G13 G20 G21 G22 n).2.2.1) (ix3 b r l)
      = runMax (fun c => abs' (hm P (h b r) c)) n l)
    ∧ (∀ b r (l : Fin 128) (hl : l.val < 40), l.val < 2 * n → arg22.view.read (Elt Ideal) (arg22.view.writes (Elt Ideal) G22 (pb_k0_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v2 v3 v10 v22 v29 v32 X4 X5 X6 X7 X8 X9 G13 G20 G21 G22 n).2.2.2) (ix3 b r l)
      = gscale P (x r) (h b r) ⟨l.val, hl⟩) := by
  intro n
  induction n with
  | zero =>
    intro _
    refine ⟨fun b r c hc => absurd hc (by omega), fun b r c hc => absurd hc (by omega), fun b r l => ?_, fun b r l _ hl => absurd hl (by omega)⟩
    exact h21 b r l
  | succ n ih =>
    intro hn
    have hk : n < 20 := hn
    let k : Fin k0_t5_loop.trips := ⟨n, trips5 ▸ hk⟩
    obtain ⟨i13, i20, i21, i22⟩ := ih (by omega)
    rw [show n + 1 = k.val + 1 from rfl, pb_k0_t5_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v2 v3 v10 v22 v29 v32 X4 X5 X6 X7 X8 X9 G13 G20 G21 G22 k, trip5_eq]
    dsimp only
    generalize pb_k0_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1 v2 v3 v10 v22 v29 v32 X4 X5 X6 X7 X8 X9 G13 G20 G21 G22 k.val = pb at i13 i20 i21 i22 ⊢
    simp only [List.cons_append, List.nil_append]
    have l5 : ∀ j (c : Fin 256), (arg5.view.readAt (Elt Ideal) (Rect.unit (s := S64x5120) (k0_off5 k) S64x256.size (k0_off5_inb k)).toLoadRect X5) (ix2 j c) = P.we j (cc hk c) := fun j c =>
      (rdAt arg5.view _ X5 _ (ix2 j (cc hk c)) (off5_eq k) (by
        intro a; fin_cases a
        · exact (Nat.zero_add _).symm
        · rfl)).trans (hX5 _ _)
    have l6 : ∀ c : Fin 256, (arg6.view.readAt (Elt Ideal) (Rect.unit (s := S1x5120) (k0_off6 k) S1x256.size (k0_off6_inb k)).toLoadRect X6) (ix2 0 c) = P.se (cc hk c) := fun c =>
      (rdAt arg6.view _ X6 _ (ix2 0 (cc hk c)) (off6_eq k) (by intro a; fin_cases a <;> rfl)).trans (hX6 _)
    have l7 : ∀ c : Fin 256, (arg7.view.readAt (Elt Ideal) (Rect.unit (s := S1x5120) (k0_off6 k) S1x256.size (k0_off6_inb k)).toLoadRect X7) (ix2 0 c) = P.be (cc hk c) := fun c =>
      (rdAt arg7.view _ X7 _ (ix2 0 (cc hk c)) (off6_eq k) (by intro a; fin_cases a <;> rfl)).trans (hX7 _)
    have l8 : ∀ c : Fin 256, (arg8.view.readAt (Elt Ideal) (Rect.unit (s := S1x1x5120) (k0_off8 k) S1x1x256.size (k0_off8_inb k)).toLoadRect X8) (ix3 0 0 c) = P.hg (cc hk c) := fun c =>
      (rdAt arg8.view _ X8 _ (ix3 0 0 (cc hk c)) (off8_eq k) (by intro a; fin_cases a <;> rfl)).trans (hX8 _)
    have l9 : ∀ c : Fin 256, (arg9.view.readAt (Elt Ideal) (Rect.unit (s := S1x1x5120) (k0_off8 k) S1x1x256.size (k0_off8_inb k)).toLoadRect X9) (ix3 0 0 c) = P.hs (cc hk c) := fun c =>
      (rdAt arg9.view _ X9 _ (ix3 0 0 (cc hk c)) (off8_eq k) (by intro a; fin_cases a <;> rfl)).trans (hX9 _)
    have d0 : ∀ r c, (arg4.view.readAt (Elt Ideal) (Rect.unit (s := S1x2x256x5120) (k0_off7 k) S1x1x256x256.size (k0_off7_inb k)).toLoadRect X4) (ix4 0 0 r c) = h 0 r (cc hk c) := rd_hidden arg4 h X4 hX4 0 hk (off7_eq k) _
    have d1 : ∀ r c, (arg4.view.readAt (Elt Ideal) (Rect.unit (s := S1x2x256x5120) (k0_off10 k) S1x1x256x256.size (k0_off10_inb k)).toLoadRect X4) (ix4 0 0 r c) = h 1 r (cc hk c) := rd_hidden arg4 h X4 hX4 1 hk (off10_eq k) _
    have e5 := pay2_apply P x hk v1 v2 _ _ _ h1 h2 l5 l6 l7
    generalize (k0_pay2 v1 v2 (arg5.view.readAt (Elt Ideal) (Rect.unit (s := S64x5120) (k0_off5 k) S64x256.size (k0_off5_inb k)).toLoadRect X5) (arg6.view.readAt (Elt Ideal) (Rect.unit (s := S1x5120) (k0_off6 k) S1x256.size (k0_off6_inb k)).toLoadRect X6) (arg7.view.readAt (Elt Ideal) (Rect.unit (s := S1x5120) (k0_off6 k) S1x256.size (k0_off6_inb k)).toLoadRect X7)) = E at e5 ⊢
    generalize (arg4.view.readAt (Elt Ideal) (Rect.unit (s := S1x2x256x5120) (k0_off7 k) S1x1x256x256.size (k0_off7_inb k)).toLoadRect X4) = D0 at d0 ⊢
    generalize (arg4.view.readAt (Elt Ideal) (Rect.unit (s := S1x2x256x5120) (k0_off10 k) S1x1x256x256.size (k0_off10_inb k)).toLoadRect X4) = D1 at d1 ⊢
    generalize (arg8.view.readAt (Elt Ideal) (Rect.unit (s := S1x1x5120) (k0_off8 k) S1x1x256.size (k0_off8_inb k)).toLoadRect X8) = g8 at l8 ⊢
    generalize (arg9.view.readAt (Elt Ideal) (Rect.unit (s := S1x1x5120) (k0_off8 k) S1x1x256.size (k0_off8_inb k)).toLoadRect X9) = g9 at l9 ⊢
    have r0 : ∀ r c, k0_pay20 E (k0_pay18 D0) (ix2 r c) = resid P (x r) (h 0 r) (cc hk c) := fun r c => by
      pointwise [k0_pay20, k0_pay19, k0_pay18, d0, e5]
      rfl
    have r1 : ∀ r c, k0_pay20 E (k0_pay18 D1) (ix2 r c) = resid P (x r) (h 1 r) (cc hk c) := fun r c => by
      pointwise [k0_pay20, k0_pay19, k0_pay18, d1, e5]
      rfl
    have H0 : ∀ r c, k0_pay3 D0 (ix2 r c) = h 0 r (cc hk c) := fun r c => by pointwise [k0_pay3, d0]
    have H1 : ∀ r c, k0_pay3 D1 (ix2 r c) = h 1 r (cc hk c) := fun r c => by pointwise [k0_pay3, d1]
    generalize k0_pay20 E (k0_pay18 D0) = R0 at r0 ⊢
    generalize k0_pay20 E (k0_pay18 D1) = R1 at r1 ⊢
    refine ⟨?_, ?_, ?_, ?_⟩
    · exact read_cols4 arg13.view G13 hk _ _ _ _ _ (off10_eq k) (off7_eq k) (fun b r c => rcode P (x r) (h b r) c)
        (codes_apply P x (h 1) hk R1 r1) (codes_apply P x (h 0) hk R0 r0) i13
    · exact read_cols3 arg20.view G20 hk _ _ _ _ _ (off11_eq k) (off9_eq k) (fun b r c => hm P (h b r) c)
        (pay17_apply P (h 1) hk _ _ _ _ _ h29 h41 H1 l8 l9) (pay17_apply P (h 0) hk _ _ _ _ _ h10 h22 H0 l8 l9) i20
    · intro b r l
      match b with
      | 0 =>
        rw [read_slab1, if_neg (by decide), read_slab0, if_pos rfl]
        refine pay16_apply P (h 0) hk _ _ _ _ _ h10 h22 H0 l8 l9 _ r l ?_
        exact (rd_slab arg21.view _ 0 _ r l).trans (i21 0 r l)
      | 1 =>
        rw [read_slab1, if_pos rfl]
        refine pay16_apply P (h 1) hk _ _ _ _ _ h29 h41 H1 l8 l9 _ r l ?_
        exact (rd_slab arg21.view _ 1 _ r l).trans (i21 1 r l)
    · intro b r l hl hl'
      rw [scales_read arg22 v3 _ h3 k R0 R1 pb.2.2.2 G22 rfl b r l]
      have rb : ∀ r c, (if b = 1 then R1 else R0) (ix2 r c) = resid P (x r) (h b r) (cc hk c) := by
        match b with
        | 0 => exact r0
        | 1 => exact r1
      split
      · next e =>
        rw [hiScale_apply P x (h b) hk _ rb r]
        exact congrArg _ (Fin.ext e.symm)
      · split
        · next e =>
          rw [loScale_apply P x (h b) hk _ rb r]
          exact congrArg _ (Fin.ext e.symm)
        · next e1 e2 => exact i22 b r l hl (by have : k.val = n := rfl; omega)

end Cert.KernelIdeal.Hand

end
-- ==== Proof.Value.Head.lean ====
module

public import proofs.«01_k».proof.Proof.Gen.KernelIdeal.Loops
public import proofs.«01_k».proof.Proof.Value.Common

@[expose] public section

set_option maxRecDepth 16384
set_option maxHeartbeats 4000000

noncomputable section

/-! # The head's two loops

Each branch's loop over 8 chunks of 640 channels quantises the modulated activations and adds the chunk's products to the
head's accumulator. -/

namespace Cert.KernelIdeal.Hand

open Idealize.ShloMosaic Idealize.ShloMosaic.TcCoe Cert.KernelIdeal Cert.KernelIdeal.Gen Cert.Rows
open scoped BigOperators

variable (𝒱 : Variants) (c : Dev nD) (bd : Option 𝒱.V) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole)
  (X10 : BufTy.Contents (Elt Ideal) arg10.view.ty) (X20 : BufTy.Contents (Elt Ideal) arg20.view.ty)
  (G15 : BufTy.Contents (Elt Ideal) arg15.view.ty) (G23 : BufTy.Contents (Elt Ideal) arg23.view.ty)

/-- One trip of branch 0's loop: the pieces it stores. -/
theorem trip6_eq (v51 : Vec Ideal S1x256x128 .f32) (k : Fin k0_t6_loop.trips) :
    tripL_k0_t6 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (k0_pay50 v51) (k0_pay51 v51) (Scalar.ofBits (F := Ideal) .f32 0x3F800000#32) X10 X20 k G15 G23
      = ([(⟨Rect.unit (s := S1x2x256x5120) (k0_off13 k) S1x1x256x640.size (k0_off13_inb k), k0_pay65 v51 (arg20.view.readAt (Elt Ideal) (Rect.unit (s := S2x256x5120) (k0_off12 k) S1x256x640.size (k0_off12_inb k)).toLoadRect X20)⟩ : View.Piece (Elt Ideal) S1x2x256x5120 .fp8e4m3)],
         [(⟨Rect.unit (s := S64x256) ![0, 0] S64x256.size inb_S64x256_S64x256_0_0, k0_pay66 v51 (arg20.view.readAt (Elt Ideal) (Rect.unit (s := S2x256x5120) (k0_off12 k) S1x256x640.size (k0_off12_inb k)).toLoadRect X20) (arg23.view.readAt (Elt Ideal) (Rect.unit (s := S64x256) ![0, 0] S64x256.size inb_S64x256_S64x256_0_0).toLoadRect G23) (arg10.view.readAt (Elt Ideal) (Rect.unit (s := S64x5120) (k0_off14 k) S64x640.size (k0_off14_inb k)).toLoadRect X10)⟩ : View.Piece (Elt Ideal) S64x256 .f32)]) := by
  unfold tripL_k0_t6 trip_k0_t6
  rfl

/-- Branch 0's codes and accumulator after `n` trips; the other branch's codes are left as they were. -/
theorem pb6_apply (v51 : Vec Ideal S1x256x128 .f32) (P : Params) (h : Fin 256 → Fin 5120 → EReal)
    (h51 : ∀ r l, v51 (ix3 0 r l) = runMax (fun ch => abs' (hm P (h r) ch)) 20 l)
    (h10 : ∀ j ch, arg10.view.read (Elt Ideal) X10 (ix2 j ch) = P.wh j ch)
    (h20 : ∀ r ch, arg20.view.read (Elt Ideal) X20 (ix3 0 r ch) = hm P (h r) ch)
    (h23 : ∀ j r, arg23.view.read (Elt Ideal) G23 (ix2 j r) = 0) : ∀ n, n ≤ 8 →
    (∀ r (ch : Fin 5120), ch.val < 640 * n → arg15.view.read (Elt Ideal) (arg15.view.writes (Elt Ideal) G15 (pb_k0_t6 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (k0_pay50 v51) (k0_pay51 v51) (Scalar.ofBits (F := Ideal) .f32 0x3F800000#32) X10 X20 G15 G23 n).1) (ix4 0 0 r ch)
      = hcode P (h r) ch)
    ∧ (∀ r (ch : Fin 5120), arg15.view.read (Elt Ideal) (arg15.view.writes (Elt Ideal) G15 (pb_k0_t6 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (k0_pay50 v51) (k0_pay51 v51) (Scalar.ofBits (F := Ideal) .f32 0x3F800000#32) X10 X20 G15 G23 n).1) (ix4 0 1 r ch)
      = arg15.view.read (Elt Ideal) G15 (ix4 0 1 r ch))
    ∧ (∀ j r, arg23.view.read (Elt Ideal) (arg23.view.writes (Elt Ideal) G23 (pb_k0_t6 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (k0_pay50 v51) (k0_pay51 v51) (Scalar.ofBits (F := Ideal) .f32 0x3F800000#32) X10 X20 G15 G23 n).2) (ix2 j r)
      = runDot (fun ch => hcode P (h r) ch * P.wh j ch) n) := by
  intro n
  induction n with
  | zero =>
    intro _
    exact ⟨fun r ch hc => absurd hc (by omega), fun r ch => rfl, fun j r => h23 j r⟩
  | succ n ih =>
    intro hn
    have hk : n < 8 := hn
    let k : Fin k0_t6_loop.trips := ⟨n, trips6 ▸ hk⟩
    obtain ⟨i15, i15', i23⟩ := ih (by omega)
    rw [show n + 1 = k.val + 1 from rfl, pb_k0_t6_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (k0_pay50 v51) (k0_pay51 v51) (Scalar.ofBits (F := Ideal) .f32 0x3F800000#32) X10 X20 G15 G23 k, trip6_eq]
    dsimp only
    generalize pb_k0_t6 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (k0_pay50 v51) (k0_pay51 v51) (Scalar.ofBits (F := Ideal) .f32 0x3F800000#32) X10 X20 G15 G23 k.val = pb at i15 i15' i23 ⊢
    simp only [List.cons_append, List.nil_append]
    have lh : ∀ r (i : Fin 640), (arg20.view.readAt (Elt Ideal) (Rect.unit (s := S2x256x5120) (k0_off12 k) S1x256x640.size (k0_off12_inb k)).toLoadRect X20) (ix3 0 r i) = hm P (h r) (ck hk i) := fun r i =>
      (rdAt arg20.view _ X20 _ (ix3 0 r (ck hk i)) (off12_eq k) (by
        intro a; fin_cases a
        · rfl
        · exact (Nat.zero_add _).symm
        · rfl)).trans (h20 _ _)
    have lw : ∀ j (i : Fin 640), (arg10.view.readAt (Elt Ideal) (Rect.unit (s := S64x5120) (k0_off14 k) S64x640.size (k0_off14_inb k)).toLoadRect X10) (ix2 j i) = P.wh j (ck hk i) := fun j i =>
      (rdAt arg10.view _ X10 _ (ix2 j (ck hk i)) (off14_eq k) (by
        intro a; fin_cases a
        · exact (Nat.zero_add _).symm
        · rfl)).trans (h10 _ _)
    refine ⟨?_, ?_, ?_⟩
    · exact read_cols640 arg15.view G15 hk 0 _ _ _ (off13_eq k) (fun r ch => hcode P (h r) ch)
        (pay65_apply P h v51 h51 hk _ lh) i15
    · intro r ch
      exact (read_cols640_other arg15.view G15 (b := 0) (b' := 1) (by decide) _ _ _ (off13_eq k) r ch).trans (i15' r ch)
    · intro j r
      refine (View.read_writes_cons_unit_of_mem arg23.view G23 _ _ _ _ (ix2 j r) rfl ?_).trans ?_
      · intro a; fin_cases a
        · exact (Nat.zero_add _).symm
        · exact (Nat.zero_add _).symm
      · refine pay66_apply P h v51 h51 hk _ lh _ _ lw j r ?_
        refine (rdAt arg23.view _ _ _ (ix2 j r) rfl ?_).trans (i23 j r)
        intro a; fin_cases a
        · exact (Nat.zero_add _).symm
        · exact (Nat.zero_add _).symm

/-- One trip of branch 1's loop: the pieces it stores. -/
theorem trip7_eq (v90 : FVec Ideal S40x256 .f32) (v51 : Vec Ideal S1x256x128 .f32) (k : Fin k0_t7_loop.trips) :
    tripL_k0_t7 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v90 v51 X10 X20 k G15 G23
      = ([(⟨Rect.unit (s := S1x2x256x5120) (k0_off16 k) S1x1x256x640.size (k0_off16_inb k), k0_pay65 v51 (arg20.view.readAt (Elt Ideal) (Rect.unit (s := S2x256x5120) (k0_off15 k) S1x256x640.size (k0_off15_inb k)).toLoadRect X20)⟩ : View.Piece (Elt Ideal) S1x2x256x5120 .fp8e4m3)],
         [(⟨Rect.unit (s := S64x256) ![0, 0] S64x256.size inb_S64x256_S64x256_0_0, k0_pay66 v51 (arg20.view.readAt (Elt Ideal) (Rect.unit (s := S2x256x5120) (k0_off15 k) S1x256x640.size (k0_off15_inb k)).toLoadRect X20) (arg23.view.readAt (Elt Ideal) (Rect.unit (s := S64x256) ![0, 0] S64x256.size inb_S64x256_S64x256_0_0).toLoadRect G23) (arg10.view.readAt (Elt Ideal) (Rect.unit (s := S64x5120) (k0_off17 k) S64x640.size (k0_off17_inb k)).toLoadRect X10)⟩ : View.Piece (Elt Ideal) S64x256 .f32)]) := by
  unfold tripL_k0_t7 trip_k0_t7
  rfl

/-- Branch 1's codes and accumulator after `n` trips; the other branch's codes are left as they were. -/
theorem pb7_apply (v90 : FVec Ideal S40x256 .f32) (v51 : Vec Ideal S1x256x128 .f32) (P : Params) (h : Fin 256 → Fin 5120 → EReal)
    (h51 : ∀ r l, v51 (ix3 0 r l) = runMax (fun ch => abs' (hm P (h r) ch)) 20 l)
    (h10 : ∀ j ch, arg10.view.read (Elt Ideal) X10 (ix2 j ch) = P.wh j ch)
    (h20 : ∀ r ch, arg20.view.read (Elt Ideal) X20 (ix3 1 r ch) = hm P (h r) ch)
    (h23 : ∀ j r, arg23.view.read (Elt Ideal) G23 (ix2 j r) = 0) : ∀ n, n ≤ 8 →
    (∀ r (ch : Fin 5120), ch.val < 640 * n → arg15.view.read (Elt Ideal) (arg15.view.writes (Elt Ideal) G15 (pb_k0_t7 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v90 v51 X10 X20 G15 G23 n).1) (ix4 0 1 r ch)
      = hcode P (h r) ch)
    ∧ (∀ r (ch : Fin 5120), arg15.view.read (Elt Ideal) (arg15.view.writes (Elt Ideal) G15 (pb_k0_t7 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v90 v51 X10 X20 G15 G23 n).1) (ix4 0 0 r ch)
      = arg15.view.read (Elt Ideal) G15 (ix4 0 0 r ch))
    ∧ (∀ j r, arg23.view.read (Elt Ideal) (arg23.view.writes (Elt Ideal) G23 (pb_k0_t7 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v90 v51 X10 X20 G15 G23 n).2) (ix2 j r)
      = runDot (fun ch => hcode P (h r) ch * P.wh j ch) n) := by
  intro n
  induction n with
  | zero =>
    intro _
    exact ⟨fun r ch hc => absurd hc (by omega), fun r ch => rfl, fun j r => h23 j r⟩
  | succ n ih =>
    intro hn
    have hk : n < 8 := hn
    let k : Fin k0_t7_loop.trips := ⟨n, trips7 ▸ hk⟩
    obtain ⟨i15, i15', i23⟩ := ih (by omega)
    rw [show n + 1 = k.val + 1 from rfl, pb_k0_t7_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v90 v51 X10 X20 G15 G23 k, trip7_eq]
    dsimp only
    generalize pb_k0_t7 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v90 v51 X10 X20 G15 G23 k.val = pb at i15 i15' i23 ⊢
    simp only [List.cons_append, List.nil_append]
    have lh : ∀ r (i : Fin 640), (arg20.view.readAt (Elt Ideal) (Rect.unit (s := S2x256x5120) (k0_off15 k) S1x256x640.size (k0_off15_inb k)).toLoadRect X20) (ix3 0 r i) = hm P (h r) (ck hk i) := fun r i =>
      (rdAt arg20.view _ X20 _ (ix3 1 r (ck hk i)) (off15_eq k) (by
        intro a; fin_cases a
        · rfl
        · exact (Nat.zero_add _).symm
        · rfl)).trans (h20 _ _)
    have lw : ∀ j (i : Fin 640), (arg10.view.readAt (Elt Ideal) (Rect.unit (s := S64x5120) (k0_off17 k) S64x640.size (k0_off17_inb k)).toLoadRect X10) (ix2 j i) = P.wh j (ck hk i) := fun j i =>
      (rdAt arg10.view _ X10 _ (ix2 j (ck hk i)) (off17_eq k) (by
        intro a; fin_cases a
        · exact (Nat.zero_add _).symm
        · rfl)).trans (h10 _ _)
    refine ⟨?_, ?_, ?_⟩
    · exact read_cols640 arg15.view G15 hk 1 _ _ _ (off16_eq k) (fun r ch => hcode P (h r) ch)
        (pay65_apply P h v51 h51 hk _ lh) i15
    · intro r ch
      exact (read_cols640_other arg15.view G15 (b := 1) (b' := 0) (by decide) _ _ _ (off16_eq k) r ch).trans (i15' r ch)
    · intro j r
      refine (View.read_writes_cons_unit_of_mem arg23.view G23 _ _ _ _ (ix2 j r) rfl ?_).trans ?_
      · intro a; fin_cases a
        · exact (Nat.zero_add _).symm
        · exact (Nat.zero_add _).symm
      · refine pay66_apply P h v51 h51 hk _ lh _ _ lw j r ?_
        refine (rdAt arg23.view _ _ _ (ix2 j r) rfl ?_).trans (i23 j r)
        intro a; fin_cases a
        · exact (Nat.zero_add _).symm
        · exact (Nat.zero_add _).symm

end Cert.KernelIdeal.Hand

end
-- ==== Proof.Value.Blocks.lean ====
module

public import proofs.«01_k».proof.Proof.Gen.KernelIdeal.Skeleton
public import proofs.«01_k».proof.Proof.Value.Rows

@[expose] public section

noncomputable section

/-! # The blocks one instance of the body writes, as row functions of the blocks it reads -/

namespace Cert.KernelIdeal.Hand

open Idealize.ShloMosaic Cert.KernelIdeal Cert.KernelIdeal.Gen Cert.Rows
open scoped BigOperators

section
variable (x0 : Vec Ideal S1x1 .f32) (x1 : Vec Ideal S1x256x64 .fp8e4m3) (x2 : Vec Ideal S1x2x256x5120 .bf16) (x3 : Vec Ideal S64x5120 .fp8e4m3)
  (x4 : Vec Ideal S1x5120 .f32) (x5 : Vec Ideal S1x5120 .f32) (x6 : Vec Ideal S1x1x5120 .f32) (x7 : Vec Ideal S1x1x5120 .f32)
  (x8 : Vec Ideal S64x5120 .fp8e4m3) (x9 : Vec Ideal S64x1 .f32) (x10 : Vec Ideal S64x1 .f32)

/-- The weights and scales the blocks hold. -/
def pOf : Params where
  s := x0 (ix2 0 0)
  we := fun k c => x3 (ix2 k c)
  se := fun c => x4 (ix2 0 c)
  be := fun c => x5 (ix2 0 c)
  hg := fun c => x6 (ix3 0 0 c)
  hs := fun c => x7 (ix3 0 0 c)
  wh := fun j c => x8 (ix2 j c)
  sh := fun j => x9 (ix2 j 0)
  bh := fun j => x10 (ix2 j 0)

/-- A token's patch codes. -/
def xrow (r : Fin 256) (k : Fin 64) : EReal := x1 (ix3 0 r k)
/-- A token's hidden state in branch `b`. -/
def hrow (b : Fin 2) (r : Fin 256) (c : Fin 5120) : EReal := x2 (ix4 0 b r c)

/-- The residual codes. -/
def bRc : Vec Ideal S1x2x256x5120 .i8 :=
  fun y => rcode (pOf x0 x3 x4 x5 x6 x7 x8 x9 x10) (xrow x1 (y 2)) (hrow x2 (y 1) (y 2)) (y 3)
/-- The residual scales. -/
def bRs : Vec Ideal S1x2x40x256 .f32 :=
  fun y => gscale (pOf x0 x3 x4 x5 x6 x7 x8 x9 x10) (xrow x1 (y 3)) (hrow x2 (y 1) (y 3)) (y 2)
/-- The head's activation codes. -/
def bHc : Vec Ideal S1x2x256x5120 .fp8e4m3 :=
  fun y => hcode (pOf x0 x3 x4 x5 x6 x7 x8 x9 x10) (hrow x2 (y 1) (y 2)) (y 3)
/-- The head's activation scales. -/
def bHsc : Vec Ideal S1x2x256 .f32 :=
  fun y => hscale (pOf x0 x3 x4 x5 x6 x7 x8 x9 x10) (hrow x2 (y 1) (y 2))
/-- The head's outputs. -/
def bOut : Vec Ideal S1x2x64x256 .f32 :=
  fun y => out (pOf x0 x3 x4 x5 x6 x7 x8 x9 x10) (hrow x2 (y 1) (y 3)) (y 2)
/-- The products of the two branches' outputs. -/
def bCu : Vec Ideal S1x1x256 .f32 :=
  fun y => cross (pOf x0 x3 x4 x5 x6 x7 x8 x9 x10) (hrow x2 0 (y 2)) (hrow x2 1 (y 2))
/-- The squares of the second branch's outputs. -/
def bUu : Vec Ideal S1x1x256 .f32 :=
  fun y => cross (pOf x0 x3 x4 x5 x6 x7 x8 x9 x10) (hrow x2 1 (y 2)) (hrow x2 1 (y 2))
end

end Cert.KernelIdeal.Hand

end
-- ==== Proof.Value.Finals.lean ====
module

public import proofs.«01_k».proof.Proof.Gen.KernelIdeal.Loops
public import proofs.«01_k».proof.Proof.Value.Chunk
public import proofs.«01_k».proof.Proof.Value.Head
public import proofs.«01_k».proof.Proof.Value.Blocks

@[expose] public section

set_option maxRecDepth 16384
set_option maxHeartbeats 4000000

noncomputable section

/-! # What one run of the body leaves in each buffer

The values the body computes in order, by name, and each output buffer's final contents read back as a row function of the
blocks the body was given. -/

namespace Cert.KernelIdeal.Hand

open Idealize.ShloMosaic Idealize.ShloMosaic.TcCoe Cert.KernelIdeal Cert.KernelIdeal.Gen Cert.Rows
open scoped BigOperators

/-- The block of patch codes. -/
def w1 (c : Dev nD) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole) (x0 : Vec Ideal S1x1 .f32) (x1 : Vec Ideal S1x256x64 .fp8e4m3) (x2 : Vec Ideal S1x2x256x5120 .bf16) (x3 : Vec Ideal S64x5120 .fp8e4m3) (x4 : Vec Ideal S1x5120 .f32) (x5 : Vec Ideal S1x5120 .f32) (x6 : Vec Ideal S1x1x5120 .f32) (x7 : Vec Ideal S1x1x5120 .f32) (x8 : Vec Ideal S64x5120 .fp8e4m3) (x9 : Vec Ideal S64x1 .f32) (x10 : Vec Ideal S64x1 .f32) (f11 : BufTy.Contents (Elt Ideal) arg13.view.ty) (fs0 : BufTy.Contents (Elt Ideal) arg20.view.ty) (f13 : BufTy.Contents (Elt Ideal) arg15.view.ty) : FVec Ideal S256x64 .fp8e4m3 :=
  k0_pay31 (arg3.view.readAt (Elt Ideal) (Rect.unit (s := S1x256x64) ![0, 0, 0] S1x256x64.size inb_S1x256x64_S1x256x64_0_0_0).toLoadRect (harg3.unread x1))

/-- The patch scale. -/
def w2 (c : Dev nD) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole) (x0 : Vec Ideal S1x1 .f32) (x1 : Vec Ideal S1x256x64 .fp8e4m3) (x2 : Vec Ideal S1x2x256x5120 .bf16) (x3 : Vec Ideal S64x5120 .fp8e4m3) (x4 : Vec Ideal S1x5120 .f32) (x5 : Vec Ideal S1x5120 .f32) (x6 : Vec Ideal S1x1x5120 .f32) (x7 : Vec Ideal S1x1x5120 .f32) (x8 : Vec Ideal S64x5120 .fp8e4m3) (x9 : Vec Ideal S64x1 .f32) (x10 : Vec Ideal S64x1 .f32) (f11 : BufTy.Contents (Elt Ideal) arg13.view.ty) (fs0 : BufTy.Contents (Elt Ideal) arg20.view.ty) (f13 : BufTy.Contents (Elt Ideal) arg15.view.ty) : Elt Ideal .f32 :=
  (arg2.view.readAt (Elt Ideal) (Rect.unit (s := S1x1) ![0, 0] S1x1.size inb_S1x1_S1x1_0_0).toLoadRect (harg2.unread x0)) (Shape.Idx.first (by decide))

/-- Branch 0's means. -/
def w10 (c : Dev nD) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole) (x0 : Vec Ideal S1x1 .f32) (x1 : Vec Ideal S1x256x64 .fp8e4m3) (x2 : Vec Ideal S1x2x256x5120 .bf16) (x3 : Vec Ideal S64x5120 .fp8e4m3) (x4 : Vec Ideal S1x5120 .f32) (x5 : Vec Ideal S1x5120 .f32) (x6 : Vec Ideal S1x1x5120 .f32) (x7 : Vec Ideal S1x1x5120 .f32) (x8 : Vec Ideal S64x5120 .fp8e4m3) (x9 : Vec Ideal S64x1 .f32) (x10 : Vec Ideal S64x1 .f32) (f11 : BufTy.Contents (Elt Ideal) arg13.view.ty) (fs0 : BufTy.Contents (Elt Ideal) arg20.view.ty) (f13 : BufTy.Contents (Elt Ideal) arg15.view.ty) : FVec Ideal S256x1 .f32 :=
  k0_pay34 (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg4.unread x2) (k0_pay32 (F := Ideal)) (Scf.trips k0_t1_loop.lb k0_t1_loop.ub k0_t1_loop.st))

/-- Branch 0's reciprocal roots. -/
def w22 (c : Dev nD) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole) (x0 : Vec Ideal S1x1 .f32) (x1 : Vec Ideal S1x256x64 .fp8e4m3) (x2 : Vec Ideal S1x2x256x5120 .bf16) (x3 : Vec Ideal S64x5120 .fp8e4m3) (x4 : Vec Ideal S1x5120 .f32) (x5 : Vec Ideal S1x5120 .f32) (x6 : Vec Ideal S1x1x5120 .f32) (x7 : Vec Ideal S1x1x5120 .f32) (x8 : Vec Ideal S64x5120 .fp8e4m3) (x9 : Vec Ideal S64x1 .f32) (x10 : Vec Ideal S64x1 .f32) (f11 : BufTy.Contents (Elt Ideal) arg13.view.ty) (fs0 : BufTy.Contents (Elt Ideal) arg20.view.ty) (f13 : BufTy.Contents (Elt Ideal) arg15.view.ty) : FVec Ideal S256x1 .f32 :=
  k0_pay37 (st_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg4.unread x2) (k0_pay32 (F := Ideal)) (Scf.trips k0_t1_loop.lb k0_t1_loop.ub k0_t1_loop.st)) (harg4.unread x2) (k0_pay35 (F := Ideal)) (Scf.trips k0_t2_loop.lb k0_t2_loop.ub k0_t2_loop.st))

/-- Branch 1's means. -/
def w29 (c : Dev nD) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole) (x0 : Vec Ideal S1x1 .f32) (x1 : Vec Ideal S1x256x64 .fp8e4m3) (x2 : Vec Ideal S1x2x256x5120 .bf16) (x3 : Vec Ideal S64x5120 .fp8e4m3) (x4 : Vec Ideal S1x5120 .f32) (x5 : Vec Ideal S1x5120 .f32) (x6 : Vec Ideal S1x1x5120 .f32) (x7 : Vec Ideal S1x1x5120 .f32) (x8 : Vec Ideal S64x5120 .fp8e4m3) (x9 : Vec Ideal S64x1 .f32) (x10 : Vec Ideal S64x1 .f32) (f11 : BufTy.Contents (Elt Ideal) arg13.view.ty) (fs0 : BufTy.Contents (Elt Ideal) arg20.view.ty) (f13 : BufTy.Contents (Elt Ideal) arg15.view.ty) : FVec Ideal S256x1 .f32 :=
  k0_pay40 (st_k0_t3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg4.unread x2) (k0_pay38 (F := Ideal)) (Scf.trips k0_t3_loop.lb k0_t3_loop.ub k0_t3_loop.st))

/-- The lane counter. -/
def w3 : IVec S256x128 32 := iota .tc S256x128 32 [1] iota_S256x128_d1_w32

/-- Branch 1's lane sums of centred squares. -/
def w32 (c : Dev nD) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole) (x0 : Vec Ideal S1x1 .f32) (x1 : Vec Ideal S1x256x64 .fp8e4m3) (x2 : Vec Ideal S1x2x256x5120 .bf16) (x3 : Vec Ideal S64x5120 .fp8e4m3) (x4 : Vec Ideal S1x5120 .f32) (x5 : Vec Ideal S1x5120 .f32) (x6 : Vec Ideal S1x1x5120 .f32) (x7 : Vec Ideal S1x1x5120 .f32) (x8 : Vec Ideal S64x5120 .fp8e4m3) (x9 : Vec Ideal S64x1 .f32) (x10 : Vec Ideal S64x1 .f32) (f11 : BufTy.Contents (Elt Ideal) arg13.view.ty) (fs0 : BufTy.Contents (Elt Ideal) arg20.view.ty) (f13 : BufTy.Contents (Elt Ideal) arg15.view.ty) : FVec Ideal S256x128 .f32 :=
  st_k0_t4 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (w1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (w2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) w3 (w10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (w22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (w29 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (harg4.unread x2) (k0_pay41 (F := Ideal)) (Scf.trips k0_t4_loop.lb k0_t4_loop.ub k0_t4_loop.st)

/-- The lane maxima's first contents. -/
def l21 : List (View.Piece (Elt Ideal) S2x256x128 .f32) := [⟨Rect.unit (s := S2x256x128) ![0, 0, 0] S2x256x128.size inb_S2x256x128_S2x256x128_0_0_0, k0_pay44 (F := Ideal)⟩]
/-- The scales' first contents. -/
def l22 : List (View.Piece (Elt Ideal) S2x256x128 .f32) := [⟨Rect.unit (s := S2x256x128) ![0, 0, 0] S2x256x128.size inb_S2x256x128_S2x256x128_0_0_0, k0_pay45 (F := Ideal)⟩]
/-- The accumulator's first contents. -/
def l23 : List (View.Piece (Elt Ideal) S64x256 .f32) := [⟨Rect.unit (s := S64x256) ![0, 0] S64x256.size inb_S64x256_S64x256_0_0, k0_pay53 (F := Ideal)⟩]

/-- The pass over the channels: its stores. -/
def pass (c : Dev nD) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole) (x0 : Vec Ideal S1x1 .f32) (x1 : Vec Ideal S1x256x64 .fp8e4m3) (x2 : Vec Ideal S1x2x256x5120 .bf16) (x3 : Vec Ideal S64x5120 .fp8e4m3) (x4 : Vec Ideal S1x5120 .f32) (x5 : Vec Ideal S1x5120 .f32) (x6 : Vec Ideal S1x1x5120 .f32) (x7 : Vec Ideal S1x1x5120 .f32) (x8 : Vec Ideal S64x5120 .fp8e4m3) (x9 : Vec Ideal S64x1 .f32) (x10 : Vec Ideal S64x1 .f32) (f11 : BufTy.Contents (Elt Ideal) arg13.view.ty) (fs0 : BufTy.Contents (Elt Ideal) arg20.view.ty) (f13 : BufTy.Contents (Elt Ideal) arg15.view.ty) : List (View.Piece (Elt Ideal) S1x2x256x5120 .i8) × List (View.Piece (Elt Ideal) S2x256x5120 .f32) × List (View.Piece (Elt Ideal) S2x256x128 .f32) × List (View.Piece (Elt Ideal) S2x256x128 .f32) :=
  pb_k0_t5 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (w1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (w2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) w3 (w10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (w22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (w29 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (w32 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (harg4.unread x2) (harg5.unread x3) (harg6.unread x4) (harg7.unread x5) (harg8.unread x6) (harg9.unread x7) f11 fs0 (arg21.view.writes (Elt Ideal) arg21.view.junk l21) (arg22.view.writes (Elt Ideal) arg22.view.junk l22) (Scf.trips k0_t5_loop.lb k0_t5_loop.ub k0_t5_loop.st)

/-- Branch 0's lane maxima. -/
def w51 (c : Dev nD) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole) (x0 : Vec Ideal S1x1 .f32) (x1 : Vec Ideal S1x256x64 .fp8e4m3) (x2 : Vec Ideal S1x2x256x5120 .bf16) (x3 : Vec Ideal S64x5120 .fp8e4m3) (x4 : Vec Ideal S1x5120 .f32) (x5 : Vec Ideal S1x5120 .f32) (x6 : Vec Ideal S1x1x5120 .f32) (x7 : Vec Ideal S1x1x5120 .f32) (x8 : Vec Ideal S64x5120 .fp8e4m3) (x9 : Vec Ideal S64x1 .f32) (x10 : Vec Ideal S64x1 .f32) (f11 : BufTy.Contents (Elt Ideal) arg13.view.ty) (fs0 : BufTy.Contents (Elt Ideal) arg20.view.ty) (f13 : BufTy.Contents (Elt Ideal) arg15.view.ty) : Vec Ideal S1x256x128 .f32 :=
  arg21.view.readCov ((pass c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2.2.1 ++ l21) (Rect.unit (s := S2x256x128) ![0, 0, 0] S1x256x128.size inb_S2x256x128_S1x256x128_0_0_0).toLoadRect

/-- Branch 1's lane maxima. -/
def w94 (c : Dev nD) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole) (x0 : Vec Ideal S1x1 .f32) (x1 : Vec Ideal S1x256x64 .fp8e4m3) (x2 : Vec Ideal S1x2x256x5120 .bf16) (x3 : Vec Ideal S64x5120 .fp8e4m3) (x4 : Vec Ideal S1x5120 .f32) (x5 : Vec Ideal S1x5120 .f32) (x6 : Vec Ideal S1x1x5120 .f32) (x7 : Vec Ideal S1x1x5120 .f32) (x8 : Vec Ideal S64x5120 .fp8e4m3) (x9 : Vec Ideal S64x1 .f32) (x10 : Vec Ideal S64x1 .f32) (f11 : BufTy.Contents (Elt Ideal) arg13.view.ty) (fs0 : BufTy.Contents (Elt Ideal) arg20.view.ty) (f13 : BufTy.Contents (Elt Ideal) arg15.view.ty) : Vec Ideal S1x256x128 .f32 :=
  arg21.view.readCov ((pass c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2.2.1 ++ l21) (Rect.unit (s := S2x256x128) ![1, 0, 0] S1x256x128.size inb_S2x256x128_S1x256x128_1_0_0).toLoadRect

/-- Branch 0's scales. -/
def w87 (c : Dev nD) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole) (x0 : Vec Ideal S1x1 .f32) (x1 : Vec Ideal S1x256x64 .fp8e4m3) (x2 : Vec Ideal S1x2x256x5120 .bf16) (x3 : Vec Ideal S64x5120 .fp8e4m3) (x4 : Vec Ideal S1x5120 .f32) (x5 : Vec Ideal S1x5120 .f32) (x6 : Vec Ideal S1x1x5120 .f32) (x7 : Vec Ideal S1x1x5120 .f32) (x8 : Vec Ideal S64x5120 .fp8e4m3) (x9 : Vec Ideal S64x1 .f32) (x10 : Vec Ideal S64x1 .f32) (f11 : BufTy.Contents (Elt Ideal) arg13.view.ty) (fs0 : BufTy.Contents (Elt Ideal) arg20.view.ty) (f13 : BufTy.Contents (Elt Ideal) arg15.view.ty) : Vec Ideal S1x256x128 .f32 :=
  arg22.view.readCov ((pass c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2.2.2 ++ l22) (Rect.unit (s := S2x256x128) ![0, 0, 0] S1x256x128.size inb_S2x256x128_S1x256x128_0_0_0).toLoadRect

/-- Branch 1's scales. -/
def w130 (c : Dev nD) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole) (x0 : Vec Ideal S1x1 .f32) (x1 : Vec Ideal S1x256x64 .fp8e4m3) (x2 : Vec Ideal S1x2x256x5120 .bf16) (x3 : Vec Ideal S64x5120 .fp8e4m3) (x4 : Vec Ideal S1x5120 .f32) (x5 : Vec Ideal S1x5120 .f32) (x6 : Vec Ideal S1x1x5120 .f32) (x7 : Vec Ideal S1x1x5120 .f32) (x8 : Vec Ideal S64x5120 .fp8e4m3) (x9 : Vec Ideal S64x1 .f32) (x10 : Vec Ideal S64x1 .f32) (f11 : BufTy.Contents (Elt Ideal) arg13.view.ty) (fs0 : BufTy.Contents (Elt Ideal) arg20.view.ty) (f13 : BufTy.Contents (Elt Ideal) arg15.view.ty) : Vec Ideal S1x256x128 .f32 :=
  arg22.view.readCov ((pass c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2.2.2 ++ l22) (Rect.unit (s := S2x256x128) ![1, 0, 0] S1x256x128.size inb_S2x256x128_S1x256x128_1_0_0).toLoadRect

/-- Branch 0's head: its stores. -/
def head0 (c : Dev nD) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole) (x0 : Vec Ideal S1x1 .f32) (x1 : Vec Ideal S1x256x64 .fp8e4m3) (x2 : Vec Ideal S1x2x256x5120 .bf16) (x3 : Vec Ideal S64x5120 .fp8e4m3) (x4 : Vec Ideal S1x5120 .f32) (x5 : Vec Ideal S1x5120 .f32) (x6 : Vec Ideal S1x1x5120 .f32) (x7 : Vec Ideal S1x1x5120 .f32) (x8 : Vec Ideal S64x5120 .fp8e4m3) (x9 : Vec Ideal S64x1 .f32) (x10 : Vec Ideal S64x1 .f32) (f11 : BufTy.Contents (Elt Ideal) arg13.view.ty) (fs0 : BufTy.Contents (Elt Ideal) arg20.view.ty) (f13 : BufTy.Contents (Elt Ideal) arg15.view.ty) : List (View.Piece (Elt Ideal) S1x2x256x5120 .fp8e4m3) × List (View.Piece (Elt Ideal) S64x256 .f32) :=
  pb_k0_t6 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (k0_pay50 (w51 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13)) (k0_pay51 (w51 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13)) (Scalar.ofBits (F := Ideal) .f32 0x3F800000#32) (harg10.unread x8) (arg20.view.writes (Elt Ideal) fs0 (pass c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2.1) f13 (arg23.view.writes (Elt Ideal) arg23.view.junk l23) (Scf.trips k0_t6_loop.lb k0_t6_loop.ub k0_t6_loop.st)

/-- Branch 1's head: its stores. -/
def head1 (c : Dev nD) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole) (x0 : Vec Ideal S1x1 .f32) (x1 : Vec Ideal S1x256x64 .fp8e4m3) (x2 : Vec Ideal S1x2x256x5120 .bf16) (x3 : Vec Ideal S64x5120 .fp8e4m3) (x4 : Vec Ideal S1x5120 .f32) (x5 : Vec Ideal S1x5120 .f32) (x6 : Vec Ideal S1x1x5120 .f32) (x7 : Vec Ideal S1x1x5120 .f32) (x8 : Vec Ideal S64x5120 .fp8e4m3) (x9 : Vec Ideal S64x1 .f32) (x10 : Vec Ideal S64x1 .f32) (f11 : BufTy.Contents (Elt Ideal) arg13.view.ty) (fs0 : BufTy.Contents (Elt Ideal) arg20.view.ty) (f13 : BufTy.Contents (Elt Ideal) arg15.view.ty) : List (View.Piece (Elt Ideal) S1x2x256x5120 .fp8e4m3) × List (View.Piece (Elt Ideal) S64x256 .f32) :=
  pb_k0_t7 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (k0_pay60 (w87 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13)) (w94 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (harg10.unread x8) (arg20.view.writes (Elt Ideal) fs0 (pass c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2.1) (arg15.view.writes (Elt Ideal) f13 (head0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).1) (arg23.view.writes (Elt Ideal) arg23.view.junk ((⟨(Rect.unit (s := S64x256) ![0, 0] S64x256.size inb_S64x256_S64x256_0_0), k0_pay63 (F := Ideal)⟩ : View.Piece (Elt Ideal) S64x256 .f32) :: ((head0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2 ++ l23))) (Scf.trips k0_t7_loop.lb k0_t7_loop.ub k0_t7_loop.st)

/-- Branch 0's accumulator. -/
def w70 (c : Dev nD) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole) (x0 : Vec Ideal S1x1 .f32) (x1 : Vec Ideal S1x256x64 .fp8e4m3) (x2 : Vec Ideal S1x2x256x5120 .bf16) (x3 : Vec Ideal S64x5120 .fp8e4m3) (x4 : Vec Ideal S1x5120 .f32) (x5 : Vec Ideal S1x5120 .f32) (x6 : Vec Ideal S1x1x5120 .f32) (x7 : Vec Ideal S1x1x5120 .f32) (x8 : Vec Ideal S64x5120 .fp8e4m3) (x9 : Vec Ideal S64x1 .f32) (x10 : Vec Ideal S64x1 .f32) (f11 : BufTy.Contents (Elt Ideal) arg13.view.ty) (fs0 : BufTy.Contents (Elt Ideal) arg20.view.ty) (f13 : BufTy.Contents (Elt Ideal) arg15.view.ty) : Vec Ideal S64x256 .f32 :=
  arg23.view.readCov ((head0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2 ++ l23) (Rect.unit (s := S64x256) ![0, 0] S64x256.size inb_S64x256_S64x256_0_0).toLoadRect

/-- Branch 1's accumulator. -/
def w113 (c : Dev nD) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole) (x0 : Vec Ideal S1x1 .f32) (x1 : Vec Ideal S1x256x64 .fp8e4m3) (x2 : Vec Ideal S1x2x256x5120 .bf16) (x3 : Vec Ideal S64x5120 .fp8e4m3) (x4 : Vec Ideal S1x5120 .f32) (x5 : Vec Ideal S1x5120 .f32) (x6 : Vec Ideal S1x1x5120 .f32) (x7 : Vec Ideal S1x1x5120 .f32) (x8 : Vec Ideal S64x5120 .fp8e4m3) (x9 : Vec Ideal S64x1 .f32) (x10 : Vec Ideal S64x1 .f32) (f11 : BufTy.Contents (Elt Ideal) arg13.view.ty) (fs0 : BufTy.Contents (Elt Ideal) arg20.view.ty) (f13 : BufTy.Contents (Elt Ideal) arg15.view.ty) : Vec Ideal S64x256 .f32 :=
  arg23.view.readCov ((head1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2 ++ ((⟨(Rect.unit (s := S64x256) ![0, 0] S64x256.size inb_S64x256_S64x256_0_0), k0_pay63 (F := Ideal)⟩ : View.Piece (Elt Ideal) S64x256 .f32) :: ((head0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2 ++ l23))) (Rect.unit (s := S64x256) ![0, 0] S64x256.size inb_S64x256_S64x256_0_0).toLoadRect

/-- The stores of the head's outputs. -/
def l17 (c : Dev nD) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole) (x0 : Vec Ideal S1x1 .f32) (x1 : Vec Ideal S1x256x64 .fp8e4m3) (x2 : Vec Ideal S1x2x256x5120 .bf16) (x3 : Vec Ideal S64x5120 .fp8e4m3) (x4 : Vec Ideal S1x5120 .f32) (x5 : Vec Ideal S1x5120 .f32) (x6 : Vec Ideal S1x1x5120 .f32) (x7 : Vec Ideal S1x1x5120 .f32) (x8 : Vec Ideal S64x5120 .fp8e4m3) (x9 : Vec Ideal S64x1 .f32) (x10 : Vec Ideal S64x1 .f32) (f11 : BufTy.Contents (Elt Ideal) arg13.view.ty) (fs0 : BufTy.Contents (Elt Ideal) arg20.view.ty) (f13 : BufTy.Contents (Elt Ideal) arg15.view.ty) : List (View.Piece (Elt Ideal) S1x2x64x256 .f32) :=
  [(⟨Rect.unit (s := S1x2x64x256) ![0, 1, 0, 0] S1x1x64x256.size inb_S1x2x64x256_S1x1x64x256_0_1_0_0, k0_pay69 (k0_pay68 (w94 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (w113 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (arg11.view.readAt (Elt Ideal) (Rect.unit (s := S64x1) ![0, 0] S64x1.size inb_S64x1_S64x1_0_0).toLoadRect (harg11.unread x9)) (arg12.view.readAt (Elt Ideal) (Rect.unit (s := S64x1) ![0, 0] S64x1.size inb_S64x1_S64x1_0_0).toLoadRect (harg12.unread x10)))⟩ : View.Piece (Elt Ideal) S1x2x64x256 .f32),
   (⟨Rect.unit (s := S1x2x64x256) ![0, 0, 0, 0] S1x1x64x256.size inb_S1x2x64x256_S1x1x64x256_0_0_0_0, k0_pay58 (k0_pay50 (w51 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13)) (k0_pay51 (w51 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13)) (Scalar.ofBits (F := Ideal) .f32 0x3F800000#32) (w70 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (arg11.view.readAt (Elt Ideal) (Rect.unit (s := S64x1) ![0, 0] S64x1.size inb_S64x1_S64x1_0_0).toLoadRect (harg11.unread x9)) (arg12.view.readAt (Elt Ideal) (Rect.unit (s := S64x1) ![0, 0] S64x1.size inb_S64x1_S64x1_0_0).toLoadRect (harg12.unread x10))⟩ : View.Piece (Elt Ideal) S1x2x64x256 .f32)]

/-- Branch 0's outputs, read back. -/
def w137 (c : Dev nD) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole) (x0 : Vec Ideal S1x1 .f32) (x1 : Vec Ideal S1x256x64 .fp8e4m3) (x2 : Vec Ideal S1x2x256x5120 .bf16) (x3 : Vec Ideal S64x5120 .fp8e4m3) (x4 : Vec Ideal S1x5120 .f32) (x5 : Vec Ideal S1x5120 .f32) (x6 : Vec Ideal S1x1x5120 .f32) (x7 : Vec Ideal S1x1x5120 .f32) (x8 : Vec Ideal S64x5120 .fp8e4m3) (x9 : Vec Ideal S64x1 .f32) (x10 : Vec Ideal S64x1 .f32) (f11 : BufTy.Contents (Elt Ideal) arg13.view.ty) (fs0 : BufTy.Contents (Elt Ideal) arg20.view.ty) (f13 : BufTy.Contents (Elt Ideal) arg15.view.ty) : Vec Ideal S1x1x64x256 .f32 :=
  arg17.view.readCov (l17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (Rect.unit (s := S1x2x64x256) ![0, 0, 0, 0] S1x1x64x256.size inb_S1x2x64x256_S1x1x64x256_0_0_0_0).toLoadRect

/-- Branch 1's outputs, read back. -/
def w139 (c : Dev nD) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole) (x0 : Vec Ideal S1x1 .f32) (x1 : Vec Ideal S1x256x64 .fp8e4m3) (x2 : Vec Ideal S1x2x256x5120 .bf16) (x3 : Vec Ideal S64x5120 .fp8e4m3) (x4 : Vec Ideal S1x5120 .f32) (x5 : Vec Ideal S1x5120 .f32) (x6 : Vec Ideal S1x1x5120 .f32) (x7 : Vec Ideal S1x1x5120 .f32) (x8 : Vec Ideal S64x5120 .fp8e4m3) (x9 : Vec Ideal S64x1 .f32) (x10 : Vec Ideal S64x1 .f32) (f11 : BufTy.Contents (Elt Ideal) arg13.view.ty) (fs0 : BufTy.Contents (Elt Ideal) arg20.view.ty) (f13 : BufTy.Contents (Elt Ideal) arg15.view.ty) : Vec Ideal S1x1x64x256 .f32 :=
  arg17.view.readCov (l17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (Rect.unit (s := S1x2x64x256) ![0, 1, 0, 0] S1x1x64x256.size inb_S1x2x64x256_S1x1x64x256_0_1_0_0).toLoadRect

variable (c : Dev nD) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole)
  (x0 : Vec Ideal S1x1 .f32) (x1 : Vec Ideal S1x256x64 .fp8e4m3) (x2 : Vec Ideal S1x2x256x5120 .bf16) (x3 : Vec Ideal S64x5120 .fp8e4m3) (x4 : Vec Ideal S1x5120 .f32) (x5 : Vec Ideal S1x5120 .f32) (x6 : Vec Ideal S1x1x5120 .f32) (x7 : Vec Ideal S1x1x5120 .f32) (x8 : Vec Ideal S64x5120 .fp8e4m3) (x9 : Vec Ideal S64x1 .f32) (x10 : Vec Ideal S64x1 .f32) (f11 : BufTy.Contents (Elt Ideal) arg13.view.ty) (fs0 : BufTy.Contents (Elt Ideal) arg20.view.ty) (f13 : BufTy.Contents (Elt Ideal) arg15.view.ty)

/-- A whole staged block, read back. -/
theorem hX4 (b : Fin 2) (r : Fin 256) (ch : Fin 5120) : arg4.view.read (Elt Ideal) (harg4.unread x2) (ix4 0 b r ch) = hrow x2 b r ch :=
  congrFun (harg4.read_unread x2) _

theorem w1_apply (r : Fin 256) (j : Fin 64) : (w1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (ix2 r j) = xrow x1 r j := by
  unfold w1
  pointwise [k0_pay31]
  refine (rdAt arg3.view _ _ _ (ix3 0 r j) rfl ?_).trans (congrFun (harg3.read_unread x1) _)
  intro a; fin_cases a
  · rfl
  · exact (Nat.zero_add _).symm
  · exact (Nat.zero_add _).symm

theorem w2_eq : (w2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) = (pOf x0 x3 x4 x5 x6 x7 x8 x9 x10).s := by
  unfold w2
  refine (rdAt arg2.view _ _ _ (ix2 0 0) rfl ?_).trans (congrFun (harg2.read_unread x0) _)
  intro a; fin_cases a
  · rfl
  · rfl

theorem w3_iota : IsIota w3 := fun r l => by
  unfold w3
  pointwise

theorem w10_apply (r : Fin 256) : (w10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (ix2 r 0) = mean (hrow x2 0 r) :=
  pay34_apply (hrow x2 0) _ r fun l => st1_apply Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (hrow x2) (harg4.unread x2) (hX4 arg4 harg4 x2) 20 (le_refl _) r l

theorem w22_apply (r : Fin 256) : (w22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (ix2 r 0) = Ideal.div 1 (Ideal.sqrt (var (hrow x2 0 r) + Ideal.ofBits .f32 897988541#32)) :=
  pay43_apply (hrow x2 0) _ r fun l => st2_apply Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (hrow x2) (harg4.unread x2) (hX4 arg4 harg4 x2) _
    (fun r => w10_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13 r) 20 (le_refl _) r l

theorem w29_apply (r : Fin 256) : (w29 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (ix2 r 0) = mean (hrow x2 1 r) :=
  pay34_apply (hrow x2 1) _ r fun l => st3_apply Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (hrow x2) (harg4.unread x2) (hX4 arg4 harg4 x2) 20 (le_refl _) r l

theorem w32_apply (r : Fin 256) : k0_pay43 (w32 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (ix2 r 0) = Ideal.div 1 (Ideal.sqrt (var (hrow x2 1 r) + Ideal.ofBits .f32 897988541#32)) :=
  pay43_apply (hrow x2 1) _ r fun l => st4_apply Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (hrow x2) (harg4.unread x2) (hX4 arg4 harg4 x2) _ _ _ _ _ _
    (fun r => w29_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13 r) 20 (le_refl _) r l

theorem l21_apply (f) (b : Fin 2) (r : Fin 256) (l : Fin 128) : arg21.view.read (Elt Ideal) (arg21.view.writes (Elt Ideal) f l21) (ix3 b r l) = (0 : EReal) := by
  refine (View.read_writes_cons_unit_of_mem arg21.view f _ _ _ _ (ix3 b r l) rfl ?_).trans ?_
  · intro a; fin_cases a <;> exact (Nat.zero_add _).symm
  · pointwise [k0_pay44]

theorem l23_apply (f) (p : S64x256.Idx → EReal) (L) (j : Fin 64) (r : Fin 256) :
    arg23.view.read (Elt Ideal) (arg23.view.writes (Elt Ideal) f ((⟨(Rect.unit (s := S64x256) ![0, 0] S64x256.size inb_S64x256_S64x256_0_0), p⟩ : View.Piece (Elt Ideal) S64x256 .f32) :: L)) (ix2 j r) = p (ix2 j r) := by
  refine (View.read_writes_cons_unit_of_mem arg23.view f _ _ _ _ (ix2 j r) rfl ?_)
  intro a; fin_cases a <;> exact (Nat.zero_add _).symm

/-- The pass over the channels, finished. -/
theorem pass_apply :
    (∀ b r (ch : Fin 5120), arg13.view.read (Elt Ideal) (arg13.view.writes (Elt Ideal) f11 (pass c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).1) (ix4 0 b r ch)
      = rcode (pOf x0 x3 x4 x5 x6 x7 x8 x9 x10) (xrow x1 r) (hrow x2 b r) ch)
    ∧ (∀ b r (ch : Fin 5120), arg20.view.read (Elt Ideal) (arg20.view.writes (Elt Ideal) fs0 (pass c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2.1) (ix3 b r ch) = hm (pOf x0 x3 x4 x5 x6 x7 x8 x9 x10) (hrow x2 b r) ch)
    ∧ (∀ b r l, arg21.view.read (Elt Ideal) (arg21.view.writes (Elt Ideal) arg21.view.junk ((pass c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2.2.1 ++ l21)) (ix3 b r l)
      = runMax (fun ch => abs' (hm (pOf x0 x3 x4 x5 x6 x7 x8 x9 x10) (hrow x2 b r) ch)) 20 l)
    ∧ (∀ b r (l : Fin 128) (hl : l.val < 40), arg22.view.read (Elt Ideal) (arg22.view.writes (Elt Ideal) arg22.view.junk ((pass c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2.2.2 ++ l22)) (ix3 b r l)
      = gscale (pOf x0 x3 x4 x5 x6 x7 x8 x9 x10) (xrow x1 r) (hrow x2 b r) ⟨l.val, hl⟩) := by
  obtain ⟨a, b, c', d⟩ := pb5_apply Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (w1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (w2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) w3 (w10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (w22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (w29 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (w32 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (harg4.unread x2) (harg5.unread x3) (harg6.unread x4) (harg7.unread x5) (harg8.unread x6) (harg9.unread x7) f11 fs0 (arg21.view.writes (Elt Ideal) arg21.view.junk l21) (arg22.view.writes (Elt Ideal) arg22.view.junk l22) (pOf x0 x3 x4 x5 x6 x7 x8 x9 x10) (xrow x1) (hrow x2) (hX4 arg4 harg4 x2)
    (fun j ch => congrFun (harg5.read_unread x3) _) (fun ch => congrFun (harg6.read_unread x4) _) (fun ch => congrFun (harg7.read_unread x5) _)
    (fun ch => congrFun (harg8.read_unread x6) _) (fun ch => congrFun (harg9.read_unread x7) _)
    (w1_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (w2_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) w3_iota (w10_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (w22_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13)
    (w29_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (w32_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (l21_apply arg21 _) 20 (le_refl _)
  refine ⟨fun b r ch => a b r ch (by omega), fun b' r ch => b b' r ch (by omega), fun b r l => ?_, fun b r l hl => ?_⟩
  · rw [View.writes_append]; exact c' b r l
  · rw [View.writes_append]; exact d b r l hl (by omega)

theorem w51_apply (r : Fin 256) (l : Fin 128) : (w51 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (ix3 0 r l) = runMax (fun ch => abs' (hm (pOf x0 x3 x4 x5 x6 x7 x8 x9 x10) (hrow x2 0 r) ch)) 20 l :=
  (rd_slab arg21.view _ 0 _ r l).trans ((pass_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2.2.1 0 r l)
theorem w94_apply (r : Fin 256) (l : Fin 128) : (w94 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (ix3 0 r l) = runMax (fun ch => abs' (hm (pOf x0 x3 x4 x5 x6 x7 x8 x9 x10) (hrow x2 1 r) ch)) 20 l :=
  (rd_slab arg21.view _ 1 _ r l).trans ((pass_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2.2.1 1 r l)
theorem w87_apply (r : Fin 256) (g : Fin 40) : (w87 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (ix3 0 r ⟨g.val, by omega⟩) = gscale (pOf x0 x3 x4 x5 x6 x7 x8 x9 x10) (xrow x1 r) (hrow x2 0 r) g :=
  (rd_slab arg22.view _ 0 _ r ⟨g.val, by omega⟩).trans ((pass_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2.2.2 0 r ⟨g.val, by omega⟩ g.isLt)
theorem w130_apply (r : Fin 256) (g : Fin 40) : (w130 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (ix3 0 r ⟨g.val, by omega⟩) = gscale (pOf x0 x3 x4 x5 x6 x7 x8 x9 x10) (xrow x1 r) (hrow x2 1 r) g :=
  (rd_slab arg22.view _ 1 _ r ⟨g.val, by omega⟩).trans ((pass_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2.2.2 1 r ⟨g.val, by omega⟩ g.isLt)

/-- Branch 0's head, finished. -/
theorem head0_apply :
    (∀ r (ch : Fin 5120), arg15.view.read (Elt Ideal) (arg15.view.writes (Elt Ideal) f13 (head0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).1) (ix4 0 0 r ch) = hcode (pOf x0 x3 x4 x5 x6 x7 x8 x9 x10) (hrow x2 0 r) ch)
    ∧ (∀ j r, (w70 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (ix2 j r) = runDot (fun ch => hcode (pOf x0 x3 x4 x5 x6 x7 x8 x9 x10) (hrow x2 0 r) ch * (pOf x0 x3 x4 x5 x6 x7 x8 x9 x10).wh j ch) 8) := by
  obtain ⟨a, -, c'⟩ := pb6_apply Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg10.unread x8) (arg20.view.writes (Elt Ideal) fs0 (pass c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2.1) f13 (arg23.view.writes (Elt Ideal) arg23.view.junk l23) (w51 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (pOf x0 x3 x4 x5 x6 x7 x8 x9 x10) (hrow x2 0) (w51_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13)
    (fun j ch => congrFun (harg10.read_unread x8) _) ((pass_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2.1 0)
    (fun j r => (l23_apply arg23 _ (k0_pay53 (F := Ideal)) _ j r).trans (by pointwise [k0_pay53])) 8 (le_refl _)
  refine ⟨fun r ch => a r ch (by omega), fun j r => ?_⟩
  unfold w70 View.readCov
  refine (rdAt arg23.view _ _ _ (ix2 j r) rfl ?_).trans ?_
  · intro a; fin_cases a <;> exact (Nat.zero_add _).symm
  · rw [View.writes_append]; exact c' j r

/-- Branch 1's head, finished; branch 0's codes stand. -/
theorem head1_apply :
    (∀ b r (ch : Fin 5120), arg15.view.read (Elt Ideal) (arg15.view.writes (Elt Ideal) f13 ((head1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).1 ++ (head0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).1)) (ix4 0 b r ch)
      = hcode (pOf x0 x3 x4 x5 x6 x7 x8 x9 x10) (hrow x2 b r) ch)
    ∧ (∀ j r, (w113 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (ix2 j r) = runDot (fun ch => hcode (pOf x0 x3 x4 x5 x6 x7 x8 x9 x10) (hrow x2 1 r) ch * (pOf x0 x3 x4 x5 x6 x7 x8 x9 x10).wh j ch) 8) := by
  obtain ⟨a, b', c'⟩ := pb7_apply Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg10.unread x8) (arg20.view.writes (Elt Ideal) fs0 (pass c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2.1) (arg15.view.writes (Elt Ideal) f13 (head0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).1)
    (arg23.view.writes (Elt Ideal) arg23.view.junk ((⟨(Rect.unit (s := S64x256) ![0, 0] S64x256.size inb_S64x256_S64x256_0_0), k0_pay63 (F := Ideal)⟩ : View.Piece (Elt Ideal) S64x256 .f32) :: ((head0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2 ++ l23))) (k0_pay60 (w87 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13)) (w94 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (pOf x0 x3 x4 x5 x6 x7 x8 x9 x10) (hrow x2 1)
    (w94_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13)
    (fun j ch => congrFun (harg10.read_unread x8) _) ((pass_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2.1 1)
    (fun j r => (l23_apply arg23 _ (k0_pay63 (F := Ideal)) _ j r).trans (by pointwise [k0_pay63])) 8 (le_refl _)
  refine ⟨fun b r ch => ?_, fun j r => ?_⟩
  · rw [View.writes_append]
    match b with
    | 0 => exact (b' r ch).trans ((head0_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).1 r ch)
    | 1 => exact a r ch (by omega)
  · unfold w113 View.readCov
    refine (rdAt arg23.view _ _ _ (ix2 j r) rfl ?_).trans ?_
    · intro a; fin_cases a <;> exact (Nat.zero_add _).symm
    · rw [View.writes_append]; exact c' j r

theorem sh_apply (j : Fin 64) : (arg11.view.readAt (Elt Ideal) (Rect.unit (s := S64x1) ![0, 0] S64x1.size inb_S64x1_S64x1_0_0).toLoadRect (harg11.unread x9)) (ix2 j 0) = (pOf x0 x3 x4 x5 x6 x7 x8 x9 x10).sh j :=
  (rdAt arg11.view _ _ _ (ix2 j 0) rfl (by intro a; fin_cases a <;> exact (Nat.zero_add _).symm)).trans (congrFun (harg11.read_unread x9) _)
theorem bh_apply (j : Fin 64) : (arg12.view.readAt (Elt Ideal) (Rect.unit (s := S64x1) ![0, 0] S64x1.size inb_S64x1_S64x1_0_0).toLoadRect (harg12.unread x10)) (ix2 j 0) = (pOf x0 x3 x4 x5 x6 x7 x8 x9 x10).bh j :=
  (rdAt arg12.view _ _ _ (ix2 j 0) rfl (by intro a; fin_cases a <;> exact (Nat.zero_add _).symm)).trans (congrFun (harg12.read_unread x10) _)

/-! ## The seven outputs -/

theorem fin13 : arg13.view.read (Elt Ideal) (arg13.view.writes (Elt Ideal) f11 (pass c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).1) = bRc x0 x1 x2 x3 x4 x5 x6 x7 x8 x9 x10 := by
  funext y
  idx_vars y
  obtain rfl : y0 = 0 := Subsingleton.elim _ _
  exact (pass_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).1 _ _ _

theorem fin15 : arg15.view.read (Elt Ideal) (arg15.view.writes (Elt Ideal) f13 ((head1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).1 ++ (head0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).1)) = bHc x0 x2 x3 x4 x5 x6 x7 x8 x9 x10 := by
  funext y
  idx_vars y
  obtain rfl : y0 = 0 := Subsingleton.elim _ _
  exact (head1_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).1 _ _ _

theorem fin14 (f : BufTy.Contents (Elt Ideal) arg14.view.ty) :
    arg14.view.read (Elt Ideal) (arg14.view.writes (Elt Ideal) f
      [(⟨Rect.unit (s := S1x2x40x256) ![0, 1, 0, 0] S1x1x40x256.size inb_S1x2x40x256_S1x1x40x256_0_1_0_0, k0_pay71 (w130 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13)⟩ : View.Piece (Elt Ideal) S1x2x40x256 .f32),
       (⟨Rect.unit (s := S1x2x40x256) ![0, 0, 0, 0] S1x1x40x256.size inb_S1x2x40x256_S1x1x40x256_0_0_0_0, k0_pay61 (k0_pay60 (w87 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13))⟩ : View.Piece (Elt Ideal) S1x2x40x256 .f32)]) = bRs x0 x1 x2 x3 x4 x5 x6 x7 x8 x9 x10 := by
  funext y
  idx_vars y
  obtain rfl : y0 = 0 := Subsingleton.elim _ _
  refine (read_two4 40 arg14.view f _ _ _ _ [] y1 y2 y3).trans ?_
  rw [pay61_eq, pay71_apply, pay71_apply, w130_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13 y3 y2, w87_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13 y3 y2]
  match y1 with
  | 0 => rfl
  | 1 => rfl

theorem fin16 (f : BufTy.Contents (Elt Ideal) arg16.view.ty) :
    arg16.view.read (Elt Ideal) (arg16.view.writes (Elt Ideal) f
      [(⟨Rect.unit (s := S1x2x256) ![0, 1, 0] S1x1x256.size inb_S1x2x256_S1x1x256_0_1_0, k0_pay70 (k0_pay67 (w94 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13))⟩ : View.Piece (Elt Ideal) S1x2x256 .f32),
       (⟨Rect.unit (s := S1x2x256) ![0, 0, 0] S1x1x256.size inb_S1x2x256_S1x1x256_0_0_0, k0_pay59 (k0_pay50 (w51 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13)) (k0_pay51 (w51 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13)) (Scalar.ofBits (F := Ideal) .f32 0x3F800000#32)⟩ : View.Piece (Elt Ideal) S1x2x256 .f32)]) = bHsc x0 x2 x3 x4 x5 x6 x7 x8 x9 x10 := by
  funext y
  idx_vars y
  obtain rfl : y0 = 0 := Subsingleton.elim _ _
  refine (read_two3 arg16.view f _ _ _ _ [] y1 y2).trans ?_
  rw [pay59_eq, pay70_apply (pOf x0 x3 x4 x5 x6 x7 x8 x9 x10) (hrow x2 1) _ (w94_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13), pay70_apply (pOf x0 x3 x4 x5 x6 x7 x8 x9 x10) (hrow x2 0) _ (w51_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13)]
  match y1 with
  | 0 => rfl
  | 1 => rfl

/-- The head's outputs, read. -/
theorem l17_apply (f : BufTy.Contents (Elt Ideal) arg17.view.ty) (b : Fin 2) (j : Fin 64) (r : Fin 256) :
    arg17.view.read (Elt Ideal) (arg17.view.writes (Elt Ideal) f (l17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13)) (ix4 0 b j r) = out (pOf x0 x3 x4 x5 x6 x7 x8 x9 x10) (hrow x2 b r) j := by
  refine (read_two4 64 arg17.view f _ _ _ _ [] b j r).trans ?_
  rw [pay58_eq]
  match b with
  | 0 =>
    rw [if_neg (by decide)]
    exact pay69_apply (pOf x0 x3 x4 x5 x6 x7 x8 x9 x10) (hrow x2 0) _ (w51_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) _ _ _ (head0_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2
      (sh_apply arg11 harg11 x0 x3 x4 x5 x6 x7 x8 x9 x10) (bh_apply arg12 harg12 x0 x3 x4 x5 x6 x7 x8 x9 x10) j r
  | 1 =>
    rw [if_pos rfl]
    exact pay69_apply (pOf x0 x3 x4 x5 x6 x7 x8 x9 x10) (hrow x2 1) _ (w94_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) _ _ _ (head1_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13).2
      (sh_apply arg11 harg11 x0 x3 x4 x5 x6 x7 x8 x9 x10) (bh_apply arg12 harg12 x0 x3 x4 x5 x6 x7 x8 x9 x10) j r

theorem fin17 (f : BufTy.Contents (Elt Ideal) arg17.view.ty) :
    arg17.view.read (Elt Ideal) (arg17.view.writes (Elt Ideal) f (l17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13)) = bOut x0 x2 x3 x4 x5 x6 x7 x8 x9 x10 := by
  funext y
  idx_vars y
  obtain rfl : y0 = 0 := Subsingleton.elim _ _
  exact l17_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13 f _ _ _

theorem w137_apply (j : Fin 64) (r : Fin 256) : (w137 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (ix4 0 0 j r) = out (pOf x0 x3 x4 x5 x6 x7 x8 x9 x10) (hrow x2 0 r) j := by
  refine (rdAt arg17.view _ _ _ (ix4 0 0 j r) rfl ?_).trans (l17_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13 _ 0 j r)
  intro a; fin_cases a <;> first | rfl | exact (Nat.zero_add _).symm

theorem w139_apply (j : Fin 64) (r : Fin 256) : (w139 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (ix4 0 0 j r) = out (pOf x0 x3 x4 x5 x6 x7 x8 x9 x10) (hrow x2 1 r) j := by
  refine (rdAt arg17.view _ _ _ (ix4 0 1 j r) rfl ?_).trans (l17_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13 _ 1 j r)
  intro a; fin_cases a <;> first | rfl | exact (Nat.zero_add _).symm

theorem fin18 (f : BufTy.Contents (Elt Ideal) arg18.view.ty) :
    arg18.view.read (Elt Ideal) (arg18.view.writes (Elt Ideal) f
      [(⟨Rect.unit (s := S1x1x256) ![0, 0, 0] S1x1x256.size inb_S1x1x256_S1x1x256_0_0_0, k0_pay73 (w137 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13) (w139 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13)⟩ : View.Piece (Elt Ideal) S1x1x256 .f32)]) = bCu x0 x2 x3 x4 x5 x6 x7 x8 x9 x10 := by
  funext y
  idx_vars y
  obtain rfl : y0 = 0 := Subsingleton.elim _ _
  obtain rfl : y1 = 0 := Subsingleton.elim _ _
  refine (View.read_writes_cons_unit_of_mem arg18.view f _ _ _ _ (ix3 0 0 y2) rfl ?_).trans ?_
  · intro a; fin_cases a <;> exact (Nat.zero_add _).symm
  · rw [pay73_apply]
    show _ = cross (pOf x0 x3 x4 x5 x6 x7 x8 x9 x10) (hrow x2 0 y2) (hrow x2 1 y2)
    unfold cross
    refine Finset.sum_congr rfl fun j _ => ?_
    rw [w137_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13 j y2, w139_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13 j y2]

theorem fin19 (f : BufTy.Contents (Elt Ideal) arg19.view.ty) :
    arg19.view.read (Elt Ideal) (arg19.view.writes (Elt Ideal) f
      [(⟨Rect.unit (s := S1x1x256) ![0, 0, 0] S1x1x256.size inb_S1x1x256_S1x1x256_0_0_0, k0_pay1 (k0_pay74 (w139 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13))⟩ : View.Piece (Elt Ideal) S1x1x256 .f32)]) = bUu x0 x2 x3 x4 x5 x6 x7 x8 x9 x10 := by
  funext y
  idx_vars y
  obtain rfl : y0 = 0 := Subsingleton.elim _ _
  obtain rfl : y1 = 0 := Subsingleton.elim _ _
  refine (View.read_writes_cons_unit_of_mem arg19.view f _ _ _ _ (ix3 0 0 y2) rfl ?_).trans ?_
  · intro a; fin_cases a <;> exact (Nat.zero_add _).symm
  · rw [pay1_apply]
    show _ = cross (pOf x0 x3 x4 x5 x6 x7 x8 x9 x10) (hrow x2 1 y2) (hrow x2 1 y2)
    unfold cross
    refine Finset.sum_congr rfl fun j _ => ?_
    rw [w139_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13 j y2]

end Cert.KernelIdeal.Hand

end
-- ==== Proof.Value.Body.lean ====
module

public import proofs.«01_k».proof.Proof.Gen.KernelIdeal.Frame
public import proofs.«01_k».proof.Proof.Value.Finals

@[expose] public section

set_option maxRecDepth 16384

noncomputable section

/-! # The body of the idealised kernel, run once, with what it writes

Over any staging buffers holding the blocks the body reads, the body ends with the seven output blocks of Blocks.lean. -/

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The body's triple: on whole staging buffers, the inputs' at the blocks `x0 … x10` and the outputs' and the scratch at
    anything, the body ends with the inputs' as they were, the seven outputs' at the row functions of the input blocks
    (Blocks.lean: residual codes and scales, head codes and scales, head outputs, and the two per-token products), and the
    scratch at some contents. -/
theorem valueRun (c : Dev nD) (i : grid0.Coords) (arg2 : Memref sig .tc .smem S1x1 .f32) (harg2 : arg2.IsWhole) (arg3 : Memref sig .tc .vmem S1x256x64 .fp8e4m3) (harg3 : arg3.IsWhole) (arg4 : Memref sig .tc .vmem S1x2x256x5120 .bf16) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S64x1 .f32) (harg11 : arg11.IsWhole) (arg12 : Memref sig .tc .vmem S64x1 .f32) (harg12 : arg12.IsWhole) (arg13 : Memref sig .tc .vmem S1x2x256x5120 .i8) (harg13 : arg13.IsWhole) (arg14 : Memref sig .tc .vmem S1x2x40x256 .f32) (harg14 : arg14.IsWhole) (arg15 : Memref sig .tc .vmem S1x2x256x5120 .fp8e4m3) (harg15 : arg15.IsWhole) (arg16 : Memref sig .tc .vmem S1x2x256 .f32) (harg16 : arg16.IsWhole) (arg17 : Memref sig .tc .vmem S1x2x64x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S2x256x5120 .f32) (harg20 : arg20.IsWhole) (arg21 : Memref sig .tc .vmem S2x256x128 .f32) (harg21 : arg21.IsWhole) (arg22 : Memref sig .tc .vmem S2x256x128 .f32) (harg22 : arg22.IsWhole) (arg23 : Memref sig .tc .vmem S64x256 .f32) (harg23 : arg23.IsWhole)
    (x0 : Vec Ideal S1x1 .f32) (x1 : Vec Ideal S1x256x64 .fp8e4m3) (x2 : Vec Ideal S1x2x256x5120 .bf16) (x3 : Vec Ideal S64x5120 .fp8e4m3) (x4 : Vec Ideal S1x5120 .f32) (x5 : Vec Ideal S1x5120 .f32) (x6 : Vec Ideal S1x1x5120 .f32) (x7 : Vec Ideal S1x1x5120 .f32) (x8 : Vec Ideal S64x5120 .fp8e4m3) (x9 : Vec Ideal S64x1 .f32) (x10 : Vec Ideal S64x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (bRc x0 x1 x2 x3 x4 x5 x6 x7 x8 x9 x10) ∗ owns (c : Thread nD τ) arg14 fullShare (bRs x0 x1 x2 x3 x4 x5 x6 x7 x8 x9 x10) ∗ owns (c : Thread nD τ) arg15 fullShare (bHc x0 x2 x3 x4 x5 x6 x7 x8 x9 x10) ∗ owns (c : Thread nD τ) arg16 fullShare (bHsc x0 x2 x3 x4 x5 x6 x7 x8 x9 x10) ∗ owns (c : Thread nD τ) arg17 fullShare (bOut x0 x2 x3 x4 x5 x6 x7 x8 x9 x10) ∗ owns (c : Thread nD τ) arg18 fullShare (bCu x0 x2 x3 x4 x5 x6 x7 x8 x9 x10) ∗ owns (c : Thread nD τ) arg19 fullShare (bUu x0 x2 x3 x4 x5 x6 x7 x8 x9 x10) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := Ideal)) Variants.none c none) E (cc0_cond i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_cond_eq_skeleton]; unfold cc0_cond_skel
    simp only [k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; swap; · iexact H11
      ipureintro; exact fin13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13
    isplitl [H12]
    · iexists _; isplitr; swap; · iexact H12
      ipureintro; exact fin14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13 _
    isplitl [H13]
    · iexists _; isplitr; swap; · iexact H13
      ipureintro; exact fin15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13
    isplitl [H14]
    · iexists _; isplitr; swap; · iexact H14
      ipureintro; exact fin16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13 _
    isplitl [H15]
    · iexists _; isplitr; swap; · iexact H15
      ipureintro; exact fin17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13 _
    isplitl [H16]
    · iexists _; isplitr; swap; · iexact H16
      ipureintro; exact fin18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13 _
    isplitl [H17]
    · iexists _; isplitr; swap; · iexact H17
      ipureintro; exact fin19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 f11 fs0 f13 _
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Hand

end
-- ==== Proof.Value.Spec.lean ====
module

public import proofs.«01_k».proof.Proof.Gen.KernelIdeal.Skeleton
public import proofs.«01_k».proof.Proof.Value.Rows

@[expose] public section

noncomputable section

/-! # The seven results, as functions of the argument arrays

One entry of each result depends on one token's patch codes and hidden state and on the weights: `PA` gathers the weights as
prompt `b` sees them, `xa` and `ha` are a token's patch codes and hidden state, and each result is a row function of Rows.lean. -/

namespace Cert.Rows

open Idealize.ShloMosaic Cert.KernelIdeal
open scoped BigOperators

section
variable (a0 : Vec Ideal S_ .f32) (a1 : Vec Ideal S5x3600x64 .fp8e4m3) (a2 : Vec Ideal S64x5120 .fp8e4m3)
  (a3 a4 : Vec Ideal S5120 .f32) (a5 : Vec Ideal S5x2x3600x5120 .bf16) (a6 a7 : Vec Ideal S5x5120 .f32)
  (a8 : Vec Ideal S5120x64 .fp8e4m3) (a9 a10 : Vec Ideal S64 .f32)

/-- The weights and scales as prompt `b` sees them. -/
def PA (b : Fin 5) : Params where
  s := a0 ix0
  we := fun k c => a2 (ix2 k c)
  se := fun c => a3 (ix1 c)
  be := fun c => a4 (ix1 c)
  hg := fun c => a7 (ix2 b c)
  hs := fun c => a6 (ix2 b c)
  wh := fun j c => a8 (ix2 c j)
  sh := fun j => a9 (ix1 j)
  bh := fun j => a10 (ix1 j)

/-- A token's patch codes. -/
def xa (b : Fin 5) (n : Fin 3600) (k : Fin 64) : EReal := a1 (ix3 b n k)
/-- A token's hidden state in branch `br`. -/
def ha (b : Fin 5) (br : Fin 2) (n : Fin 3600) (c : Fin 5120) : EReal := a5 (ix4 b br n c)

/-- The residual codes. -/
def gRc : Vec Ideal S5x2x3600x5120 .i8 :=
  fun y => rcode (PA a0 a2 a3 a4 a6 a7 a8 a9 a10 (y 0)) (xa a1 (y 0) (y 2)) (ha a5 (y 0) (y 1) (y 2)) (y 3)
/-- The residual scales. -/
def gRs : Vec Ideal S5x2x40x3600 .f32 :=
  fun y => gscale (PA a0 a2 a3 a4 a6 a7 a8 a9 a10 (y 0)) (xa a1 (y 0) (y 3)) (ha a5 (y 0) (y 1) (y 3)) (y 2)
/-- The head's activation codes. -/
def gHc : Vec Ideal S5x2x3600x5120 .fp8e4m3 :=
  fun y => hcode (PA a0 a2 a3 a4 a6 a7 a8 a9 a10 (y 0)) (ha a5 (y 0) (y 1) (y 2)) (y 3)
/-- The head's activation scales. -/
def gHsc : Vec Ideal S5x2x3600 .f32 :=
  fun y => hscale (PA a0 a2 a3 a4 a6 a7 a8 a9 a10 (y 0)) (ha a5 (y 0) (y 1) (y 2))
/-- The head's outputs. -/
def gOut : Vec Ideal S5x2x64x3600 .f32 :=
  fun y => out (PA a0 a2 a3 a4 a6 a7 a8 a9 a10 (y 0)) (ha a5 (y 0) (y 1) (y 3)) (y 2)
/-- The products of the two branches' outputs. -/
def gCu : Vec Ideal S5x1x3600 .f32 :=
  fun y => cross (PA a0 a2 a3 a4 a6 a7 a8 a9 a10 (y 0)) (ha a5 (y 0) 0 (y 2)) (ha a5 (y 0) 1 (y 2))
/-- The squares of the second branch's outputs. -/
def gUu : Vec Ideal S5x1x3600 .f32 :=
  fun y => cross (PA a0 a2 a3 a4 a6 a7 a8 a9 a10 (y 0)) (ha a5 (y 0) 1 (y 2)) (ha a5 (y 0) 1 (y 2))
end

end Cert.Rows

end
-- ==== Proof.Value.Windows.lean ====
module

public import proofs.«01_k».proof.Proof.Gen.KernelIdeal.Frame
public import proofs.«01_k».proof.Proof.Value.Blocks
public import proofs.«01_k».proof.Proof.Value.Spec
public import Idealize.ShloMosaic.Lib.Pipeline.ValueKit.Point

@[expose] public section

set_option maxRecDepth 16384

noncomputable section

/-! # The kernel's blocks, read off the argument arrays

Point `t` of the grid works on prompt `t / 15` and on the tokens from `256 * (t % 15)` on.  The last block of tokens
overhangs the arrays: there only the tokens below 3600 are moved, and only of them is anything said. -/

namespace Cert.KernelIdeal.Hand

open Idealize.ShloMosaic Idealize.ShloMosaic.TcCoe Idealize.SL.Sem Cert.KernelIdeal Cert.KernelIdeal.Gen Cert.Rows
open scoped BigOperators

variable (m : (ℓ : Loc nD τ sig) → Buf (Elt Ideal) ℓ)

/-! ## Where the blocks lie and how much of them is moved -/

/-- The block index of each operand at point `t`, operand by operand. -/
theorem e0_0 : ∀ t : Fin cfg0.N, win0_0.index t = ![0, 0] := (by decide +kernel : ∀ t : Fin grid0.N, _)
theorem e0_1 : ∀ t : Fin cfg0.N, win0_1.index t = ![t.val / 15, t.val % 15, 0] := (by decide +kernel : ∀ t : Fin grid0.N, _)
theorem e0_2 : ∀ t : Fin cfg0.N, win0_2.index t = ![t.val / 15, 0, t.val % 15, 0] := (by decide +kernel : ∀ t : Fin grid0.N, _)
theorem e0_3 : ∀ t : Fin cfg0.N, win0_3.index t = ![0, 0] := (by decide +kernel : ∀ t : Fin grid0.N, _)
theorem e0_4 : ∀ t : Fin cfg0.N, win0_4.index t = ![0, 0] := (by decide +kernel : ∀ t : Fin grid0.N, _)
theorem e0_5 : ∀ t : Fin cfg0.N, win0_5.index t = ![0, 0] := (by decide +kernel : ∀ t : Fin grid0.N, _)
theorem e0_6 : ∀ t : Fin cfg0.N, win0_6.index t = ![t.val / 15, 0, 0] := (by decide +kernel : ∀ t : Fin grid0.N, _)
theorem e0_7 : ∀ t : Fin cfg0.N, win0_7.index t = ![t.val / 15, 0, 0] := (by decide +kernel : ∀ t : Fin grid0.N, _)
theorem e0_8 : ∀ t : Fin cfg0.N, win0_8.index t = ![0, 0] := (by decide +kernel : ∀ t : Fin grid0.N, _)
theorem e0_9 : ∀ t : Fin cfg0.N, win0_9.index t = ![0, 0] := (by decide +kernel : ∀ t : Fin grid0.N, _)
theorem e0_10 : ∀ t : Fin cfg0.N, win0_10.index t = ![0, 0] := (by decide +kernel : ∀ t : Fin grid0.N, _)
theorem e0_11 : ∀ t : Fin cfg0.N, win0_11.index t = ![t.val / 15, 0, t.val % 15, 0] := (by decide +kernel : ∀ t : Fin grid0.N, _)
theorem e0_12 : ∀ t : Fin cfg0.N, win0_12.index t = ![t.val / 15, 0, 0, t.val % 15] := (by decide +kernel : ∀ t : Fin grid0.N, _)
theorem e0_13 : ∀ t : Fin cfg0.N, win0_13.index t = ![t.val / 15, 0, t.val % 15, 0] := (by decide +kernel : ∀ t : Fin grid0.N, _)
theorem e0_14 : ∀ t : Fin cfg0.N, win0_14.index t = ![t.val / 15, 0, t.val % 15] := (by decide +kernel : ∀ t : Fin grid0.N, _)
theorem e0_15 : ∀ t : Fin cfg0.N, win0_15.index t = ![t.val / 15, 0, 0, t.val % 15] := (by decide +kernel : ∀ t : Fin grid0.N, _)
theorem e0_16 : ∀ t : Fin cfg0.N, win0_16.index t = ![t.val / 15, 0, t.val % 15] := (by decide +kernel : ∀ t : Fin grid0.N, _)
theorem e0_17 : ∀ t : Fin cfg0.N, win0_17.index t = ![t.val / 15, 0, t.val % 15] := (by decide +kernel : ∀ t : Fin grid0.N, _)
/-- How much of each block that may overhang is moved at point `t`. -/
theorem xs0_1 : ∀ t : Fin cfg0.N, win0_1.xsize (grid0.coords t) = ![1, min 256 (3600 - t.val % 15 * 256), 64] := (by decide +kernel : ∀ t : Fin grid0.N, _)
theorem xs0_2 : ∀ t : Fin cfg0.N, win0_2.xsize (grid0.coords t) = ![1, 2, min 256 (3600 - t.val % 15 * 256), 5120] := (by decide +kernel : ∀ t : Fin grid0.N, _)
theorem xs0_11 : ∀ t : Fin cfg0.N, win0_11.xsize (grid0.coords t) = ![1, 2, min 256 (3600 - t.val % 15 * 256), 5120] := (by decide +kernel : ∀ t : Fin grid0.N, _)
theorem xs0_12 : ∀ t : Fin cfg0.N, win0_12.xsize (grid0.coords t) = ![1, 2, 40, min 256 (3600 - t.val % 15 * 256)] := (by decide +kernel : ∀ t : Fin grid0.N, _)
theorem xs0_13 : ∀ t : Fin cfg0.N, win0_13.xsize (grid0.coords t) = ![1, 2, min 256 (3600 - t.val % 15 * 256), 5120] := (by decide +kernel : ∀ t : Fin grid0.N, _)
theorem xs0_14 : ∀ t : Fin cfg0.N, win0_14.xsize (grid0.coords t) = ![1, 2, min 256 (3600 - t.val % 15 * 256)] := (by decide +kernel : ∀ t : Fin grid0.N, _)
theorem xs0_15 : ∀ t : Fin cfg0.N, win0_15.xsize (grid0.coords t) = ![1, 2, 64, min 256 (3600 - t.val % 15 * 256)] := (by decide +kernel : ∀ t : Fin grid0.N, _)
theorem xs0_16 : ∀ t : Fin cfg0.N, win0_16.xsize (grid0.coords t) = ![1, 1, min 256 (3600 - t.val % 15 * 256)] := (by decide +kernel : ∀ t : Fin grid0.N, _)
theorem xs0_17 : ∀ t : Fin cfg0.N, win0_17.xsize (grid0.coords t) = ![1, 1, min 256 (3600 - t.val % 15 * 256)] := (by decide +kernel : ∀ t : Fin grid0.N, _)

theorem lt75 (t : Fin cfg0.N) : t.val < 75 := Nat.lt_of_lt_of_eq t.isLt (by decide)

/-- The prompt point `t` works on. -/
abbrev bt (t : Fin cfg0.N) : Fin 5 := ⟨t.val / 15, by have := lt75 t; omega⟩

variable (c : Dev nD) (t : Fin cfg0.N)

/-! ## The blocks that do not overhang, at an index -/

theorem in0  : iblk m c 0 t (ix2 0 0) = m ((c : Thread nD τ).loc main_arg0) (ix0) := by
  blk_ext! [iblk, V, e0_0 t]
theorem in3 (k : Fin 64) (ch : Fin 5120) : iblk m c 3 t (ix2 k ch) = m ((c : Thread nD τ).loc main_arg2) (ix2 k ch) := by
  blk_ext! [iblk, V, e0_3 t]
theorem in4 (ch : Fin 5120) : iblk m c 4 t (ix2 0 ch) = m ((c : Thread nD τ).loc main_arg3) (ix1 ch) := by
  blk_ext! [iblk, V, e0_4 t]
theorem in5 (ch : Fin 5120) : iblk m c 5 t (ix2 0 ch) = m ((c : Thread nD τ).loc main_arg4) (ix1 ch) := by
  blk_ext! [iblk, V, e0_5 t]
theorem in6 (ch : Fin 5120) : iblk m c 6 t (ix3 0 0 ch) = m ((c : Thread nD τ).loc main_arg7) (ix2 (bt t) ch) := by
  blk_ext! [iblk, V, e0_6 t]
theorem in7 (ch : Fin 5120) : iblk m c 7 t (ix3 0 0 ch) = m ((c : Thread nD τ).loc main_arg6) (ix2 (bt t) ch) := by
  blk_ext! [iblk, V, e0_7 t]
theorem in8 (j : Fin 64) (ch : Fin 5120) : iblk m c 8 t (ix2 j ch) = m ((c : Thread nD τ).loc main_arg8) (ix2 ch j) := by
  blk_ext! [iblk, V, e0_8 t]
theorem in9 (j : Fin 64) : iblk m c 9 t (ix2 j 0) = m ((c : Thread nD τ).loc main_arg9) (ix1 j) := by
  blk_ext! [iblk, V, e0_9 t]
theorem in10 (j : Fin 64) : iblk m c 10 t (ix2 j 0) = m ((c : Thread nD τ).loc main_arg10) (ix1 j) := by
  blk_ext! [iblk, V, e0_10 t]

/-- The kernel's arguments, as the weights prompt `b` sees, -/
abbrev PM (b : Fin 5) : Params :=
  PA (m ((c : Thread nD τ).loc main_arg0)) (m ((c : Thread nD τ).loc main_arg2)) (m ((c : Thread nD τ).loc main_arg3))
    (m ((c : Thread nD τ).loc main_arg4)) (m ((c : Thread nD τ).loc main_arg6)) (m ((c : Thread nD τ).loc main_arg7))
    (m ((c : Thread nD τ).loc main_arg8)) (m ((c : Thread nD τ).loc main_arg9)) (m ((c : Thread nD τ).loc main_arg10)) b
/-- a token's patch codes, -/
abbrev XM : Fin 5 → Fin 3600 → Fin 64 → EReal := xa (m ((c : Thread nD τ).loc main_arg1))
/-- and its hidden state. -/
abbrev HM : Fin 5 → Fin 2 → Fin 3600 → Fin 5120 → EReal := ha (m ((c : Thread nD τ).loc main_arg5))

/-- The weights and scales the blocks at point `t` hold. -/
abbrev pB : Params :=
  pOf (iblk m c 0 t) (iblk m c 3 t) (iblk m c 4 t) (iblk m c 5 t) (iblk m c 6 t) (iblk m c 7 t) (iblk m c 8 t) (iblk m c 9 t) (iblk m c 10 t)

/-- They are the argument arrays' as the point's prompt sees them. -/
theorem pOf_eq : pB m c t = PM m c (bt t) := by
  unfold pB PM pOf PA
  simp only [in0 m c t, in3 m c t, in4 m c t, in5 m c t, in6 m c t, in7 m c t, in8 m c t, in9 m c t, in10 m c t]

/-! ## The blocks that may overhang, row by row -/

/-- The buffer of the patch codes after the fetch at point `t`, over contents `d` before it. -/
abbrev fx (d : Vec Ideal S1x256x64 .fp8e4m3) : Vec Ideal S1x256x64 .fp8e4m3 := win0_1.fill (grid0.coords t) d (iblk m c 1 t)
/-- The buffer of the hidden states after the fetch at point `t`, over contents `d` before it. -/
abbrev fh (d : Vec Ideal S1x2x256x5120 .bf16) : Vec Ideal S1x2x256x5120 .bf16 := win0_2.fill (grid0.coords t) d (iblk m c 2 t)

/-- A token of the arrays has its patch codes in the buffer, whatever the buffer held. -/
theorem xrow_eq (d : Vec Ideal S1x256x64 .fp8e4m3) (r : Fin 256) (hn : t.val % 15 * 256 + r.val < 3600) :
    xrow (fx m c t d) r = XM m c (bt t) ⟨t.val % 15 * 256 + r.val, hn⟩ := by
  funext k
  have hm : win0_1.moved (grid0.coords t) (ix3 0 r k) = true := by
    rw [win0_1.moved_iff, xs0_1 t]
    intro a
    fin_cases a
    · exact Nat.one_pos
    · exact lt_min r.isLt (by show r.val < 3600 - t.val % 15 * 256; omega)
    · exact k.isLt
  unfold xrow fx Pipeline.Window.fill
  rw [dif_pos hm]
  show _ = m ((c : Thread nD τ).loc main_arg1) (ix3 (bt t) ⟨t.val % 15 * 256 + r.val, hn⟩ k)
  blk_ext! [iblk, V, e0_1 t]

/-- A token of the arrays has its hidden state in the buffer, whatever the buffer held. -/
theorem hrow_eq (d : Vec Ideal S1x2x256x5120 .bf16) (br : Fin 2) (r : Fin 256) (hn : t.val % 15 * 256 + r.val < 3600) :
    hrow (fh m c t d) br r = HM m c (bt t) br ⟨t.val % 15 * 256 + r.val, hn⟩ := by
  funext ch
  have hm : win0_2.moved (grid0.coords t) (ix4 0 br r ch) = true := by
    rw [win0_2.moved_iff, xs0_2 t]
    intro a
    fin_cases a
    · exact Nat.one_pos
    · exact br.isLt
    · exact lt_min r.isLt (by show r.val < 3600 - t.val % 15 * 256; omega)
    · exact ch.isLt
  unfold hrow fh Pipeline.Window.fill
  rw [dif_pos hm]
  show _ = m ((c : Thread nD τ).loc main_arg5) (ix4 (bt t) br ⟨t.val % 15 * 256 + r.val, hn⟩ ch)
  blk_ext! [iblk, V, e0_2 t]

/-! ## The blocks written -/

/-- The block of the residual codes at point `t`. -/
abbrev wRc (d1 : Vec Ideal S1x256x64 .fp8e4m3) (d2 : Vec Ideal S1x2x256x5120 .bf16) : Vec Ideal S1x2x256x5120 .i8 :=
  bRc (iblk m c 0 t) (fx m c t d1) (fh m c t d2) (iblk m c 3 t) (iblk m c 4 t) (iblk m c 5 t) (iblk m c 6 t) (iblk m c 7 t) (iblk m c 8 t) (iblk m c 9 t) (iblk m c 10 t)
/-- At a token of the arrays it holds that token's residual codes. -/
theorem wRc_eq (d1 : Vec Ideal S1x256x64 .fp8e4m3) (d2 : Vec Ideal S1x2x256x5120 .bf16) (y : S1x2x256x5120.Idx) (hn : t.val % 15 * 256 + (y 2).val < 3600) :
    wRc m c t d1 d2 y = gRc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix4 (bt t) (y 1) (⟨t.val % 15 * 256 + (y 2).val, hn⟩) (y 3)) := by
  show rcode (pB m c t) (xrow (fx m c t d1) (y 2)) (hrow (fh m c t d2) (y 1) (y 2)) (y 3) = rcode (PM m c (bt t)) (XM m c (bt t) ⟨t.val % 15 * 256 + (y 2).val, hn⟩) (HM m c (bt t) (y 1) ⟨t.val % 15 * 256 + (y 2).val, hn⟩) (y 3)
  rw [pOf_eq m c t, xrow_eq m c t d1 (y 2) hn, hrow_eq m c t d2 (y 1) (y 2) hn]
/-- A token that is moved is a token of the arrays. -/
theorem tok11 (y : (win0_11.xblock (grid0.coords t)).Idx) : t.val % 15 * 256 + (y 2).val < 3600 := by
  have h := (y 2).isLt
  have e : win0_11.xsize (grid0.coords t) 2 = min 256 (3600 - t.val % 15 * 256) := by rw [xs0_11 t]; rfl
  have h2 : (y 2).val < min 256 (3600 - t.val % 15 * 256) := Nat.lt_of_lt_of_eq h e
  have := lt_min_iff.1 h2
  omega
/-- What the point moves out of it does not depend on what the buffers held before. -/
theorem cut11 (d1 d1' : Vec Ideal S1x256x64 .fp8e4m3) (d2 d2' : Vec Ideal S1x2x256x5120 .bf16) :
    win0_11.cut (grid0.coords t) (wRc m c t d1 d2) = win0_11.cut (grid0.coords t) (wRc m c t d1' d2') := by
  funext y
  exact (wRc_eq m c t d1 d2 (win0_11.xinj (grid0.coords t) y) (tok11 t y)).trans (wRc_eq m c t d1' d2' (win0_11.xinj (grid0.coords t) y) (tok11 t y)).symm
/-- The block of the residual scales at point `t`. -/
abbrev wRs (d1 : Vec Ideal S1x256x64 .fp8e4m3) (d2 : Vec Ideal S1x2x256x5120 .bf16) : Vec Ideal S1x2x40x256 .f32 :=
  bRs (iblk m c 0 t) (fx m c t d1) (fh m c t d2) (iblk m c 3 t) (iblk m c 4 t) (iblk m c 5 t) (iblk m c 6 t) (iblk m c 7 t) (iblk m c 8 t) (iblk m c 9 t) (iblk m c 10 t)
/-- At a token of the arrays it holds that token's residual scales. -/
theorem wRs_eq (d1 : Vec Ideal S1x256x64 .fp8e4m3) (d2 : Vec Ideal S1x2x256x5120 .bf16) (y : S1x2x40x256.Idx) (hn : t.val % 15 * 256 + (y 3).val < 3600) :
    wRs m c t d1 d2 y = gRs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix4 (bt t) (y 1) (y 2) (⟨t.val % 15 * 256 + (y 3).val, hn⟩)) := by
  show gscale (pB m c t) (xrow (fx m c t d1) (y 3)) (hrow (fh m c t d2) (y 1) (y 3)) (y 2) = gscale (PM m c (bt t)) (XM m c (bt t) ⟨t.val % 15 * 256 + (y 3).val, hn⟩) (HM m c (bt t) (y 1) ⟨t.val % 15 * 256 + (y 3).val, hn⟩) (y 2)
  rw [pOf_eq m c t, xrow_eq m c t d1 (y 3) hn, hrow_eq m c t d2 (y 1) (y 3) hn]
/-- A token that is moved is a token of the arrays. -/
theorem tok12 (y : (win0_12.xblock (grid0.coords t)).Idx) : t.val % 15 * 256 + (y 3).val < 3600 := by
  have h := (y 3).isLt
  have e : win0_12.xsize (grid0.coords t) 3 = min 256 (3600 - t.val % 15 * 256) := by rw [xs0_12 t]; rfl
  have h2 : (y 3).val < min 256 (3600 - t.val % 15 * 256) := Nat.lt_of_lt_of_eq h e
  have := lt_min_iff.1 h2
  omega
/-- What the point moves out of it does not depend on what the buffers held before. -/
theorem cut12 (d1 d1' : Vec Ideal S1x256x64 .fp8e4m3) (d2 d2' : Vec Ideal S1x2x256x5120 .bf16) :
    win0_12.cut (grid0.coords t) (wRs m c t d1 d2) = win0_12.cut (grid0.coords t) (wRs m c t d1' d2') := by
  funext y
  exact (wRs_eq m c t d1 d2 (win0_12.xinj (grid0.coords t) y) (tok12 t y)).trans (wRs_eq m c t d1' d2' (win0_12.xinj (grid0.coords t) y) (tok12 t y)).symm
/-- The block of the head's activation codes at point `t`. -/
abbrev wHc (d2 : Vec Ideal S1x2x256x5120 .bf16) : Vec Ideal S1x2x256x5120 .fp8e4m3 :=
  bHc (iblk m c 0 t) (fh m c t d2) (iblk m c 3 t) (iblk m c 4 t) (iblk m c 5 t) (iblk m c 6 t) (iblk m c 7 t) (iblk m c 8 t) (iblk m c 9 t) (iblk m c 10 t)
/-- At a token of the arrays it holds that token's head's activation codes. -/
theorem wHc_eq (d2 : Vec Ideal S1x2x256x5120 .bf16) (y : S1x2x256x5120.Idx) (hn : t.val % 15 * 256 + (y 2).val < 3600) :
    wHc m c t d2 y = gHc (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix4 (bt t) (y 1) (⟨t.val % 15 * 256 + (y 2).val, hn⟩) (y 3)) := by
  show hcode (pB m c t) (hrow (fh m c t d2) (y 1) (y 2)) (y 3) = hcode (PM m c (bt t)) (HM m c (bt t) (y 1) ⟨t.val % 15 * 256 + (y 2).val, hn⟩) (y 3)
  rw [pOf_eq m c t, hrow_eq m c t d2 (y 1) (y 2) hn]
/-- A token that is moved is a token of the arrays. -/
theorem tok13 (y : (win0_13.xblock (grid0.coords t)).Idx) : t.val % 15 * 256 + (y 2).val < 3600 := by
  have h := (y 2).isLt
  have e : win0_13.xsize (grid0.coords t) 2 = min 256 (3600 - t.val % 15 * 256) := by rw [xs0_13 t]; rfl
  have h2 : (y 2).val < min 256 (3600 - t.val % 15 * 256) := Nat.lt_of_lt_of_eq h e
  have := lt_min_iff.1 h2
  omega
/-- What the point moves out of it does not depend on what the buffers held before. -/
theorem cut13 (d2 d2' : Vec Ideal S1x2x256x5120 .bf16) :
    win0_13.cut (grid0.coords t) (wHc m c t d2) = win0_13.cut (grid0.coords t) (wHc m c t d2') := by
  funext y
  exact (wHc_eq m c t d2 (win0_13.xinj (grid0.coords t) y) (tok13 t y)).trans (wHc_eq m c t d2' (win0_13.xinj (grid0.coords t) y) (tok13 t y)).symm
/-- The block of the head's activation scales at point `t`. -/
abbrev wHsc (d2 : Vec Ideal S1x2x256x5120 .bf16) : Vec Ideal S1x2x256 .f32 :=
  bHsc (iblk m c 0 t) (fh m c t d2) (iblk m c 3 t) (iblk m c 4 t) (iblk m c 5 t) (iblk m c 6 t) (iblk m c 7 t) (iblk m c 8 t) (iblk m c 9 t) (iblk m c 10 t)
/-- At a token of the arrays it holds that token's head's activation scales. -/
theorem wHsc_eq (d2 : Vec Ideal S1x2x256x5120 .bf16) (y : S1x2x256.Idx) (hn : t.val % 15 * 256 + (y 2).val < 3600) :
    wHsc m c t d2 y = gHsc (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 (bt t) (y 1) (⟨t.val % 15 * 256 + (y 2).val, hn⟩)) := by
  show hscale (pB m c t) (hrow (fh m c t d2) (y 1) (y 2)) = hscale (PM m c (bt t)) (HM m c (bt t) (y 1) ⟨t.val % 15 * 256 + (y 2).val, hn⟩)
  rw [pOf_eq m c t, hrow_eq m c t d2 (y 1) (y 2) hn]
/-- A token that is moved is a token of the arrays. -/
theorem tok14 (y : (win0_14.xblock (grid0.coords t)).Idx) : t.val % 15 * 256 + (y 2).val < 3600 := by
  have h := (y 2).isLt
  have e : win0_14.xsize (grid0.coords t) 2 = min 256 (3600 - t.val % 15 * 256) := by rw [xs0_14 t]; rfl
  have h2 : (y 2).val < min 256 (3600 - t.val % 15 * 256) := Nat.lt_of_lt_of_eq h e
  have := lt_min_iff.1 h2
  omega
/-- What the point moves out of it does not depend on what the buffers held before. -/
theorem cut14 (d2 d2' : Vec Ideal S1x2x256x5120 .bf16) :
    win0_14.cut (grid0.coords t) (wHsc m c t d2) = win0_14.cut (grid0.coords t) (wHsc m c t d2') := by
  funext y
  exact (wHsc_eq m c t d2 (win0_14.xinj (grid0.coords t) y) (tok14 t y)).trans (wHsc_eq m c t d2' (win0_14.xinj (grid0.coords t) y) (tok14 t y)).symm
/-- The block of the head's outputs at point `t`. -/
abbrev wOut (d2 : Vec Ideal S1x2x256x5120 .bf16) : Vec Ideal S1x2x64x256 .f32 :=
  bOut (iblk m c 0 t) (fh m c t d2) (iblk m c 3 t) (iblk m c 4 t) (iblk m c 5 t) (iblk m c 6 t) (iblk m c 7 t) (iblk m c 8 t) (iblk m c 9 t) (iblk m c 10 t)
/-- At a token of the arrays it holds that token's head's outputs. -/
theorem wOut_eq (d2 : Vec Ideal S1x2x256x5120 .bf16) (y : S1x2x64x256.Idx) (hn : t.val % 15 * 256 + (y 3).val < 3600) :
    wOut m c t d2 y = gOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix4 (bt t) (y 1) (y 2) (⟨t.val % 15 * 256 + (y 3).val, hn⟩)) := by
  show out (pB m c t) (hrow (fh m c t d2) (y 1) (y 3)) (y 2) = out (PM m c (bt t)) (HM m c (bt t) (y 1) ⟨t.val % 15 * 256 + (y 3).val, hn⟩) (y 2)
  rw [pOf_eq m c t, hrow_eq m c t d2 (y 1) (y 3) hn]
/-- A token that is moved is a token of the arrays. -/
theorem tok15 (y : (win0_15.xblock (grid0.coords t)).Idx) : t.val % 15 * 256 + (y 3).val < 3600 := by
  have h := (y 3).isLt
  have e : win0_15.xsize (grid0.coords t) 3 = min 256 (3600 - t.val % 15 * 256) := by rw [xs0_15 t]; rfl
  have h2 : (y 3).val < min 256 (3600 - t.val % 15 * 256) := Nat.lt_of_lt_of_eq h e
  have := lt_min_iff.1 h2
  omega
/-- What the point moves out of it does not depend on what the buffers held before. -/
theorem cut15 (d2 d2' : Vec Ideal S1x2x256x5120 .bf16) :
    win0_15.cut (grid0.coords t) (wOut m c t d2) = win0_15.cut (grid0.coords t) (wOut m c t d2') := by
  funext y
  exact (wOut_eq m c t d2 (win0_15.xinj (grid0.coords t) y) (tok15 t y)).trans (wOut_eq m c t d2' (win0_15.xinj (grid0.coords t) y) (tok15 t y)).symm
/-- The block of the products of the two branches' outputs at point `t`. -/
abbrev wCu (d2 : Vec Ideal S1x2x256x5120 .bf16) : Vec Ideal S1x1x256 .f32 :=
  bCu (iblk m c 0 t) (fh m c t d2) (iblk m c 3 t) (iblk m c 4 t) (iblk m c 5 t) (iblk m c 6 t) (iblk m c 7 t) (iblk m c 8 t) (iblk m c 9 t) (iblk m c 10 t)
/-- At a token of the arrays it holds that token's products of the two branches' outputs. -/
theorem wCu_eq (d2 : Vec Ideal S1x2x256x5120 .bf16) (y : S1x1x256.Idx) (hn : t.val % 15 * 256 + (y 2).val < 3600) :
    wCu m c t d2 y = gCu (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 (bt t) (y 1) (⟨t.val % 15 * 256 + (y 2).val, hn⟩)) := by
  show cross (pB m c t) (hrow (fh m c t d2) 0 (y 2)) (hrow (fh m c t d2) 1 (y 2)) = cross (PM m c (bt t)) (HM m c (bt t) 0 ⟨t.val % 15 * 256 + (y 2).val, hn⟩) (HM m c (bt t) 1 ⟨t.val % 15 * 256 + (y 2).val, hn⟩)
  rw [pOf_eq m c t, hrow_eq m c t d2 0 (y 2) hn, hrow_eq m c t d2 1 (y 2) hn]
/-- A token that is moved is a token of the arrays. -/
theorem tok16 (y : (win0_16.xblock (grid0.coords t)).Idx) : t.val % 15 * 256 + (y 2).val < 3600 := by
  have h := (y 2).isLt
  have e : win0_16.xsize (grid0.coords t) 2 = min 256 (3600 - t.val % 15 * 256) := by rw [xs0_16 t]; rfl
  have h2 : (y 2).val < min 256 (3600 - t.val % 15 * 256) := Nat.lt_of_lt_of_eq h e
  have := lt_min_iff.1 h2
  omega
/-- What the point moves out of it does not depend on what the buffers held before. -/
theorem cut16 (d2 d2' : Vec Ideal S1x2x256x5120 .bf16) :
    win0_16.cut (grid0.coords t) (wCu m c t d2) = win0_16.cut (grid0.coords t) (wCu m c t d2') := by
  funext y
  exact (wCu_eq m c t d2 (win0_16.xinj (grid0.coords t) y) (tok16 t y)).trans (wCu_eq m c t d2' (win0_16.xinj (grid0.coords t) y) (tok16 t y)).symm
/-- The block of the squares of the second branch's outputs at point `t`. -/
abbrev wUu (d2 : Vec Ideal S1x2x256x5120 .bf16) : Vec Ideal S1x1x256 .f32 :=
  bUu (iblk m c 0 t) (fh m c t d2) (iblk m c 3 t) (iblk m c 4 t) (iblk m c 5 t) (iblk m c 6 t) (iblk m c 7 t) (iblk m c 8 t) (iblk m c 9 t) (iblk m c 10 t)
/-- At a token of the arrays it holds that token's squares of the second branch's outputs. -/
theorem wUu_eq (d2 : Vec Ideal S1x2x256x5120 .bf16) (y : S1x1x256.Idx) (hn : t.val % 15 * 256 + (y 2).val < 3600) :
    wUu m c t d2 y = gUu (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 (bt t) (y 1) (⟨t.val % 15 * 256 + (y 2).val, hn⟩)) := by
  show cross (pB m c t) (hrow (fh m c t d2) 1 (y 2)) (hrow (fh m c t d2) 1 (y 2)) = cross (PM m c (bt t)) (HM m c (bt t) 1 ⟨t.val % 15 * 256 + (y 2).val, hn⟩) (HM m c (bt t) 1 ⟨t.val % 15 * 256 + (y 2).val, hn⟩)
  rw [pOf_eq m c t, hrow_eq m c t d2 1 (y 2) hn]
/-- A token that is moved is a token of the arrays. -/
theorem tok17 (y : (win0_17.xblock (grid0.coords t)).Idx) : t.val % 15 * 256 + (y 2).val < 3600 := by
  have h := (y 2).isLt
  have e : win0_17.xsize (grid0.coords t) 2 = min 256 (3600 - t.val % 15 * 256) := by rw [xs0_17 t]; rfl
  have h2 : (y 2).val < min 256 (3600 - t.val % 15 * 256) := Nat.lt_of_lt_of_eq h e
  have := lt_min_iff.1 h2
  omega
/-- What the point moves out of it does not depend on what the buffers held before. -/
theorem cut17 (d2 d2' : Vec Ideal S1x2x256x5120 .bf16) :
    win0_17.cut (grid0.coords t) (wUu m c t d2) = win0_17.cut (grid0.coords t) (wUu m c t d2') := by
  funext y
  exact (wUu_eq m c t d2 (win0_17.xinj (grid0.coords t) y) (tok17 t y)).trans (wUu_eq m c t d2' (win0_17.xinj (grid0.coords t) y) (tok17 t y)).symm

end Cert.KernelIdeal.Hand

end
-- ==== Proof.Value.Launch.lean ====
module

public import proofs.«01_k».proof.Proof.Value.Body
public import proofs.«01_k».proof.Proof.Value.Windows

@[expose] public section

set_option maxRecDepth 16384

noncomputable section

/-! # The idealised kernel's run, with what it leaves in its result arrays

The body's triple at every point of the grid, what each point moves out named by row functions of the argument arrays, and
the launch. -/

namespace Cert.KernelIdeal.Hand

open Cert.KernelIdeal Cert.KernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The staging buffers by name -/

/-- Each window's current staging memref at point `t`, spelled as the pipeline passes it (`bodyAt0`), and its wholeness. -/
abbrev ms0_0 (t : Fin cfg0.N) : Memref sig .tc .smem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x64 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2x256x5120 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x5120 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x5120 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x5120 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x5120 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x5120 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x5120 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2x256x5120 .i8 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2x40x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x2x256x5120 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x2x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x2x64x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x1x256 .f32 := win0_17.stage (cfg0.slots t 17)
abbrev hs0_17 (t : Fin cfg0.N) : (ms0_17 t).IsWhole := hstage0_17 ((cfg0.slots t 17).cast nbuf0_17)
/-- The scratch operands: whole scoped buffers of the kernel's own, passed beside the windows. -/
abbrev scM0_0 : Memref sig .tc .vmem S2x256x5120 .f32 := Memref.whole cc0_scratch0
abbrev scM0_1 : Memref sig .tc .vmem S2x256x128 .f32 := Memref.whole cc0_scratch1
abbrev scM0_2 : Memref sig .tc .vmem S2x256x128 .f32 := Memref.whole cc0_scratch2
abbrev scM0_3 : Memref sig .tc .vmem S64x256 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The pipeline's proof data -/

/-- Contents naming nothing of the patch codes' buffer beyond the tokens moved into it, -/
abbrev zx : Vec Ideal S1x256x64 .fp8e4m3 := fun _ => (0 : EReal)
/-- and of the hidden states' buffer. -/
abbrev zh : Vec Ideal S1x2x256x5120 .bf16 := fun _ => (0 : EReal)

/-- The proof data of the one pipeline on core `c`: the arrays as the region finds them; after the body at point `t` each
    input's buffer at its block, each result's buffer at the block of Windows.lean (its part beyond the tokens moved is not
    claimed); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => fx m c t zx
    | ⟨2, _⟩ => fh m c t zh
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => wRc m c t zx zh
    | ⟨12, _⟩ => wRs m c t zx zh
    | ⟨13, _⟩ => wHc m c t zh
    | ⟨14, _⟩ => wHsc m c t zh
    | ⟨15, _⟩ => wOut m c t zh
    | ⟨16, _⟩ => wCu m c t zh
    | ⟨17, _⟩ => wUu m c t zh
    | ⟨_ + 18, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = fx m c t zx := by dsimp only [dats]
theorem after0_2 (c : Dev nD) (t : Fin cfg0.N) : (dats m 0 c).after 2 t = fh m c t zh := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = wRc m c t zx zh := by dsimp only [dats]
theorem after0_12 (c : Dev nD) (t : Fin cfg0.N) : (dats m 0 c).after 12 t = wRs m c t zx zh := by dsimp only [dats]
theorem after0_13 (c : Dev nD) (t : Fin cfg0.N) : (dats m 0 c).after 13 t = wHc m c t zh := by dsimp only [dats]
theorem after0_14 (c : Dev nD) (t : Fin cfg0.N) : (dats m 0 c).after 14 t = wHsc m c t zh := by dsimp only [dats]
theorem after0_15 (c : Dev nD) (t : Fin cfg0.N) : (dats m 0 c).after 15 t = wOut m c t zh := by dsimp only [dats]
theorem after0_16 (c : Dev nD) (t : Fin cfg0.N) : (dats m 0 c).after 16 t = wCu m c t zh := by dsimp only [dats]
theorem after0_17 (c : Dev nD) (t : Fin cfg0.N) : (dats m 0 c).after 17 t = wUu m c t zh := by dsimp only [dats]

/-- Each input's buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
/-- The two inputs that may overhang are fetched at every point: their buffers hold the moved part over what was there. -/
theorem before0_1 (c : Dev nD) (t : Fin cfg0.N) (d) : (dats m 0 c).before 1 t d = fx m c t d := by
  unfold Dat.before; rw [if_pos (fetch0_1 t)]; unfold Dat.fetched Dat.blockOf; rw [A_eq m c 1]; rfl
theorem before0_2 (c : Dev nD) (t : Fin cfg0.N) (d) : (dats m 0 c).before 2 t d = fh m c t d := by
  unfold Dat.before; rw [if_pos (fetch0_2 t)]; unfold Dat.fetched Dat.blockOf; rw [A_eq m c 2]; rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it returns: of the windows that may overhang, only the moved part is named. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare (win0_1.fill (grid0.coords t) d (win0_1.cut (grid0.coords t) ((dats m 0 c).after 1 t))))
    ∗ (∃ d, owns (c : Thread nD τ) (ms0_2 t) fullShare (win0_2.fill (grid0.coords t) d (win0_2.cut (grid0.coords t) ((dats m 0 c).after 2 t))))
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare (win0_11.fill (grid0.coords t) d (win0_11.cut (grid0.coords t) ((dats m 0 c).after 11 t))))
    ∗ (∃ d, owns (c : Thread nD τ) (ms0_12 t) fullShare (win0_12.fill (grid0.coords t) d (win0_12.cut (grid0.coords t) ((dats m 0 c).after 12 t))))
    ∗ (∃ d, owns (c : Thread nD τ) (ms0_13 t) fullShare (win0_13.fill (grid0.coords t) d (win0_13.cut (grid0.coords t) ((dats m 0 c).after 13 t))))
    ∗ (∃ d, owns (c : Thread nD τ) (ms0_14 t) fullShare (win0_14.fill (grid0.coords t) d (win0_14.cut (grid0.coords t) ((dats m 0 c).after 14 t))))
    ∗ (∃ d, owns (c : Thread nD τ) (ms0_15 t) fullShare (win0_15.fill (grid0.coords t) d (win0_15.cut (grid0.coords t) ((dats m 0 c).after 15 t))))
    ∗ (∃ d, owns (c : Thread nD τ) (ms0_16 t) fullShare (win0_16.fill (grid0.coords t) d (win0_16.cut (grid0.coords t) ((dats m 0 c).after 16 t))))
    ∗ (∃ d, owns (c : Thread nD τ) (ms0_17 t) fullShare (win0_17.fill (grid0.coords t) d (win0_17.cut (grid0.coords t) ((dats m 0 c).after 17 t)))))

set_option maxHeartbeats 2000000 in
/-- The body at any point: the inputs' buffers hold their blocks, so the run applies; what it leaves of each result agrees
    with the named block on the part moved. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((valueRun c (grid0.coords t) _ _ _ _ _ _ _ _ _ _ _ _ _ _ _ _ _ _ _ _ _ _ _ _ _ _ _ _ _ _ _ _ _ _ _ _ _ _ _ _ _ _ _ _ (iblk m c 0 t) (fx m c t d1) (fh m c t d2) (iblk m c 3 t) (iblk m c 4 t) (iblk m c 5 t) (iblk m c 6 t) (iblk m c 7 t) (iblk m c 8 t) (iblk m c 9 t) (iblk m c 10 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexists d1; rw [Pipeline.Window.cut_fill]; iexact H1
  isplitl [H2]; · iexists d2; rw [Pipeline.Window.cut_fill]; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists (wRc m c t d1 d2); rw [win0_11.fill_congr_cut (grid0.coords t) (cut11 m c t d1 zx d2 zh)]; iexact H11
  isplitl [H12]; · iexists (wRs m c t d1 d2); rw [win0_12.fill_congr_cut (grid0.coords t) (cut12 m c t d1 zx d2 zh)]; iexact H12
  isplitl [H13]; · iexists (wHc m c t d2); rw [win0_13.fill_congr_cut (grid0.coords t) (cut13 m c t d2 zh)]; iexact H13
  isplitl [H14]; · iexists (wHsc m c t d2); rw [win0_14.fill_congr_cut (grid0.coords t) (cut14 m c t d2 zh)]; iexact H14
  isplitl [H15]; · iexists (wOut m c t d2); rw [win0_15.fill_congr_cut (grid0.coords t) (cut15 m c t d2 zh)]; iexact H15
  isplitl [H16]; · iexists (wCu m c t d2); rw [win0_16.fill_congr_cut (grid0.coords t) (cut16 m c t d2 zh)]; iexact H16
  iexists (wUu m c t d2); rw [win0_17.fill_congr_cut (grid0.coords t) (cut17 m c t d2 zh)]; iexact H17

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated. -/
theorem body_obligation (c : Dev nD) : BodyObligationLoose (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
/-- Every fair execution of the idealised kernel ends, with every array at what the proof data say and every semaphore
    counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- Every fair execution of the idealised kernel ends, with every array at what the proof data say. -/
theorem run_main : θ_run defs (onTc (τ := τ) (main (F := Ideal))) (s₀ m ρ) (Pipeline.FramePost cfgs (dats m) 0 (V m)) :=
  (θ_run defs _ _).mono (fun _ h => h.1) (run_main_quiescent m ρ)

/-! ## The result arrays -/

/-- A block spans one prompt. -/
theorem zer11 (t : Fin cfg0.N) (y : (win0_11.xblock (grid0.coords t)).Idx) : (y 0).val = 0 := by
  have h := (y 0).isLt
  have e : win0_11.xsize (grid0.coords t) 0 = 1 := by rw [xs0_11 t]; rfl
  exact Nat.lt_one_iff.1 (Nat.lt_of_lt_of_eq h e)
/-- The residual codes. -/
theorem arr11 (c : Dev nD) : (dats m 0 c).arrAt 11 cfg0.N = gRc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t hf y => ?_
  blk_simp
  have hy : (win0_11.blk t).view.emb y = ix4 (bt t) (win0_11.xinj (grid0.coords t) y 1) ⟨t.val % 15 * 256 + (y 2).val, tok11 t y⟩ (win0_11.xinj (grid0.coords t) y 3) := by
    have hz := zer11 t y
    blk_ext [e0_11 t]
  rw [hy, after0_11]
  exact wRc_eq m c t zx zh (win0_11.xinj (grid0.coords t) y) (tok11 t y)
/-- A block spans one prompt. -/
theorem zer12 (t : Fin cfg0.N) (y : (win0_12.xblock (grid0.coords t)).Idx) : (y 0).val = 0 := by
  have h := (y 0).isLt
  have e : win0_12.xsize (grid0.coords t) 0 = 1 := by rw [xs0_12 t]; rfl
  exact Nat.lt_one_iff.1 (Nat.lt_of_lt_of_eq h e)
/-- The residual scales. -/
theorem arr12 (c : Dev nD) : (dats m 0 c).arrAt 12 cfg0.N = gRs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t hf y => ?_
  blk_simp
  have hy : (win0_12.blk t).view.emb y = ix4 (bt t) (win0_12.xinj (grid0.coords t) y 1) (win0_12.xinj (grid0.coords t) y 2) ⟨t.val % 15 * 256 + (y 3).val, tok12 t y⟩ := by
    have hz := zer12 t y
    blk_ext [e0_12 t]
  rw [hy, after0_12]
  exact wRs_eq m c t zx zh (win0_12.xinj (grid0.coords t) y) (tok12 t y)
/-- A block spans one prompt. -/
theorem zer13 (t : Fin cfg0.N) (y : (win0_13.xblock (grid0.coords t)).Idx) : (y 0).val = 0 := by
  have h := (y 0).isLt
  have e : win0_13.xsize (grid0.coords t) 0 = 1 := by rw [xs0_13 t]; rfl
  exact Nat.lt_one_iff.1 (Nat.lt_of_lt_of_eq h e)
/-- The head's activation codes. -/
theorem arr13 (c : Dev nD) : (dats m 0 c).arrAt 13 cfg0.N = gHc (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 13 _ (by decide +kernel) fun t hf y => ?_
  blk_simp
  have hy : (win0_13.blk t).view.emb y = ix4 (bt t) (win0_13.xinj (grid0.coords t) y 1) ⟨t.val % 15 * 256 + (y 2).val, tok13 t y⟩ (win0_13.xinj (grid0.coords t) y 3) := by
    have hz := zer13 t y
    blk_ext [e0_13 t]
  rw [hy, after0_13]
  exact wHc_eq m c t zh (win0_13.xinj (grid0.coords t) y) (tok13 t y)
/-- A block spans one prompt. -/
theorem zer14 (t : Fin cfg0.N) (y : (win0_14.xblock (grid0.coords t)).Idx) : (y 0).val = 0 := by
  have h := (y 0).isLt
  have e : win0_14.xsize (grid0.coords t) 0 = 1 := by rw [xs0_14 t]; rfl
  exact Nat.lt_one_iff.1 (Nat.lt_of_lt_of_eq h e)
/-- The head's activation scales. -/
theorem arr14 (c : Dev nD) : (dats m 0 c).arrAt 14 cfg0.N = gHsc (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 14 _ (by decide +kernel) fun t hf y => ?_
  blk_simp
  have hy : (win0_14.blk t).view.emb y = ix3 (bt t) (win0_14.xinj (grid0.coords t) y 1) ⟨t.val % 15 * 256 + (y 2).val, tok14 t y⟩ := by
    have hz := zer14 t y
    blk_ext [e0_14 t]
  rw [hy, after0_14]
  exact wHsc_eq m c t zh (win0_14.xinj (grid0.coords t) y) (tok14 t y)
/-- A block spans one prompt. -/
theorem zer15 (t : Fin cfg0.N) (y : (win0_15.xblock (grid0.coords t)).Idx) : (y 0).val = 0 := by
  have h := (y 0).isLt
  have e : win0_15.xsize (grid0.coords t) 0 = 1 := by rw [xs0_15 t]; rfl
  exact Nat.lt_one_iff.1 (Nat.lt_of_lt_of_eq h e)
/-- The head's outputs. -/
theorem arr15 (c : Dev nD) : (dats m 0 c).arrAt 15 cfg0.N = gOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 15 _ (by decide +kernel) fun t hf y => ?_
  blk_simp
  have hy : (win0_15.blk t).view.emb y = ix4 (bt t) (win0_15.xinj (grid0.coords t) y 1) (win0_15.xinj (grid0.coords t) y 2) ⟨t.val % 15 * 256 + (y 3).val, tok15 t y⟩ := by
    have hz := zer15 t y
    blk_ext [e0_15 t]
  rw [hy, after0_15]
  exact wOut_eq m c t zh (win0_15.xinj (grid0.coords t) y) (tok15 t y)
/-- A block spans one prompt. -/
theorem zer16 (t : Fin cfg0.N) (y : (win0_16.xblock (grid0.coords t)).Idx) : (y 0).val = 0 := by
  have h := (y 0).isLt
  have e : win0_16.xsize (grid0.coords t) 0 = 1 := by rw [xs0_16 t]; rfl
  exact Nat.lt_one_iff.1 (Nat.lt_of_lt_of_eq h e)
/-- The products of the two branches' outputs. -/
theorem arr16 (c : Dev nD) : (dats m 0 c).arrAt 16 cfg0.N = gCu (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 16 _ (by decide +kernel) fun t hf y => ?_
  blk_simp
  have hy : (win0_16.blk t).view.emb y = ix3 (bt t) (win0_16.xinj (grid0.coords t) y 1) ⟨t.val % 15 * 256 + (y 2).val, tok16 t y⟩ := by
    have hz := zer16 t y
    blk_ext [e0_16 t]
  rw [hy, after0_16]
  exact wCu_eq m c t zh (win0_16.xinj (grid0.coords t) y) (tok16 t y)
/-- A block spans one prompt. -/
theorem zer17 (t : Fin cfg0.N) (y : (win0_17.xblock (grid0.coords t)).Idx) : (y 0).val = 0 := by
  have h := (y 0).isLt
  have e : win0_17.xsize (grid0.coords t) 0 = 1 := by rw [xs0_17 t]; rfl
  exact Nat.lt_one_iff.1 (Nat.lt_of_lt_of_eq h e)
/-- The squares of the second branch's outputs. -/
theorem arr17 (c : Dev nD) : (dats m 0 c).arrAt 17 cfg0.N = gUu (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 17 _ (by decide +kernel) fun t hf y => ?_
  blk_simp
  have hy : (win0_17.blk t).view.emb y = ix3 (bt t) (win0_17.xinj (grid0.coords t) y 1) ⟨t.val % 15 * 256 + (y 2).val, tok17 t y⟩ := by
    have hz := zer17 t y
    blk_ext [e0_17 t]
  rw [hy, after0_17]
  exact wUu_eq m c t zh (win0_17.xinj (grid0.coords t) y) (tok17 t y)

end Cert.KernelIdeal.Hand

end
-- ==== Proof.Value.Reference.lean ====
module

public import proofs.«01_k».proof.Proof.Gen.ReferenceIdeal.Frame
public import proofs.«01_k».proof.Proof.Value.Spec

@[expose] public section

set_option maxRecDepth 16384

noncomputable section

/-! # The reference's stored values, read at an index -/

namespace Cert.ReferenceIdeal.Hand

open Idealize.ShloMosaic Cert.ReferenceIdeal Cert.ReferenceIdeal.Gen Cert.Rows
open scoped BigOperators

/-! ## The stored values over any intermediate arrays -/

/-- A scale from a largest magnitude, over groups. -/
theorem scale_groups (M : FVec Ideal S5x2x3600x40 .f32) (b : Fin 5) (br : Fin 2) (n : Fin 3600) (g : Fin 40) :
    select (cmpf .oeq M (broadcast S5x2x3600x40 (Scalar.ofBits .f32 0x00000000#32)))
        (broadcast S5x2x3600x40 (Scalar.ofBits .f32 0x3F800000#32))
        (divf M (broadcast S5x2x3600x40 (Scalar.ofBits .f32 0x42FE0000#32))) (ix4 b br n g)
      = scaleOf 1123942400#32 (M (ix4 b br n g)) := by
  pointwise
  rfl

/-- A scale from a largest magnitude, over tokens. -/
theorem scale_tokens (M : FVec Ideal S5x2x3600 .f32) (b : Fin 5) (br : Fin 2) (n : Fin 3600) :
    k0_pay13 (F := Ideal) (cmpf .oeq M (broadcast S5x2x3600 (Scalar.ofBits .f32 0x00000000#32)))
        (divf M (broadcast S5x2x3600 (Scalar.ofBits .f32 0x43E00000#32))) (ix3 b br n)
      = scaleOf 1138753536#32 (M (ix3 b br n)) := by
  pointwise [k0_pay13]
  rfl

/-- The rounded, clipped residual over a scale, by groups. -/
theorem quant_groups (M : FVec Ideal S5x2x3600x40x128 .f32) (N : FVec Ideal S5x2x3600x40 .f32) (b : Fin 5) (br : Fin 2)
    (n : Fin 3600) (g : Fin 40) (l : Fin 128) :
    minimumf (broadcast S5x2x3600x40x128 (Scalar.ofBits (F := Ideal) .f32 0x42FE0000#32))
        (maximumf (broadcast S5x2x3600x40x128 (Scalar.ofBits (F := Ideal) .f32 0xC2FE0000#32))
          (roundeven (divf M (broadcastTo S5x2x3600x40x128
            (shapeCast S5x2x3600x40x1 N shapeCasts_S5x2x3600x40_S5x2x3600x40x1)
            broadcasts_S5x2x3600x40x1_S5x2x3600x40x128)))) (ix5 b br n g l)
      = quant (M (ix5 b br n g l)) (N (ix4 b br n g)) := by
  pointwise
  rfl

/-- The int8 codes, by channels. -/
theorem codes_channels (M : FVec Ideal S5x2x3600x40x128 .f32) (b : Fin 5) (br : Fin 2) (n : Fin 3600) (c : Fin 5120) :
    k0_pay7 M (ix4 b br n c)
      = FloatOps.fptosi (F := Ideal) (φ := .f32) 8 (M (ix5 b br n (grp c) ⟨c.val % 128, Nat.mod_lt _ (by norm_num)⟩)) := by
  pointwise [k0_pay7]
  rfl

/-- The scales, transposed for the store. -/
theorem scales_transposed (M : FVec Ideal S5x2x3600x40 .f32) (b : Fin 5) (br : Fin 2) (g : Fin 40) (n : Fin 3600) :
    k0_pay8 M (ix4 b br g n) = M (ix4 b br n g) := by
  pointwise [k0_pay8]

/-- The fp8 codes. -/
theorem codes8 (v68 : FVec Ideal S5x2x3600x5120 .f32) (v72) (v74 : FVec Ideal S5x2x3600 .f32) (b : Fin 5) (br : Fin 2)
    (n : Fin 3600) (c : Fin 5120) :
    k0_pay14 v68 v72 v74 (ix4 b br n c) = quant8 (v68 (ix4 b br n c)) (k0_pay13 v72 v74 (ix3 b br n)) := by
  pointwise [k0_pay14]
  rfl

/-- The head's product. -/
theorem head_product (v68 : FVec Ideal S5x2x3600x5120 .f32) (v72) (v74 : FVec Ideal S5x2x3600 .f32)
    (v88 : Vec Ideal S5120x64 .fp8e4m3) (v94 v99 : Vec Ideal S1x64 .f32) (b : Fin 5) (br : Fin 2) (n : Fin 3600) (j : Fin 64) :
    k0_pay15 v68 v72 v74 v88 v94 v99 (ix4 b br n j)
      = (∑ c : Fin 5120, k0_pay14 v68 v72 v74 (ix4 b br n c) * v88 (ix2 c j)) * k0_pay13 v72 v74 (ix3 b br n) * v94 (ix2 0 j)
        + v99 (ix2 0 j) := by
  pointwise [k0_pay15]

/-- The head's outputs, transposed for the store. -/
theorem head_transposed (v68 : FVec Ideal S5x2x3600x5120 .f32) (v72) (v74 : FVec Ideal S5x2x3600 .f32)
    (v88 : Vec Ideal S5120x64 .fp8e4m3) (v94 v99 : Vec Ideal S1x64 .f32) (b : Fin 5) (br : Fin 2) (j : Fin 64) (n : Fin 3600) :
    k0_pay16 v68 v72 v74 v88 v94 v99 (ix4 b br j n) = k0_pay15 v68 v72 v74 v88 v94 v99 (ix4 b br n j) := by
  pointwise [k0_pay16]

/-- The products of the two branches. -/
theorem products (v68 : FVec Ideal S5x2x3600x5120 .f32) (v72) (v74 : FVec Ideal S5x2x3600 .f32)
    (v88 : Vec Ideal S5120x64 .fp8e4m3) (v94 v99 : Vec Ideal S1x64 .f32) (b : Fin 5) (n : Fin 3600) (j : Fin 64) :
    k0_pay17 v68 v72 v74 v88 v94 v99 (ix3 b n j)
      = k0_pay15 v68 v72 v74 v88 v94 v99 (ix4 b 0 n j) * k0_pay15 v68 v72 v74 v88 v94 v99 (ix4 b 1 n j) := by
  pointwise [k0_pay17]

/-- The sum of the products. -/
theorem sum_products (M : FVec Ideal S5x3600x64 .f32) (b : Fin 5) (n : Fin 3600) :
    k0_pay1 M (ix3 b 0 n) = ∑ j, M (ix3 b n j) := by
  pointwise [k0_pay1]

/-- The sum of the second branch's squares. -/
theorem sum_squares (M : FVec Ideal S5x2x3600x64 .f32) (b : Fin 5) (n : Fin 3600) :
    k0_pay2 M (ix3 b 0 n) = ∑ j, M (ix4 b 1 n j) * M (ix4 b 1 n j) := by
  pointwise [k0_pay2]

/-! ## The stored values as row functions -/

section
variable (P : Fin 5 → Params) (x : Fin 5 → Fin 3600 → Fin 64 → EReal) (h : Fin 5 → Fin 2 → Fin 3600 → Fin 5120 → EReal)

section Residual
variable (v0 : Vec Ideal S5x3600x64 .fp8e4m3) (v2 : Vec Ideal S64x5120 .fp8e4m3) (v4 : Vec Ideal S1x1 .f32)
  (v8 v12 : Vec Ideal S1x5120 .f32) (v17 : Vec Ideal S5x2x3600x5120 .bf16)
  (h0 : ∀ b n k, v0 (ix3 b n k) = x b n k) (h2 : ∀ b k c, v2 (ix2 k c) = (P b).we k c) (h4 : ∀ b, v4 (ix2 0 0) = (P b).s)
  (h8 : ∀ b c, v8 (ix2 0 c) = (P b).se c) (h12 : ∀ b c, v12 (ix2 0 c) = (P b).be c)
  (h17 : ∀ b br n c, v17 (ix4 b br n c) = h b br n c)
include h0 h2 h4 h8 h12 h17

/-- The residual, by groups of 128 channels. -/
theorem pay4_apply (b : Fin 5) (br : Fin 2) (n : Fin 3600) (g : Fin 40) (l : Fin 128) :
    k0_pay4 v0 v2 v4 v8 v12 v17 (ix5 b br n g l) = resid (P b) (x b n) (h b br n) (chan g l) := by
  pointwise [k0_pay4, k0_pay3, h0, h2 b, h4 b, h8 b, h12 b, h17]
  rfl

/-- A group's largest magnitude. -/
theorem gmax_apply (b : Fin 5) (br : Fin 2) (n : Fin 3600) (g : Fin 40) :
    multiReduction .maximumf [4] S5x2x3600x40 (absf (k0_pay4 v0 v2 v4 v8 v12 v17)) 0xFF800000#32
      reduces_S5x2x3600x40x128_S5x2x3600x40 (.inl rfl) rfl (ix4 b br n g) = gmax (P b) (x b n) (h b br n) g := by
  pointwise
  refine Finset.fold_congr fun l _ => ?_
  rw [pay4_apply P x h v0 v2 v4 v8 v12 v17 h0 h2 h4 h8 h12 h17]
  rfl

/-- A group's scale. -/
theorem pay5_apply (b : Fin 5) (br : Fin 2) (n : Fin 3600) (g : Fin 40) :
    k0_pay5 v0 v2 v4 v8 v12 v17 (ix4 b br n g) = gscale (P b) (x b n) (h b br n) g := by
  rw [gscale, ← gmax_apply P x h v0 v2 v4 v8 v12 v17 h0 h2 h4 h8 h12 h17]
  exact scale_groups _ b br n g

/-- The residual codes. -/
theorem pay7_apply (b : Fin 5) (br : Fin 2) (n : Fin 3600) (c : Fin 5120) :
    k0_pay7 (k0_pay6 v0 v2 v4 v8 v12 v17) (ix4 b br n c) = rcode (P b) (x b n) (h b br n) c := by
  have := fun g l => quant_groups (k0_pay4 v0 v2 v4 v8 v12 v17) (k0_pay5 v0 v2 v4 v8 v12 v17) b br n g l
  rw [codes_channels]
  refine (congrArg _ (this _ _)).trans ?_
  rw [pay4_apply P x h v0 v2 v4 v8 v12 v17 h0 h2 h4 h8 h12 h17,
    pay5_apply P x h v0 v2 v4 v8 v12 v17 h0 h2 h4 h8 h12 h17]
  have hc : chan (grp c) ⟨c.val % 128, Nat.mod_lt _ (by norm_num)⟩ = c := Fin.ext (Nat.div_add_mod' _ _)
  rw [hc, rcode]
end Residual

section Norm
variable (v18 : FVec Ideal S5x2x3600x5120 .f32) (v59 v65 : Vec Ideal S5x5120 .f32)
  (h18 : ∀ b br n c, v18 (ix4 b br n c) = h b br n c) (h59 : ∀ b c, v59 (ix2 b c) = (P b).hg c)
  (h65 : ∀ b c, v65 (ix2 b c) = (P b).hs c)
include h18 h59 h65

/-- The normalised, modulated hidden state. -/
theorem pay9_apply (b : Fin 5) (br : Fin 2) (n : Fin 3600) (c : Fin 5120) :
    k0_pay9 v18 v59 v65 (ix4 b br n c) = hm (P b) (h b br n) c := by
  pointwise [k0_pay9, h18, h59, h65]
  rfl

/-- Its largest magnitude. -/
theorem pay10_apply (b : Fin 5) (br : Fin 2) (n : Fin 3600) :
    k0_pay10 v18 v59 v65 (ix3 b br n) = hmax (P b) (h b br n) := by
  pointwise [k0_pay10]
  refine Finset.fold_congr fun c _ => ?_
  rw [pay9_apply P h v18 v59 v65 h18 h59 h65]
  rfl

/-- Its scale. -/
theorem pay13_apply (b : Fin 5) (br : Fin 2) (n : Fin 3600) :
    k0_pay13 (k0_pay11 v18 v59 v65) (k0_pay12 v18 v59 v65) (ix3 b br n) = hscale (P b) (h b br n) := by
  rw [hscale, ← pay10_apply P h v18 v59 v65 h18 h59 h65]
  exact scale_tokens _ b br n

/-- Its fp8 codes. -/
theorem pay14_apply (b : Fin 5) (br : Fin 2) (n : Fin 3600) (c : Fin 5120) :
    k0_pay14 (k0_pay9 v18 v59 v65) (k0_pay11 v18 v59 v65) (k0_pay12 v18 v59 v65) (ix4 b br n c)
      = hcode (P b) (h b br n) c := by
  rw [codes8, pay9_apply P h v18 v59 v65 h18 h59 h65, pay13_apply P h v18 v59 v65 h18 h59 h65, hcode]

variable (v88 : Vec Ideal S5120x64 .fp8e4m3) (v94 v99 : Vec Ideal S1x64 .f32)
  (h88 : ∀ b c j, v88 (ix2 c j) = (P b).wh j c) (h94 : ∀ b j, v94 (ix2 0 j) = (P b).sh j)
  (h99 : ∀ b j, v99 (ix2 0 j) = (P b).bh j)
include h88 h94 h99

/-- The head's outputs. -/
theorem pay15_apply (b : Fin 5) (br : Fin 2) (n : Fin 3600) (j : Fin 64) :
    k0_pay15 (k0_pay9 v18 v59 v65) (k0_pay11 v18 v59 v65) (k0_pay12 v18 v59 v65) v88 v94 v99 (ix4 b br n j)
      = out (P b) (h b br n) j := by
  rw [head_product, pay13_apply P h v18 v59 v65 h18 h59 h65, h94 b, h99 b, out]
  have : ∀ c, k0_pay14 (k0_pay9 v18 v59 v65) (k0_pay11 v18 v59 v65) (k0_pay12 v18 v59 v65) (ix4 b br n c) * v88 (ix2 c j)
      = hcode (P b) (h b br n) c * (P b).wh j c := fun c => by
    rw [pay14_apply P h v18 v59 v65 h18 h59 h65, h88 b]
  rw [Finset.sum_congr rfl fun c _ => this c]

/-- The products of the two branches' outputs. -/
theorem pay1_apply (b : Fin 5) (n : Fin 3600) :
    k0_pay1 (k0_pay17 (k0_pay9 v18 v59 v65) (k0_pay11 v18 v59 v65) (k0_pay12 v18 v59 v65) v88 v94 v99) (ix3 b 0 n)
      = cross (P b) (h b 0 n) (h b 1 n) := by
  rw [sum_products, cross]
  refine Finset.sum_congr rfl fun j _ => ?_
  rw [products, pay15_apply P h v18 v59 v65 h18 h59 h65 v88 v94 v99 h88 h94 h99,
    pay15_apply P h v18 v59 v65 h18 h59 h65 v88 v94 v99 h88 h94 h99]

/-- The squares of the second branch's outputs. -/
theorem pay2_apply (b : Fin 5) (n : Fin 3600) :
    k0_pay2 (k0_pay15 (k0_pay9 v18 v59 v65) (k0_pay11 v18 v59 v65) (k0_pay12 v18 v59 v65) v88 v94 v99) (ix3 b 0 n)
      = cross (P b) (h b 1 n) (h b 1 n) := by
  rw [sum_squares, cross]
  refine Finset.sum_congr rfl fun j _ => ?_
  rw [pay15_apply P h v18 v59 v65 h18 h59 h65 v88 v94 v99 h88 h94 h99]
end Norm
end

end Cert.ReferenceIdeal.Hand

end
-- ==== Proof.Value.RefArrays.lean ====
module

public import proofs.«01_k».proof.Proof.Value.Reference
public import Idealize.ShloMosaic.Lib.Pipeline.ValueKit.Point

@[expose] public section

set_option maxRecDepth 16384

noncomputable section

/-! # The reference's result arrays

The one block of each operand is the whole array, so each result is the stored value over the argument arrays. -/

namespace Cert.ReferenceIdeal.Hand

open Idealize.ShloMosaic Idealize.ShloMosaic.TcCoe Idealize.SL.Sem Cert.ReferenceIdeal Cert.ReferenceIdeal.Gen Cert.Rows
open scoped BigOperators

variable (m : (ℓ : Loc nD τ sig) → Buf (Elt Ideal) ℓ)

/-! ## The blocks read, at an index -/

theorem e0_0 : ∀ t : Fin cfg0.N, win0_0.index t = ![0, 0] := (by decide +kernel : ∀ t : Fin grid0.N, _)
theorem e0_1 : ∀ t : Fin cfg0.N, win0_1.index t = ![0, 0, 0] := (by decide +kernel : ∀ t : Fin grid0.N, _)
theorem e0_2 : ∀ t : Fin cfg0.N, win0_2.index t = ![0, 0] := (by decide +kernel : ∀ t : Fin grid0.N, _)
theorem e0_3 : ∀ t : Fin cfg0.N, win0_3.index t = ![0, 0] := (by decide +kernel : ∀ t : Fin grid0.N, _)
theorem e0_4 : ∀ t : Fin cfg0.N, win0_4.index t = ![0, 0] := (by decide +kernel : ∀ t : Fin grid0.N, _)
theorem e0_5 : ∀ t : Fin cfg0.N, win0_5.index t = ![0, 0, 0, 0] := (by decide +kernel : ∀ t : Fin grid0.N, _)
theorem e0_6 : ∀ t : Fin cfg0.N, win0_6.index t = ![0, 0] := (by decide +kernel : ∀ t : Fin grid0.N, _)
theorem e0_7 : ∀ t : Fin cfg0.N, win0_7.index t = ![0, 0] := (by decide +kernel : ∀ t : Fin grid0.N, _)
theorem e0_8 : ∀ t : Fin cfg0.N, win0_8.index t = ![0, 0] := (by decide +kernel : ∀ t : Fin grid0.N, _)
theorem e0_9 : ∀ t : Fin cfg0.N, win0_9.index t = ![0, 0] := (by decide +kernel : ∀ t : Fin grid0.N, _)
theorem e0_10 : ∀ t : Fin cfg0.N, win0_10.index t = ![0, 0] := (by decide +kernel : ∀ t : Fin grid0.N, _)
theorem e0_11 : ∀ t : Fin cfg0.N, win0_11.index t = ![0, 0, 0, 0] := (by decide +kernel : ∀ t : Fin grid0.N, _)
theorem e0_12 : ∀ t : Fin cfg0.N, win0_12.index t = ![0, 0, 0, 0] := (by decide +kernel : ∀ t : Fin grid0.N, _)
theorem e0_13 : ∀ t : Fin cfg0.N, win0_13.index t = ![0, 0, 0, 0] := (by decide +kernel : ∀ t : Fin grid0.N, _)
theorem e0_14 : ∀ t : Fin cfg0.N, win0_14.index t = ![0, 0, 0] := (by decide +kernel : ∀ t : Fin grid0.N, _)
theorem e0_15 : ∀ t : Fin cfg0.N, win0_15.index t = ![0, 0, 0, 0] := (by decide +kernel : ∀ t : Fin grid0.N, _)
theorem e0_16 : ∀ t : Fin cfg0.N, win0_16.index t = ![0, 0, 0] := (by decide +kernel : ∀ t : Fin grid0.N, _)
theorem e0_17 : ∀ t : Fin cfg0.N, win0_17.index t = ![0, 0, 0] := (by decide +kernel : ∀ t : Fin grid0.N, _)

variable (c : Dev nD) (t : Fin cfg0.N)

theorem in0  : iblk m c 0 t (ix2 0 0) = m ((c : Thread nD τ).loc main_arg0) (ix0) := by
  blk_ext! [iblk, V, e0_0 t]
theorem in1 (b : Fin 5) (n : Fin 3600) (k : Fin 64) : iblk m c 1 t (ix3 b n k) = m ((c : Thread nD τ).loc main_arg1) (ix3 b n k) := by
  blk_ext! [iblk, V, e0_1 t]
theorem in2 (k : Fin 64) (ch : Fin 5120) : iblk m c 2 t (ix2 k ch) = m ((c : Thread nD τ).loc main_arg2) (ix2 k ch) := by
  blk_ext! [iblk, V, e0_2 t]
theorem in3 (ch : Fin 5120) : iblk m c 3 t (ix2 0 ch) = m ((c : Thread nD τ).loc main_arg3) (ix1 ch) := by
  blk_ext! [iblk, V, e0_3 t]
theorem in4 (ch : Fin 5120) : iblk m c 4 t (ix2 0 ch) = m ((c : Thread nD τ).loc main_arg4) (ix1 ch) := by
  blk_ext! [iblk, V, e0_4 t]
theorem in5 (b : Fin 5) (br : Fin 2) (n : Fin 3600) (ch : Fin 5120) : iblk m c 5 t (ix4 b br n ch) = m ((c : Thread nD τ).loc main_arg5) (ix4 b br n ch) := by
  blk_ext! [iblk, V, e0_5 t]
theorem in6 (b : Fin 5) (ch : Fin 5120) : iblk m c 6 t (ix2 b ch) = m ((c : Thread nD τ).loc main_arg6) (ix2 b ch) := by
  blk_ext! [iblk, V, e0_6 t]
theorem in7 (b : Fin 5) (ch : Fin 5120) : iblk m c 7 t (ix2 b ch) = m ((c : Thread nD τ).loc main_arg7) (ix2 b ch) := by
  blk_ext! [iblk, V, e0_7 t]
theorem in8 (ch : Fin 5120) (j : Fin 64) : iblk m c 8 t (ix2 ch j) = m ((c : Thread nD τ).loc main_arg8) (ix2 ch j) := by
  blk_ext! [iblk, V, e0_8 t]
theorem in9 (j : Fin 64) : iblk m c 9 t (ix2 0 j) = m ((c : Thread nD τ).loc main_arg9) (ix1 j) := by
  blk_ext! [iblk, V, e0_9 t]
theorem in10 (j : Fin 64) : iblk m c 10 t (ix2 0 j) = m ((c : Thread nD τ).loc main_arg10) (ix1 j) := by
  blk_ext! [iblk, V, e0_10 t]

/-! ## The arrays -/

/-- The reference's arguments, as the weights prompt `b` sees, -/
abbrev PM (b : Fin 5) : Params :=
  PA (m ((c : Thread nD τ).loc main_arg0)) (m ((c : Thread nD τ).loc main_arg2)) (m ((c : Thread nD τ).loc main_arg3))
    (m ((c : Thread nD τ).loc main_arg4)) (m ((c : Thread nD τ).loc main_arg6)) (m ((c : Thread nD τ).loc main_arg7))
    (m ((c : Thread nD τ).loc main_arg8)) (m ((c : Thread nD τ).loc main_arg9)) (m ((c : Thread nD τ).loc main_arg10)) b
/-- a token's patch codes, -/
abbrev XM : Fin 5 → Fin 3600 → Fin 64 → EReal := xa (m ((c : Thread nD τ).loc main_arg1))
/-- and its hidden state. -/
abbrev HM : Fin 5 → Fin 2 → Fin 3600 → Fin 5120 → EReal := ha (m ((c : Thread nD τ).loc main_arg5))

theorem hidden_apply (b : Fin 5) (br : Fin 2) (n : Fin 3600) (ch : Fin 5120) :
    k0_pay3 (F := Ideal) (iblk m c 5 t) (ix4 b br n ch) = HM m c b br n ch := by
  refine Eq.trans ?_ (in5 m c t b br n ch)
  pointwise [k0_pay3]

/-- The residual codes. -/
theorem arr11 : (dats m 0 c).arrAt 11 cfg0.N = gRc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t hf y => ?_
  blk_simp
  have hy : (win0_11.blk t).view.emb y = y := by blk_ext [e0_11 t]
  rw [hy, after0_11]
  unfold_out out0_11
  frame_out
  have h18 := hidden_apply m c t
  idx_vars y
  exact pay7_apply (PM m c) (XM m c) (HM m c) (iblk m c 1 t) (iblk m c 2 t) (iblk m c 0 t) (iblk m c 3 t) (iblk m c 4 t) (iblk m c 5 t) (in1 m c t) (fun _ => in2 m c t) (fun _ => in0 m c t) (fun _ => in3 m c t) (fun _ => in4 m c t) (in5 m c t) y0 y1 y2 y3

/-- The residual scales. -/
theorem arr12 : (dats m 0 c).arrAt 12 cfg0.N = gRs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t hf y => ?_
  blk_simp
  have hy : (win0_12.blk t).view.emb y = y := by blk_ext [e0_12 t]
  rw [hy, after0_12]
  unfold_out out0_12
  frame_out
  have h18 := hidden_apply m c t
  idx_vars y
  exact (scales_transposed _ y0 y1 y2 y3).trans (pay5_apply (PM m c) (XM m c) (HM m c) (iblk m c 1 t) (iblk m c 2 t) (iblk m c 0 t) (iblk m c 3 t) (iblk m c 4 t) (iblk m c 5 t) (in1 m c t) (fun _ => in2 m c t) (fun _ => in0 m c t) (fun _ => in3 m c t) (fun _ => in4 m c t) (in5 m c t) y0 y1 y3 y2)

/-- The head's activation codes. -/
theorem arr13 : (dats m 0 c).arrAt 13 cfg0.N = gHc (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 13 _ (by decide +kernel) fun t hf y => ?_
  blk_simp
  have hy : (win0_13.blk t).view.emb y = y := by blk_ext [e0_13 t]
  rw [hy, after0_13]
  unfold_out out0_13
  frame_out
  have h18 := hidden_apply m c t
  idx_vars y
  exact pay14_apply (PM m c) (HM m c) (k0_pay3 (iblk m c 5 t)) (iblk m c 7 t) (iblk m c 6 t) h18 (in7 m c t) (in6 m c t) y0 y1 y2 y3

/-- The head's activation scales. -/
theorem arr14 : (dats m 0 c).arrAt 14 cfg0.N = gHsc (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 14 _ (by decide +kernel) fun t hf y => ?_
  blk_simp
  have hy : (win0_14.blk t).view.emb y = y := by blk_ext [e0_14 t]
  rw [hy, after0_14]
  unfold_out out0_14
  frame_out
  have h18 := hidden_apply m c t
  idx_vars y
  exact pay13_apply (PM m c) (HM m c) (k0_pay3 (iblk m c 5 t)) (iblk m c 7 t) (iblk m c 6 t) h18 (in7 m c t) (in6 m c t) y0 y1 y2

/-- The head's outputs. -/
theorem arr15 : (dats m 0 c).arrAt 15 cfg0.N = gOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 15 _ (by decide +kernel) fun t hf y => ?_
  blk_simp
  have hy : (win0_15.blk t).view.emb y = y := by blk_ext [e0_15 t]
  rw [hy, after0_15]
  unfold_out out0_15
  frame_out
  have h18 := hidden_apply m c t
  idx_vars y
  exact (head_transposed _ _ _ _ _ _ y0 y1 y2 y3).trans (pay15_apply (PM m c) (HM m c) (k0_pay3 (iblk m c 5 t)) (iblk m c 7 t) (iblk m c 6 t) h18 (in7 m c t) (in6 m c t) (iblk m c 8 t) (iblk m c 9 t) (iblk m c 10 t) (fun _ => in8 m c t) (fun _ => in9 m c t) (fun _ => in10 m c t) y0 y1 y3 y2)

/-- The products of the two branches' outputs. -/
theorem arr16 : (dats m 0 c).arrAt 16 cfg0.N = gCu (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 16 _ (by decide +kernel) fun t hf y => ?_
  blk_simp
  have hy : (win0_16.blk t).view.emb y = y := by blk_ext [e0_16 t]
  rw [hy, after0_16]
  unfold_out out0_16
  frame_out
  have h18 := hidden_apply m c t
  idx_vars y
  obtain rfl : y1 = 0 := Subsingleton.elim _ _
  exact pay1_apply (PM m c) (HM m c) (k0_pay3 (iblk m c 5 t)) (iblk m c 7 t) (iblk m c 6 t) h18 (in7 m c t) (in6 m c t) (iblk m c 8 t) (iblk m c 9 t) (iblk m c 10 t) (fun _ => in8 m c t) (fun _ => in9 m c t) (fun _ => in10 m c t) y0 y2

/-- The squares of the second branch's outputs. -/
theorem arr17 : (dats m 0 c).arrAt 17 cfg0.N = gUu (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 17 _ (by decide +kernel) fun t hf y => ?_
  blk_simp
  have hy : (win0_17.blk t).view.emb y = y := by blk_ext [e0_17 t]
  rw [hy, after0_17]
  unfold_out out0_17
  frame_out
  have h18 := hidden_apply m c t
  idx_vars y
  obtain rfl : y1 = 0 := Subsingleton.elim _ _
  exact pay2_apply (PM m c) (HM m c) (k0_pay3 (iblk m c 5 t)) (iblk m c 7 t) (iblk m c 6 t) h18 (in7 m c t) (in6 m c t) (iblk m c 8 t) (iblk m c 9 t) (iblk m c 10 t) (fun _ => in8 m c t) (fun _ => in9 m c t) (fun _ => in10 m c t) y0 y2

end Cert.ReferenceIdeal.Hand

end
-- ==== Proof.Calls.Patch.lean ====
module

public import proofs.«01_k».proof.Proof.Gen.PatchKernel.Frame
public import proofs.«01_k».proof.Proof.Gen.PatchKernelIdeal.Frame
public import proofs.«01_k».proof.Proof.Gen.PatchKernelIdeal.Value
public import proofs.«01_k».proof.Proof.Gen.PatchReferenceIdeal.Frame
public import proofs.«01_k».proof.Proof.Gen.PatchReferenceIdeal.Value
public import proofs.«01_k».proof.Proof.Value.Rows
public import proofs.«01_k».proof.Defs
public import Idealize.ShloMosaic.Lib.Pipeline.ValueKit.Point
public import Idealize.ShloMosaic.Lib.Pipeline.ValueKit.Acc
public import Idealize.ShloMosaic.Adequacy
public import Idealize.ShloMosaic.Init

@[expose] public section

set_option maxRecDepth 16384

noncomputable section

/-! # The patch codes

One entry of the call's result is the latent under it over the patch scale, clipped to the fp8 codes. -/

namespace Cert.Calls

open Idealize.ShloMosaic Idealize.ShloMosaic.TcCoe Idealize.SL.Sem Cert.Rows Cert.PatchKernelIdeal

/-- The codes of the latents, width before height. -/
def gPatch (a0 : Vec Ideal S5x16x1x90x160 .f32) (a1 : Vec Ideal S_ .f32) : Vec Ideal S5x16x160x90 .fp8e4m3 :=
  fun y => quant8 (a0 (ix5 (y 0) (y 1) 0 (y 3) (y 2))) (a1 ix0)

end Cert.Calls

namespace Cert.PatchKernelIdeal.Hand

open Idealize.ShloMosaic Idealize.ShloMosaic.TcCoe Idealize.SL.Sem Cert.PatchKernelIdeal Cert.PatchKernelIdeal.Gen Cert.Rows Cert.Calls

variable (m : (ℓ : Loc nD τ sig) → Buf (Elt Ideal) ℓ)

theorem e0 : ∀ t : Fin cfg0.N, win0_0.index t = ![0, 0] := (by decide +kernel : ∀ t : Fin grid0.N, _)
theorem e1 : ∀ t : Fin cfg0.N, win0_1.index t = ![t.val, 0, 0, 0] := (by decide +kernel : ∀ t : Fin grid0.N, _)
theorem e2 : ∀ t : Fin cfg0.N, win0_2.index t = ![t.val, 0, 0, 0] := (by decide +kernel : ∀ t : Fin grid0.N, _)

/-- The kernel's array of codes. -/
theorem arr2 (c : Dev nD) : (dats m 0 c).arrAt 2 cfg0.N
    = gPatch (m ((c.tc : Thread _ _).loc Cert.PatchKernelIdeal.main_arg0)) (m ((c.tc : Thread _ _).loc Cert.PatchKernelIdeal.main_arg1)) := by
  refine (dats m 0 c).arrAt_eq_of_covers 2 _ (by decide +kernel) fun t hf y => ?_
  blk_simp
  rw [after0_2]
  unfold outsAt0
  frame_out
  pointwise [k0_pay1, gPatch, quant8]
  blk_point [iblk, V, e0 t, e1 t, e2 t]

end Cert.PatchKernelIdeal.Hand

namespace Cert.PatchReferenceIdeal.Hand

open Idealize.ShloMosaic Idealize.ShloMosaic.TcCoe Idealize.SL.Sem Cert.PatchReferenceIdeal Cert.PatchReferenceIdeal.Gen Cert.Rows Cert.Calls

variable (m : (ℓ : Loc nD τ sig) → Buf (Elt Ideal) ℓ)

theorem e0 : ∀ t : Fin cfg0.N, win0_0.index t = ![0, 0, 0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0, 0, 0] := (by decide +kernel : ∀ t : Fin grid0.N, _)

/-- The reference's array of codes. -/
theorem arr2 (c : Dev nD) : (dats m 0 c).arrAt 2 cfg0.N
    = gPatch (m ((c.tc : Thread _ _).loc Cert.PatchReferenceIdeal.main_arg0)) (m ((c.tc : Thread _ _).loc Cert.PatchReferenceIdeal.main_arg1)) := by
  refine (dats m 0 c).arrAt_eq_of_covers 2 _ (by decide +kernel) fun t hf y => ?_
  blk_simp
  rw [after0_2]
  frame_out
  pointwise [k0_pay1, gPatch, quant8]
  blk_point [iblk, V, e0 t, e1 t, e2 t]

end Cert.PatchReferenceIdeal.Hand

namespace Cert.Proof

open Idealize.ShloMosaic Idealize.ShloMosaic.TcCoe Idealize.SL.Sem

/-- From equal arguments the patch quantiser and its reference end with equal codes. -/
theorem algebraicPatch : Cert.algebraic_PatchKernelIdeal_PatchReferenceIdeal (hPatchKernelIdeal := Cert.PatchKernelIdeal.Gen.facts)
    (hPatchReferenceIdeal := Cert.PatchReferenceIdeal.Gen.facts) := by
  intro m g m' g' _ hargs
  refine ⟨fun c => Cert.Calls.gPatch (m ((c.tc : Thread _ _).loc Cert.PatchKernelIdeal.main_arg0)) (m ((c.tc : Thread _ _).loc Cert.PatchKernelIdeal.main_arg1)), ?_, ?_⟩
  · refine (θ_run (Cert.PatchKernelIdeal.defs (F := Ideal)) _ _).mono (fun r h c => ?_) (Cert.PatchKernelIdeal.Value.run_blocks m g)
    exact ⟨(h c).1.trans (Cert.PatchKernelIdeal.Hand.arr2 m c), (h c).2⟩
  · refine (θ_run (Cert.PatchReferenceIdeal.defs (F := Ideal)) _ _).mono (fun r h c => ?_) (Cert.PatchReferenceIdeal.Value.run_blocks m' g')
    obtain ⟨e0, e1⟩ := hargs c
    refine ⟨(h c).1.trans ((Cert.PatchReferenceIdeal.Hand.arr2 m' c).trans ?_), (h c).2⟩
    rw [e0, e1]

end Cert.Proof

end
-- ==== Proof.Calls.SolverArr.lean ====
module

public import proofs.«01_k».proof.Proof.Gen.SolverKernel.Frame
public import proofs.«01_k».proof.Proof.Gen.SolverKernelIdeal.Frame
public import proofs.«01_k».proof.Proof.Gen.SolverKernelIdeal.Value
public import proofs.«01_k».proof.Proof.Gen.SolverReferenceIdeal.Frame
public import proofs.«01_k».proof.Proof.Gen.SolverReferenceIdeal.Value
public import proofs.«01_k».proof.Proof.Value.Rows
public import proofs.«01_k».proof.Defs
public import Idealize.ShloMosaic.Lib.Pipeline.ValueKit.Point
public import Idealize.ShloMosaic.Lib.Pipeline.ValueKit.Acc
public import Idealize.ShloMosaic.Adequacy
public import Idealize.ShloMosaic.Init

@[expose] public section

set_option maxRecDepth 16384

noncomputable section

/-! # The solver step

One entry of the next latents is the three latents under it weighed by the request's coefficients; one entry of the next
codes is that over the patch scale, clipped to the fp8 codes. -/

namespace Cert.Calls

open Idealize.ShloMosaic Idealize.ShloMosaic.TcCoe Idealize.SL.Sem Cert.Rows Cert.SolverKernelIdeal

section
variable (a0 : Vec Ideal S5x16x1x90x160 .f32) (a1 : Vec Ideal S5x16x160x90 .f32) (a2 : Vec Ideal S5x16x1x90x160 .f32)
  (a3 : Vec Ideal S_ .f32) (a4 a5 a6 : Vec Ideal S5 .f32)

/-- The next latents, width before height. -/
def gNext : Vec Ideal S5x16x160x90 .f32 :=
  fun y => a4 (ix1 (y 0)) * a0 (ix5 (y 0) (y 1) 0 (y 3) (y 2)) + a5 (ix1 (y 0)) * a1 (ix4 (y 0) (y 1) (y 2) (y 3))
    + a6 (ix1 (y 0)) * a2 (ix5 (y 0) (y 1) 0 (y 3) (y 2))
/-- Their codes. -/
def gNextCodes : Vec Ideal S5x16x160x90 .fp8e4m3 := fun y => quant8 (gNext a0 a1 a2 a4 a5 a6 y) (a3 ix0)
end

end Cert.Calls

namespace Cert.SolverKernelIdeal.Hand

open Idealize.ShloMosaic Idealize.ShloMosaic.TcCoe Idealize.SL.Sem Cert.SolverKernelIdeal Cert.SolverKernelIdeal.Gen Cert.Rows Cert.Calls

variable (m : (ℓ : Loc nD τ sig) → Buf (Elt Ideal) ℓ)

theorem e0 : ∀ t : Fin cfg0.N, win0_0.index t = ![0, 0] := (by decide +kernel : ∀ t : Fin grid0.N, _)
theorem e1 : ∀ t : Fin cfg0.N, win0_1.index t = ![t.val, 0, 0, 0] := (by decide +kernel : ∀ t : Fin grid0.N, _)
theorem e2 : ∀ t : Fin cfg0.N, win0_2.index t = ![t.val, 0, 0, 0] := (by decide +kernel : ∀ t : Fin grid0.N, _)
theorem e3 : ∀ t : Fin cfg0.N, win0_3.index t = ![t.val, 0, 0, 0] := (by decide +kernel : ∀ t : Fin grid0.N, _)
theorem e4 : ∀ t : Fin cfg0.N, win0_4.index t = ![t.val, 0, 0, 0] := (by decide +kernel : ∀ t : Fin grid0.N, _)
theorem e5 : ∀ t : Fin cfg0.N, win0_5.index t = ![t.val, 0, 0, 0] := (by decide +kernel : ∀ t : Fin grid0.N, _)
theorem o1 : ∀ t : Fin cfg0.N, k0_off1 (grid0.coords t) = ![t.val, 0] := (by decide +kernel : ∀ t : Fin grid0.N, _)
theorem o2 : ∀ t : Fin cfg0.N, k0_off2 (grid0.coords t) = ![t.val, 1] := (by decide +kernel : ∀ t : Fin grid0.N, _)
theorem o3 : ∀ t : Fin cfg0.N, k0_off3 (grid0.coords t) = ![t.val, 2] := (by decide +kernel : ∀ t : Fin grid0.N, _)
theorem o4 : ∀ t : Fin cfg0.N, k0_off4 (grid0.coords t) = ![t.val, 3] := (by decide +kernel : ∀ t : Fin grid0.N, _)

/-- The coefficients' buffer at the call: their four columns side by side. -/
theorem v9_eq (c : Dev nD) : (V m c main_v9 : Vec Ideal S5x4 .f32) = concatenate S5x4 1 [⟨S5x1, broadcastInDim S5x1 ![0] bcast_S5_S5x1_0 (m ((c.tc : Thread _ _).loc main_arg4) : Vec Ideal S5 .f32)⟩,
        ⟨S5x1, broadcastInDim S5x1 ![0] bcast_S5_S5x1_0 (m ((c.tc : Thread _ _).loc main_arg5) : Vec Ideal S5 .f32)⟩,
        ⟨S5x1, broadcastInDim S5x1 ![0] bcast_S5_S5x1_0 (m ((c.tc : Thread _ _).loc main_arg6) : Vec Ideal S5 .f32)⟩,
        ⟨S5x1, broadcastInDim S5x1 ![0] bcast_S5_S5x1_0 (broadcastInDim S5 ![] bcast_S_S5 (m ((c.tc : Thread _ _).loc main_arg3) : Vec Ideal S_ .f32))⟩] concatenates_S5x1_S5x1_S5x1_S5x1_S5x4_d1 := by
  rfl

/-- The coefficients are read whole at every point. -/
theorem sm (c : Dev nD) (t : Fin cfg0.N) (z : S5x4.Idx) : iblk m c 0 t z = V m c main_v9 z := by
  have hz : (win0_0.blk t).view.emb z = z := by blk_ext [e0 t]
  exact congrArg (V m c main_v9) hz

/-- Column 0 of the coefficients. -/
theorem coef0 (c : Dev nD) (b : Fin 5) : V m c main_v9 (ix2 b 0) = m ((c.tc : Thread _ _).loc main_arg4) (ix1 b) := by
  refine (congrFun (v9_eq m c) _).trans ?_
  pointwise

/-- Column 1 of the coefficients. -/
theorem coef1 (c : Dev nD) (b : Fin 5) : V m c main_v9 (ix2 b 1) = m ((c.tc : Thread _ _).loc main_arg5) (ix1 b) := by
  refine (congrFun (v9_eq m c) _).trans ?_
  pointwise

/-- Column 2 of the coefficients. -/
theorem coef2 (c : Dev nD) (b : Fin 5) : V m c main_v9 (ix2 b 2) = m ((c.tc : Thread _ _).loc main_arg6) (ix1 b) := by
  refine (congrFun (v9_eq m c) _).trans ?_
  pointwise

/-- Column 3 of the coefficients. -/
theorem coef3 (c : Dev nD) (b : Fin 5) : V m c main_v9 (ix2 b 3) = m ((c.tc : Thread _ _).loc main_arg3) ix0 := by
  refine (congrFun (v9_eq m c) _).trans ?_
  pointwise

/-- The kernel's next latents. -/
theorem arr4 (c : Dev nD) : (dats m 0 c).arrAt 4 cfg0.N = gNext (m ((c.tc : Thread _ _).loc Cert.SolverKernelIdeal.main_arg0)) (m ((c.tc : Thread _ _).loc Cert.SolverKernelIdeal.main_arg1)) (m ((c.tc : Thread _ _).loc Cert.SolverKernelIdeal.main_arg2)) (m ((c.tc : Thread _ _).loc Cert.SolverKernelIdeal.main_arg4)) (m ((c.tc : Thread _ _).loc Cert.SolverKernelIdeal.main_arg5)) (m ((c.tc : Thread _ _).loc Cert.SolverKernelIdeal.main_arg6)) := by
  refine (dats m 0 c).arrAt_eq_of_covers 4 _ (by decide +kernel) fun t hf y => ?_
  blk_simp
  rw [after0_4]
  unfold outsAt0
  frame_out
  pointwise [k0_pay1, gNext]
  reads_congr
  · rw [sm]
    refine (congrArg (V m c main_v9) (?_ : _ = ix2 (((View.whole main_v10_0).slice (win0_4.rect t)).emb y 0) 0)).trans (coef0 m c _)
    blk_ext [o1 t, e4 t]
  · blk_point [iblk, V, e1 t, e4 t]
  · rw [sm]
    refine (congrArg (V m c main_v9) (?_ : _ = ix2 (((View.whole main_v10_0).slice (win0_4.rect t)).emb y 0) 1)).trans (coef1 m c _)
    blk_ext [o2 t, e4 t]
  · blk_point [iblk, V, e2 t, e4 t]
  · rw [sm]
    refine (congrArg (V m c main_v9) (?_ : _ = ix2 (((View.whole main_v10_0).slice (win0_4.rect t)).emb y 0) 2)).trans (coef2 m c _)
    blk_ext [o3 t, e4 t]
  · blk_point [iblk, V, e3 t, e4 t]

/-- The kernel's next codes. -/
theorem arr5 (c : Dev nD) : (dats m 0 c).arrAt 5 cfg0.N = gNextCodes (m ((c.tc : Thread _ _).loc Cert.SolverKernelIdeal.main_arg0)) (m ((c.tc : Thread _ _).loc Cert.SolverKernelIdeal.main_arg1)) (m ((c.tc : Thread _ _).loc Cert.SolverKernelIdeal.main_arg2)) (m ((c.tc : Thread _ _).loc Cert.SolverKernelIdeal.main_arg3)) (m ((c.tc : Thread _ _).loc Cert.SolverKernelIdeal.main_arg4)) (m ((c.tc : Thread _ _).loc Cert.SolverKernelIdeal.main_arg5)) (m ((c.tc : Thread _ _).loc Cert.SolverKernelIdeal.main_arg6)) := by
  refine (dats m 0 c).arrAt_eq_of_covers 5 _ (by decide +kernel) fun t hf y => ?_
  blk_simp
  rw [after0_5]
  unfold outsAt0
  frame_out
  pointwise [k0_pay1, k0_pay2, gNext, gNextCodes, quant8]
  reads_congr
  · rw [sm]
    refine (congrArg (V m c main_v9) (?_ : _ = ix2 (((View.whole main_v10_1).slice (win0_5.rect t)).emb y 0) 0)).trans (coef0 m c _)
    blk_ext [o1 t, e5 t]
  · blk_point [iblk, V, e1 t, e5 t]
  · rw [sm]
    refine (congrArg (V m c main_v9) (?_ : _ = ix2 (((View.whole main_v10_1).slice (win0_5.rect t)).emb y 0) 1)).trans (coef1 m c _)
    blk_ext [o2 t, e5 t]
  · blk_point [iblk, V, e2 t, e5 t]
  · rw [sm]
    refine (congrArg (V m c main_v9) (?_ : _ = ix2 (((View.whole main_v10_1).slice (win0_5.rect t)).emb y 0) 2)).trans (coef2 m c _)
    blk_ext [o3 t, e5 t]
  · blk_point [iblk, V, e3 t, e5 t]
  · rw [sm]
    refine (congrArg (V m c main_v9) (?_ : _ = ix2 (((View.whole main_v10_1).slice (win0_5.rect t)).emb y 0) 3)).trans (coef3 m c _)
    blk_ext [o4 t, e5 t]

end Cert.SolverKernelIdeal.Hand

end
-- ==== Proof.Calls.Solver.lean ====
module

public import proofs.«01_k».proof.Proof.Gen.SolverKernel.Frame
public import proofs.«01_k».proof.Proof.Gen.SolverKernelIdeal.Frame
public import proofs.«01_k».proof.Proof.Gen.SolverKernelIdeal.Value
public import proofs.«01_k».proof.Proof.Gen.SolverReferenceIdeal.Frame
public import proofs.«01_k».proof.Proof.Gen.SolverReferenceIdeal.Value
public import proofs.«01_k».proof.Proof.Calls.SolverArr
public import proofs.«01_k».proof.Proof.Value.Rows
public import proofs.«01_k».proof.Defs
public import Idealize.ShloMosaic.Lib.Pipeline.ValueKit.Point
public import Idealize.ShloMosaic.Lib.Pipeline.ValueKit.Acc
public import Idealize.ShloMosaic.Adequacy
public import Idealize.ShloMosaic.Init

@[expose] public section

set_option maxRecDepth 16384

noncomputable section

namespace Cert.SolverReferenceIdeal.Hand

open Idealize.ShloMosaic Idealize.ShloMosaic.TcCoe Idealize.SL.Sem Cert.SolverReferenceIdeal Cert.SolverReferenceIdeal.Gen Cert.Rows Cert.Calls

variable (m : (ℓ : Loc nD τ sig) → Buf (Elt Ideal) ℓ)

theorem e0 : ∀ t : Fin cfg0.N, win0_0.index t = ![0, 0, 0, 0] := (by decide +kernel : ∀ t : Fin grid0.N, _)
theorem e1 : ∀ t : Fin cfg0.N, win0_1.index t = ![0, 0, 0, 0] := (by decide +kernel : ∀ t : Fin grid0.N, _)
theorem e2 : ∀ t : Fin cfg0.N, win0_2.index t = ![0, 0, 0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0, 0, 0] := (by decide +kernel : ∀ t : Fin grid0.N, _)
theorem e8 : ∀ t : Fin cfg0.N, win0_8.index t = ![0, 0, 0, 0] := (by decide +kernel : ∀ t : Fin grid0.N, _)

/-- The reference's next latents. -/
theorem arr7 (c : Dev nD) : (dats m 0 c).arrAt 7 cfg0.N = gNext (m ((c.tc : Thread _ _).loc Cert.SolverReferenceIdeal.main_arg0)) (m ((c.tc : Thread _ _).loc Cert.SolverReferenceIdeal.main_arg1)) (m ((c.tc : Thread _ _).loc Cert.SolverReferenceIdeal.main_arg2)) (m ((c.tc : Thread _ _).loc Cert.SolverReferenceIdeal.main_arg4)) (m ((c.tc : Thread _ _).loc Cert.SolverReferenceIdeal.main_arg5)) (m ((c.tc : Thread _ _).loc Cert.SolverReferenceIdeal.main_arg6)) := by
  refine (dats m 0 c).arrAt_eq_of_covers 7 _ (by decide +kernel) fun t hf y => ?_
  blk_simp
  rw [after0_7]
  frame_out
  pointwise [k0_pay1, gNext]
  blk_point [iblk, V, e0 t, e1 t, e2 t, e3 t, e4 t, e5 t, e6 t, e7 t]

/-- The reference's next codes. -/
theorem arr8 (c : Dev nD) : (dats m 0 c).arrAt 8 cfg0.N = gNextCodes (m ((c.tc : Thread _ _).loc Cert.SolverReferenceIdeal.main_arg0)) (m ((c.tc : Thread _ _).loc Cert.SolverReferenceIdeal.main_arg1)) (m ((c.tc : Thread _ _).loc Cert.SolverReferenceIdeal.main_arg2)) (m ((c.tc : Thread _ _).loc Cert.SolverReferenceIdeal.main_arg3)) (m ((c.tc : Thread _ _).loc Cert.SolverReferenceIdeal.main_arg4)) (m ((c.tc : Thread _ _).loc Cert.SolverReferenceIdeal.main_arg5)) (m ((c.tc : Thread _ _).loc Cert.SolverReferenceIdeal.main_arg6)) := by
  refine (dats m 0 c).arrAt_eq_of_covers 8 _ (by decide +kernel) fun t hf y => ?_
  blk_simp
  rw [after0_8]
  frame_out
  pointwise [k0_pay1, k0_pay2, gNext, gNextCodes, quant8]
  blk_point [iblk, V, e0 t, e1 t, e2 t, e3 t, e4 t, e5 t, e6 t, e8 t]

end Cert.SolverReferenceIdeal.Hand

namespace Cert.Proof

open Idealize.ShloMosaic Idealize.ShloMosaic.TcCoe Idealize.SL.Sem

/-- From equal arguments the solver step and its reference end with equal latents and equal codes. -/
theorem algebraicSolver : Cert.algebraic_SolverKernelIdeal_SolverReferenceIdeal (hSolverKernelIdeal := Cert.SolverKernelIdeal.Gen.facts)
    (hSolverReferenceIdeal := Cert.SolverReferenceIdeal.Gen.facts) := by
  intro m g m' g' _ hargs
  refine ⟨fun c => Cert.Calls.gNext (m ((c.tc : Thread _ _).loc Cert.SolverKernelIdeal.main_arg0)) (m ((c.tc : Thread _ _).loc Cert.SolverKernelIdeal.main_arg1)) (m ((c.tc : Thread _ _).loc Cert.SolverKernelIdeal.main_arg2)) (m ((c.tc : Thread _ _).loc Cert.SolverKernelIdeal.main_arg4)) (m ((c.tc : Thread _ _).loc Cert.SolverKernelIdeal.main_arg5)) (m ((c.tc : Thread _ _).loc Cert.SolverKernelIdeal.main_arg6)),
    fun c => Cert.Calls.gNextCodes (m ((c.tc : Thread _ _).loc Cert.SolverKernelIdeal.main_arg0)) (m ((c.tc : Thread _ _).loc Cert.SolverKernelIdeal.main_arg1)) (m ((c.tc : Thread _ _).loc Cert.SolverKernelIdeal.main_arg2)) (m ((c.tc : Thread _ _).loc Cert.SolverKernelIdeal.main_arg3)) (m ((c.tc : Thread _ _).loc Cert.SolverKernelIdeal.main_arg4)) (m ((c.tc : Thread _ _).loc Cert.SolverKernelIdeal.main_arg5)) (m ((c.tc : Thread _ _).loc Cert.SolverKernelIdeal.main_arg6)), ?_, ?_⟩
  · refine (θ_run (Cert.SolverKernelIdeal.defs (F := Ideal)) _ _).mono (fun r h c => ?_) (Cert.SolverKernelIdeal.Value.run_blocks m g)
    exact ⟨(h c).1.trans (Cert.SolverKernelIdeal.Hand.arr4 m c), (h c).2.1.trans (Cert.SolverKernelIdeal.Hand.arr5 m c), (h c).2.2⟩
  · refine (θ_run (Cert.SolverReferenceIdeal.defs (F := Ideal)) _ _).mono (fun r h c => ?_) (Cert.SolverReferenceIdeal.Value.run_blocks m' g')
    obtain ⟨e0, e1, e2, e3, e4, e5, e6⟩ := hargs c
    refine ⟨(h c).1.trans ((Cert.SolverReferenceIdeal.Hand.arr7 m' c).trans ?_),
      (h c).2.1.trans ((Cert.SolverReferenceIdeal.Hand.arr8 m' c).trans ?_), (h c).2.2⟩
    · rw [e0, e1, e2, e4, e5, e6]
    · rw [e0, e1, e2, e3, e4, e5, e6]

end Cert.Proof

end
-- ==== Proof.Calls.Guide.lean ====
module

public import proofs.«01_k».proof.Proof.Gen.GuideKernel.Frame
public import proofs.«01_k».proof.Proof.Gen.GuideKernelIdeal.Frame
public import proofs.«01_k».proof.Proof.Gen.GuideKernelIdeal.Value
public import proofs.«01_k».proof.Proof.Gen.GuideReferenceIdeal.Run
public import proofs.«01_k».proof.Proof.Value.Rows
public import proofs.«01_k».proof.Defs
public import Idealize.ShloMosaic.Lib.Pipeline.ValueKit.Point
public import Idealize.ShloMosaic.Lib.Pipeline.ValueKit.Acc
public import Idealize.ShloMosaic.Adequacy
public import Idealize.ShloMosaic.Init

@[expose] public section

set_option maxRecDepth 16384

noncomputable section

/-! # The guided velocity

The projection coefficient of a prompt is the sum of its tokens' cross products over the sum of the unconditional squares, or
over 1 when that is zero; one entry of the velocity mixes the two branches' outputs by it and by the guidance. -/

namespace Cert.Calls

open Idealize.ShloMosaic Idealize.ShloMosaic.TcCoe Idealize.SL.Sem Cert.Rows Cert.GuideKernelIdeal
open scoped BigOperators

section
variable (a0 : Vec Ideal S5 .f32) (a1 : Vec Ideal S5x2x64x3600 .f32) (a2 a3 : Vec Ideal S5x1x3600 .f32)

/-- A prompt's projection coefficient. -/
def alpha (b : Fin 5) : EReal :=
  Ideal.div (∑ n : Fin 3600, a2 (ix3 b 0 n)) (if ∑ n : Fin 3600, a3 (ix3 b 0 n) = 0 then 1 else ∑ n : Fin 3600, a3 (ix3 b 0 n))
/-- The coefficients, on every lane the call writes. -/
def gAlpha : Vec Ideal S5x1x128 .f32 := fun y => alpha a2 a3 (y 0)
/-- The velocity, by token. -/
def gV : Vec Ideal S5x64x3600 .f32 :=
  fun y => alpha a2 a3 (y 0) * a1 (ix4 (y 0) 1 (y 1) (y 2))
    + a0 (ix1 (y 0)) * (a1 (ix4 (y 0) 0 (y 1) (y 2)) - alpha a2 a3 (y 0) * a1 (ix4 (y 0) 1 (y 1) (y 2)))
end

end Cert.Calls

namespace Cert.GuideKernelIdeal.Hand

open Idealize.ShloMosaic Idealize.ShloMosaic.TcCoe Idealize.SL.Sem Cert.GuideKernelIdeal Cert.GuideKernelIdeal.Gen Cert.Rows Cert.Calls
open scoped BigOperators

variable (m : (ℓ : Loc nD τ sig) → Buf (Elt Ideal) ℓ)

theorem e0 : ∀ t : Fin cfg0.N, win0_0.index t = ![0, 0] := (by decide +kernel : ∀ t : Fin grid0.N, _)
theorem e1 : ∀ t : Fin cfg0.N, win0_1.index t = ![t.val, 0, 0, 0] := (by decide +kernel : ∀ t : Fin grid0.N, _)
theorem e2 : ∀ t : Fin cfg0.N, win0_2.index t = ![t.val, 0, 0] := (by decide +kernel : ∀ t : Fin grid0.N, _)
theorem e3 : ∀ t : Fin cfg0.N, win0_3.index t = ![t.val, 0, 0] := (by decide +kernel : ∀ t : Fin grid0.N, _)
theorem e4 : ∀ t : Fin cfg0.N, win0_4.index t = ![t.val, 0, 0] := (by decide +kernel : ∀ t : Fin grid0.N, _)
theorem e5 : ∀ t : Fin cfg0.N, win0_5.index t = ![t.val, 0, 0] := (by decide +kernel : ∀ t : Fin grid0.N, _)
theorem o1 : ∀ t : Fin cfg0.N, k0_off1 (grid0.coords t) = ![t.val, 0] := (by decide +kernel : ∀ t : Fin grid0.N, _)

/-- The kernel's velocity. -/
theorem arr4 (c : Dev nD) : (dats m 0 c).arrAt 4 cfg0.N = gV (m ((c.tc : Thread _ _).loc Cert.GuideKernelIdeal.main_arg0)) (m ((c.tc : Thread _ _).loc Cert.GuideKernelIdeal.main_arg1)) (m ((c.tc : Thread _ _).loc Cert.GuideKernelIdeal.main_arg2)) (m ((c.tc : Thread _ _).loc Cert.GuideKernelIdeal.main_arg3)) := by
  refine (dats m 0 c).arrAt_eq_of_covers 4 _ (by decide +kernel) fun t hf y => ?_
  blk_simp
  rw [after0_4]
  unfold outsAt0
  frame_out
  pointwise [k0_pay3, k0_pay1, gV, alpha]
  blk_point [iblk, V, e0 t, e1 t, e2 t, e3 t, e4 t, o1 t]

/-- The kernel's coefficients. -/
theorem arr5 (c : Dev nD) : (dats m 0 c).arrAt 5 cfg0.N = gAlpha (m ((c.tc : Thread _ _).loc Cert.GuideKernelIdeal.main_arg2)) (m ((c.tc : Thread _ _).loc Cert.GuideKernelIdeal.main_arg3)) := by
  refine (dats m 0 c).arrAt_eq_of_covers 5 _ (by decide +kernel) fun t hf y => ?_
  blk_simp
  rw [after0_5]
  unfold outsAt0
  frame_out
  pointwise [k0_pay2, k0_pay1, gAlpha, alpha]
  blk_point [iblk, V, e2 t, e3 t, e5 t]

end Cert.GuideKernelIdeal.Hand

namespace Cert.GuideReferenceIdeal.Hand

open Idealize.ShloMosaic Idealize.ShloMosaic.TcCoe Idealize.SL.Sem Cert.GuideReferenceIdeal Cert.GuideReferenceIdeal.Gen Cert.Rows Cert.Calls
open scoped BigOperators

/-- A prompt's sum over the tokens, read at the prompt. -/
theorem hsum (x : Vec Ideal S5x1x3600 .f32) :
    Host.reduceAdd (F := Ideal) (shapeCast S5x3600 x shapeCasts_S5x1x3600_S5x3600) (constant S_ .f32 0x00000000#32) reducesTo_S5x3600_S5_d1 h_S_
      = (fun j => ∑ n : Fin 3600, x (ix3 (j 0) 0 n) : Vec Ideal S5 .f32) := by
  funext j
  idx_vars j
  pointwise

/-- The reference has no semaphore. -/
theorem no_sem (s : SemLoc Cert.GuideReferenceIdeal.sig) : False := by
  cases s with
  | reg s => exact s.elim0
  | dma s => exact s.elim0

/-- The reference ends and leaves its arguments alone. -/
theorem frame : Cert.quiescent_GuideReferenceIdeal (hGuideReferenceIdeal := Cert.GuideReferenceIdeal.Gen.facts) := fun m g _ =>
  (θ_run (Cert.GuideReferenceIdeal.defs (F := Ideal)) _ _).mono
    (fun _ h => ⟨fun c => (h c).2.2, funext fun s => (no_sem s.2).elim⟩) (Cert.GuideReferenceIdeal.Value.run m g)

end Cert.GuideReferenceIdeal.Hand

namespace Cert.Proof

open Idealize.ShloMosaic Idealize.ShloMosaic.TcCoe Idealize.SL.Sem Cert.GuideReferenceIdeal
open scoped BigOperators

/-- From equal arguments the guidance call and its reference end with equal velocities and equal coefficients. -/
theorem algebraicGuide : Cert.algebraic_GuideKernelIdeal_GuideReferenceIdeal (hGuideKernelIdeal := Cert.GuideKernelIdeal.Gen.facts)
    (hGuideReferenceIdeal := Cert.GuideReferenceIdeal.Gen.facts) := by
  intro m g m' g' _ hargs
  refine ⟨fun c => Cert.Calls.gV (m ((c.tc : Thread _ _).loc Cert.GuideKernelIdeal.main_arg0)) (m ((c.tc : Thread _ _).loc Cert.GuideKernelIdeal.main_arg1)) (m ((c.tc : Thread _ _).loc Cert.GuideKernelIdeal.main_arg2)) (m ((c.tc : Thread _ _).loc Cert.GuideKernelIdeal.main_arg3)),
    fun c => Cert.Calls.gAlpha (m ((c.tc : Thread _ _).loc Cert.GuideKernelIdeal.main_arg2)) (m ((c.tc : Thread _ _).loc Cert.GuideKernelIdeal.main_arg3)), ?_, ?_⟩
  · refine (θ_run (Cert.GuideKernelIdeal.defs (F := Ideal)) _ _).mono (fun r h c => ?_) (Cert.GuideKernelIdeal.Value.run_blocks m g)
    exact ⟨(h c).1.trans (Cert.GuideKernelIdeal.Hand.arr4 m c), (h c).2.1.trans (Cert.GuideKernelIdeal.Hand.arr5 m c), (h c).2.2⟩
  · refine (θ_run (Cert.GuideReferenceIdeal.defs (F := Ideal)) _ _).mono (fun r h c => ?_) (Cert.GuideReferenceIdeal.Value.run m' g')
    obtain ⟨e0, e1, e2, e3⟩ := hargs c
    refine ⟨(h c).1.trans ?_, (h c).2.1.trans ?_, (h c).2.2⟩
    · rw [e0, e1, e2, e3]
      rw [Cert.GuideReferenceIdeal.Hand.hsum, Cert.GuideReferenceIdeal.Hand.hsum]
      simp only [id_eq]
      funext y
      idx_vars y
      pointwise [Cert.Calls.gV, Cert.Calls.alpha]
    · rw [e2, e3]
      rw [Cert.GuideReferenceIdeal.Hand.hsum, Cert.GuideReferenceIdeal.Hand.hsum]
      simp only [id_eq]
      funext y
      idx_vars y
      pointwise [Cert.Calls.gAlpha, Cert.Calls.alpha]

end Cert.Proof

end
-- ==== Proof.Calls.Rel.lean ====
module

public import proofs.«01_k».proof.Proof.Gen.RelKernel.Frame
public import proofs.«01_k».proof.Proof.Gen.RelKernelIdeal.Frame
public import proofs.«01_k».proof.Proof.Gen.RelKernelIdeal.Value
public import proofs.«01_k».proof.Proof.Gen.RelReferenceIdeal.Run
public import proofs.«01_k».proof.Proof.Value.Rows
public import proofs.«01_k».proof.Defs
public import Idealize.ShloMosaic.Lib.Pipeline.ValueKit.Point
public import Idealize.ShloMosaic.Lib.Pipeline.ValueKit.Acc
public import Idealize.ShloMosaic.Adequacy
public import Idealize.ShloMosaic.Init

@[expose] public section

set_option maxRecDepth 16384

noncomputable section

/-! # The relative distance

A prompt's relative distance is the sum of its tokens' distances over the sum of their magnitudes, or over 1 when that is
zero. -/

namespace Cert.Calls

open Idealize.ShloMosaic Idealize.ShloMosaic.TcCoe Idealize.SL.Sem Cert.RelKernelIdeal
open scoped BigOperators

/-- The ratio, on every lane the call writes. -/
def gRel (a0 a1 : Vec Ideal S5x1x3600 .f32) : Vec Ideal S5x128 .f32 := fun y =>
  Ideal.div (∑ n : Fin 3600, a0 (ix3 (y 0) 0 n))
    (if ∑ n : Fin 3600, a1 (ix3 (y 0) 0 n) = 0 then 1 else ∑ n : Fin 3600, a1 (ix3 (y 0) 0 n))

end Cert.Calls

namespace Cert.RelKernelIdeal.Hand

open Idealize.ShloMosaic Idealize.ShloMosaic.TcCoe Idealize.SL.Sem Cert.RelKernelIdeal Cert.RelKernelIdeal.Gen Cert.Rows Cert.Calls
open scoped BigOperators

variable (m : (ℓ : Loc nD τ sig) → Buf (Elt Ideal) ℓ)

theorem e0 : ∀ t : Fin cfg0.N, win0_0.index t = ![0, 0, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![0, 0] := (by decide +kernel : ∀ t : Fin grid0.N, _)

/-- The kernel's ratios. -/
theorem arr2 (c : Dev nD) : (dats m 0 c).arrAt 2 cfg0.N = gRel (m ((c.tc : Thread _ _).loc Cert.RelKernelIdeal.main_arg0)) (m ((c.tc : Thread _ _).loc Cert.RelKernelIdeal.main_arg1)) := by
  refine (dats m 0 c).arrAt_eq_of_covers 2 _ (by decide +kernel) fun t hf y => ?_
  blk_simp
  rw [after0_2]
  frame_out
  pointwise [k0_pay1, gRel]
  blk_point [iblk, V, e0 t, e1 t, e2 t]

end Cert.RelKernelIdeal.Hand

namespace Cert.RelReferenceIdeal.Hand

open Idealize.ShloMosaic Idealize.ShloMosaic.TcCoe Idealize.SL.Sem Cert.RelReferenceIdeal Cert.RelReferenceIdeal.Gen Cert.Rows Cert.Calls
open scoped BigOperators

/-- A prompt's sum over the tokens, read at the prompt. -/
theorem hsum (x : Vec Ideal S5x1x3600 .f32) :
    Host.reduceAdd (F := Ideal) (shapeCast S5x3600 x shapeCasts_S5x1x3600_S5x3600) (constant S_ .f32 0x00000000#32) reducesTo_S5x3600_S5_d1 h_S_
      = (fun j => ∑ n : Fin 3600, x (ix3 (j 0) 0 n) : Vec Ideal S5 .f32) := by
  funext j
  idx_vars j
  pointwise

/-- The reference has no semaphore. -/
theorem no_sem (s : SemLoc Cert.RelReferenceIdeal.sig) : False := by
  cases s with
  | reg s => exact s.elim0
  | dma s => exact s.elim0

/-- The reference ends and leaves its arguments alone. -/
theorem frame : Cert.quiescent_RelReferenceIdeal (hRelReferenceIdeal := Cert.RelReferenceIdeal.Gen.facts) := fun m g _ =>
  (θ_run (Cert.RelReferenceIdeal.defs (F := Ideal)) _ _).mono
    (fun _ h => ⟨fun c => (h c).2, funext fun s => (no_sem s.2).elim⟩) (Cert.RelReferenceIdeal.Value.run m g)

end Cert.RelReferenceIdeal.Hand

namespace Cert.Proof

open Idealize.ShloMosaic Idealize.ShloMosaic.TcCoe Idealize.SL.Sem Cert.RelReferenceIdeal
open scoped BigOperators

/-- From equal arguments the relative distance and its reference end equal. -/
theorem algebraicRel : Cert.algebraic_RelKernelIdeal_RelReferenceIdeal (hRelKernelIdeal := Cert.RelKernelIdeal.Gen.facts)
    (hRelReferenceIdeal := Cert.RelReferenceIdeal.Gen.facts) := by
  intro m g m' g' _ hargs
  refine ⟨fun c => Cert.Calls.gRel (m ((c.tc : Thread _ _).loc Cert.RelKernelIdeal.main_arg0)) (m ((c.tc : Thread _ _).loc Cert.RelKernelIdeal.main_arg1)), ?_, ?_⟩
  · refine (θ_run (Cert.RelKernelIdeal.defs (F := Ideal)) _ _).mono (fun r h c => ?_) (Cert.RelKernelIdeal.Value.run_blocks m g)
    exact ⟨(h c).1.trans (Cert.RelKernelIdeal.Hand.arr2 m c), (h c).2⟩
  · refine (θ_run (Cert.RelReferenceIdeal.defs (F := Ideal)) _ _).mono (fun r h c => ?_) (Cert.RelReferenceIdeal.Value.run m' g')
    obtain ⟨e0, e1⟩ := hargs c
    refine ⟨(h c).1.trans ?_, (h c).2⟩
    rw [e0, e1]
    rw [Cert.RelReferenceIdeal.Hand.hsum, Cert.RelReferenceIdeal.Hand.hsum]
    simp only [id_eq]
    funext y
    idx_vars y
    pointwise [Cert.Calls.gRel]

end Cert.Proof

end
-- ==== Proof.lean ====
module

public import proofs.«01_k».proof.Defs
public import proofs.«01_k».proof.Proof.Frame.Kernel
public import proofs.«01_k».proof.Proof.Value.Launch
public import proofs.«01_k».proof.Proof.Value.RefArrays
public import proofs.«01_k».proof.Proof.Calls.Patch
public import proofs.«01_k».proof.Proof.Calls.Solver
public import proofs.«01_k».proof.Proof.Calls.Guide
public import proofs.«01_k».proof.Proof.Calls.Rel
public import Idealize.ShloMosaic.Adequacy
public import Idealize.ShloMosaic.Init

@[expose] public section

noncomputable section

namespace Cert.Proof

open Idealize.ShloMosaic Idealize.SL.Sem

/-- The kernel as compiled ends, leaves its arguments alone, and every semaphore counter is zero again. -/
theorem frameKernel : Cert.quiescent_Kernel (hKernel := Cert.Kernel.Gen.facts) := fun m g _ =>
  θ_run_and (Cert.Kernel.Hand.frame_of m g _ (Cert.Kernel.Hand.A_eq m) (Cert.Kernel.Hand.run_main m g))
    ((θ_run Cert.Kernel.defs _ _).mono (fun _ h => h.2) (Cert.Kernel.Hand.run_main_quiescent m g))

/-- The same of the idealised kernel. -/
theorem frameKernelIdeal : Cert.quiescent_KernelIdeal (hKernelIdeal := Cert.KernelIdeal.Gen.facts) := fun m g _ =>
  θ_run_and (Cert.KernelIdeal.Gen.frame_of m g (Cert.KernelIdeal.Hand.dats m) (Cert.KernelIdeal.Hand.A_eq m) (Cert.KernelIdeal.Hand.run_main m g))
    ((θ_run Cert.KernelIdeal.defs _ _).mono (fun _ h => h.2) (Cert.KernelIdeal.Hand.run_main_quiescent m g))

set_option maxHeartbeats 4000000 in
/-- From equal arguments the idealised kernel and the reference end with equal results: each result array is one function
    of the argument arrays (Value/Spec.lean), the same for both. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.Rows.gRc (m ((c.tc : Thread _ _).loc Cert.KernelIdeal.main_arg0)) (m ((c.tc : Thread _ _).loc Cert.KernelIdeal.main_arg1)) (m ((c.tc : Thread _ _).loc Cert.KernelIdeal.main_arg2)) (m ((c.tc : Thread _ _).loc Cert.KernelIdeal.main_arg3)) (m ((c.tc : Thread _ _).loc Cert.KernelIdeal.main_arg4)) (m ((c.tc : Thread _ _).loc Cert.KernelIdeal.main_arg5)) (m ((c.tc : Thread _ _).loc Cert.KernelIdeal.main_arg6)) (m ((c.tc : Thread _ _).loc Cert.KernelIdeal.main_arg7)) (m ((c.tc : Thread _ _).loc Cert.KernelIdeal.main_arg8)) (m ((c.tc : Thread _ _).loc Cert.KernelIdeal.main_arg9)) (m ((c.tc : Thread _ _).loc Cert.KernelIdeal.main_arg10)),
    fun c => Cert.Rows.gRs (m ((c.tc : Thread _ _).loc Cert.KernelIdeal.main_arg0)) (m ((c.tc : Thread _ _).loc Cert.KernelIdeal.main_arg1)) (m ((c.tc : Thread _ _).loc Cert.KernelIdeal.main_arg2)) (m ((c.tc : Thread _ _).loc Cert.KernelIdeal.main_arg3)) (m ((c.tc : Thread _ _).loc Cert.KernelIdeal.main_arg4)) (m ((c.tc : Thread _ _).loc Cert.KernelIdeal.main_arg5)) (m ((c.tc : Thread _ _).loc Cert.KernelIdeal.main_arg6)) (m ((c.tc : Thread _ _).loc Cert.KernelIdeal.main_arg7)) (m ((c.tc : Thread _ _).loc Cert.KernelIdeal.main_arg8)) (m ((c.tc : Thread _ _).loc Cert.KernelIdeal.main_arg9)) (m ((c.tc : Thread _ _).loc Cert.KernelIdeal.main_arg10)),
    fun c => Cert.Rows.gHc (m ((c.tc : Thread _ _).loc Cert.KernelIdeal.main_arg0)) (m ((c.tc : Thread _ _).loc Cert.KernelIdeal.main_arg2)) (m ((c.tc : Thread _ _).loc Cert.KernelIdeal.main_arg3)) (m ((c.tc : Thread _ _).loc Cert.KernelIdeal.main_arg4)) (m ((c.tc : Thread _ _).loc Cert.KernelIdeal.main_arg5)) (m ((c.tc : Thread _ _).loc Cert.KernelIdeal.main_arg6)) (m ((c.tc : Thread _ _).loc Cert.KernelIdeal.main_arg7)) (m ((c.tc : Thread _ _).loc Cert.KernelIdeal.main_arg8)) (m ((c.tc : Thread _ _).loc Cert.KernelIdeal.main_arg9)) (m ((c.tc : Thread _ _).loc Cert.KernelIdeal.main_arg10)),
    fun c => Cert.Rows.gHsc (m ((c.tc : Thread _ _).loc Cert.KernelIdeal.main_arg0)) (m ((c.tc : Thread _ _).loc Cert.KernelIdeal.main_arg2)) (m ((c.tc : Thread _ _).loc Cert.KernelIdeal.main_arg3)) (m ((c.tc : Thread _ _).loc Cert.KernelIdeal.main_arg4)) (m ((c.tc : Thread _ _).loc Cert.KernelIdeal.main_arg5)) (m ((c.tc : Thread _ _).loc Cert.KernelIdeal.main_arg6)) (m ((c.tc : Thread _ _).loc Cert.KernelIdeal.main_arg7)) (m ((c.tc : Thread _ _).loc Cert.KernelIdeal.main_arg8)) (m ((c.tc : Thread _ _).loc Cert.KernelIdeal.main_arg9)) (m ((c.tc : Thread _ _).loc Cert.KernelIdeal.main_arg10)),
    fun c => Cert.Rows.gOut (m ((c.tc : Thread _ _).loc Cert.KernelIdeal.main_arg0)) (m ((c.tc : Thread _ _).loc Cert.KernelIdeal.main_arg2)) (m ((c.tc : Thread _ _).loc Cert.KernelIdeal.main_arg3)) (m ((c.tc : Thread _ _).loc Cert.KernelIdeal.main_arg4)) (m ((c.tc : Thread _ _).loc Cert.KernelIdeal.main_arg5)) (m ((c.tc : Thread _ _).loc Cert.KernelIdeal.main_arg6)) (m ((c.tc : Thread _ _).loc Cert.KernelIdeal.main_arg7)) (m ((c.tc : Thread _ _).loc Cert.KernelIdeal.main_arg8)) (m ((c.tc : Thread _ _).loc Cert.KernelIdeal.main_arg9)) (m ((c.tc : Thread _ _).loc Cert.KernelIdeal.main_arg10)),
    fun c => Cert.Rows.gCu (m ((c.tc : Thread _ _).loc Cert.KernelIdeal.main_arg0)) (m ((c.tc : Thread _ _).loc Cert.KernelIdeal.main_arg2)) (m ((c.tc : Thread _ _).loc Cert.KernelIdeal.main_arg3)) (m ((c.tc : Thread _ _).loc Cert.KernelIdeal.main_arg4)) (m ((c.tc : Thread _ _).loc Cert.KernelIdeal.main_arg5)) (m ((c.tc : Thread _ _).loc Cert.KernelIdeal.main_arg6)) (m ((c.tc : Thread _ _).loc Cert.KernelIdeal.main_arg7)) (m ((c.tc : Thread _ _).loc Cert.KernelIdeal.main_arg8)) (m ((c.tc : Thread _ _).loc Cert.KernelIdeal.main_arg9)) (m ((c.tc : Thread _ _).loc Cert.KernelIdeal.main_arg10)),
    fun c => Cert.Rows.gUu (m ((c.tc : Thread _ _).loc Cert.KernelIdeal.main_arg0)) (m ((c.tc : Thread _ _).loc Cert.KernelIdeal.main_arg2)) (m ((c.tc : Thread _ _).loc Cert.KernelIdeal.main_arg3)) (m ((c.tc : Thread _ _).loc Cert.KernelIdeal.main_arg4)) (m ((c.tc : Thread _ _).loc Cert.KernelIdeal.main_arg5)) (m ((c.tc : Thread _ _).loc Cert.KernelIdeal.main_arg6)) (m ((c.tc : Thread _ _).loc Cert.KernelIdeal.main_arg7)) (m ((c.tc : Thread _ _).loc Cert.KernelIdeal.main_arg8)) (m ((c.tc : Thread _ _).loc Cert.KernelIdeal.main_arg9)) (m ((c.tc : Thread _ _).loc Cert.KernelIdeal.main_arg10)), ?_, ?_⟩
  · refine (θ_run (Cert.KernelIdeal.defs (F := Ideal)) _ _).mono (fun r h c => ?_)
      (θ_run_and (Cert.KernelIdeal.Hand.run_main m g)
        (Cert.KernelIdeal.Gen.frame_of m g (Cert.KernelIdeal.Hand.dats m) (Cert.KernelIdeal.Hand.A_eq m) (Cert.KernelIdeal.Hand.run_main m g)))
    exact ⟨((h.1 c).1 11).trans (Cert.KernelIdeal.Hand.arr11 m c),
      ((h.1 c).1 12).trans (Cert.KernelIdeal.Hand.arr12 m c),
      ((h.1 c).1 13).trans (Cert.KernelIdeal.Hand.arr13 m c),
      ((h.1 c).1 14).trans (Cert.KernelIdeal.Hand.arr14 m c),
      ((h.1 c).1 15).trans (Cert.KernelIdeal.Hand.arr15 m c),
      ((h.1 c).1 16).trans (Cert.KernelIdeal.Hand.arr16 m c),
      ((h.1 c).1 17).trans (Cert.KernelIdeal.Hand.arr17 m c), h.2 c⟩
  · refine (θ_run (Cert.ReferenceIdeal.defs (F := Ideal)) _ _).mono (fun r h c => ?_)
      (θ_run_and (Cert.ReferenceIdeal.Gen.run_main m' g') (Cert.ReferenceIdeal.Gen.unchanged m' g'))
    obtain ⟨e0, e1, e2, e3, e4, e5, e6, e7, e8, e9, e10⟩ := hargs c
    refine ⟨((h.1 c).1 11).trans ((Cert.ReferenceIdeal.Hand.arr11 m' c).trans ?_),
      ((h.1 c).1 12).trans ((Cert.ReferenceIdeal.Hand.arr12 m' c).trans ?_),
      ((h.1 c).1 13).trans ((Cert.ReferenceIdeal.Hand.arr13 m' c).trans ?_),
      ((h.1 c).1 14).trans ((Cert.ReferenceIdeal.Hand.arr14 m' c).trans ?_),
      ((h.1 c).1 15).trans ((Cert.ReferenceIdeal.Hand.arr15 m' c).trans ?_),
      ((h.1 c).1 16).trans ((Cert.ReferenceIdeal.Hand.arr16 m' c).trans ?_),
      ((h.1 c).1 17).trans ((Cert.ReferenceIdeal.Hand.arr17 m' c).trans ?_), h.2 c⟩
    · rw [e0, e1, e2, e3, e4, e5, e6, e7, e8, e9, e10]
    · rw [e0, e1, e2, e3, e4, e5, e6, e7, e8, e9, e10]
    · rw [e0, e2, e3, e4, e5, e6, e7, e8, e9, e10]
    · rw [e0, e2, e3, e4, e5, e6, e7, e8, e9, e10]
    · rw [e0, e2, e3, e4, e5, e6, e7, e8, e9, e10]
    · rw [e0, e2, e3, e4, e5, e6, e7, e8, e9, e10]
    · rw [e0, e2, e3, e4, e5, e6, e7, e8, e9, e10]

/-- Everything claimed. -/
theorem claim : Cert.Claim :=
  ⟨Cert.Kernel.Gen.facts, Cert.KernelIdeal.Gen.facts, Cert.ReferenceIdeal.Gen.facts,
    Cert.PatchKernel.Gen.facts, Cert.PatchKernelIdeal.Gen.facts, Cert.PatchReferenceIdeal.Gen.facts,
    Cert.GuideKernel.Gen.facts, Cert.GuideKernelIdeal.Gen.facts, Cert.GuideReferenceIdeal.Gen.facts,
    Cert.SolverKernel.Gen.facts, Cert.SolverKernelIdeal.Gen.facts, Cert.SolverReferenceIdeal.Gen.facts,
    Cert.RelKernel.Gen.facts, Cert.RelKernelIdeal.Gen.facts, Cert.RelReferenceIdeal.Gen.facts,
    frameKernel, frameKernelIdeal, fun m g _ => Cert.ReferenceIdeal.Gen.frame m g,
    fun m g _ => Cert.PatchKernel.Gen.frame m g, fun m g _ => Cert.PatchKernelIdeal.Gen.frame m g,
    fun m g _ => Cert.PatchReferenceIdeal.Gen.frame m g,
    fun m g _ => Cert.GuideKernel.Gen.frame m g, fun m g _ => Cert.GuideKernelIdeal.Gen.frame m g,
    Cert.GuideReferenceIdeal.Hand.frame,
    fun m g _ => Cert.SolverKernel.Gen.frame m g, fun m g _ => Cert.SolverKernelIdeal.Gen.frame m g,
    fun m g _ => Cert.SolverReferenceIdeal.Gen.frame m g,
    fun m g _ => Cert.RelKernel.Gen.frame m g, fun m g _ => Cert.RelKernelIdeal.Gen.frame m g,
    Cert.RelReferenceIdeal.Hand.frame,
    trivial, algebraic, trivial, algebraicPatch, trivial, algebraicGuide, trivial, algebraicSolver, trivial, algebraicRel⟩

end Cert.Proof

end
